-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1024x256 : Shape := ⟨3, ![32, 1024, 256]⟩
abbrev S256x256 : Shape := ⟨2, ![256, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S32x1024x256 .f32) (main_arg1 : FVec F S256x256 .f32) (main_arg2 : IVec S_ 32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S32x1024x256 : Shape := ⟨3, ![32, 1024, 256]⟩
abbrev S256x256 : Shape := ⟨2, ![256, 256]⟩
abbrev S_ : Shape := ⟨0, ![]⟩
abbrev S32768x256 : Shape := ⟨2, ![32768, 256]⟩
abbrev S32768x1 : Shape := ⟨2, ![32768, 1]⟩
abbrev S1x256 : Shape := ⟨2, ![1, 256]⟩
abbrev S1x128 : Shape := ⟨2, ![1, 128]⟩
abbrev S4x4096x256 : Shape := ⟨3, ![4, 4096, 256]⟩
abbrev S2x4096x256 : Shape := ⟨3, ![2, 4096, 256]⟩
abbrev S2x4096x1 : Shape := ⟨3, ![2, 4096, 1]⟩
abbrev S4x4 : Shape := ⟨2, ![4, 4]⟩
abbrev S2x4 : Shape := ⟨2, ![2, 4]⟩
abbrev S2 : Shape := ⟨1, ![2]⟩
abbrev S1x1 : Shape := ⟨2, ![1, 1]⟩
abbrev S1x1024x256 : Shape := ⟨3, ![1, 1024, 256]⟩
abbrev S1024x256 : Shape := ⟨2, ![1024, 256]⟩
abbrev S1 : Shape := ⟨1, ![1]⟩
abbrev S4096x1 : Shape := ⟨2, ![4096, 1]⟩
abbrev S1x4096x1 : Shape := ⟨3, ![1, 4096, 1]⟩
abbrev S256 : Shape := ⟨1, ![256]⟩
abbrev S1x2048x256 : Shape := ⟨3, ![1, 2048, 256]⟩
abbrev S2048x256 : Shape := ⟨2, ![2048, 256]⟩
abbrev S2048 : Shape := ⟨1, ![2048]⟩
abbrev S2048x1 : Shape := ⟨2, ![2048, 1]⟩
abbrev S1x2048x1 : Shape := ⟨3, ![1, 2048, 1]⟩
abbrev S1x2048 : Shape := ⟨2, ![1, 2048]⟩
abbrev S1x1x1 : Shape := ⟨3, ![1, 1, 1]⟩
abbrev S1x1x256 : Shape := ⟨3, ![1, 1, 256]⟩
abbrev S32x1024 : Shape := ⟨2, ![32, 1024]⟩

abbrev nBuf : Space → Nat
  | .hbm => 16
  | .vmem => 12
  | .smem => 0
  | _ => 0

abbrev bufTy : (tb : Table) → Fin (tcTables nBuf tb) → BufTy
  | .hbm, ⟨0, _⟩ => ⟨S32x1024x256, .f32⟩
  | .hbm, ⟨1, _⟩ => ⟨S256x256, .f32⟩
  | .hbm, ⟨2, _⟩ => ⟨S_, .i32⟩
  | .hbm, ⟨3, _⟩ => ⟨S32768x256, .f32⟩
  | .hbm, ⟨4, _⟩ => ⟨S256x256, .f32⟩
  | .hbm, ⟨5, _⟩ => ⟨S32768x256, .f32⟩
  | .hbm, ⟨6, _⟩ => ⟨S32768x256, .f32⟩
  | .hbm, ⟨7, _⟩ => ⟨S32768x1, .i32⟩
  | .hbm, ⟨8, _⟩ => ⟨S1x256, .f32⟩
  | .hbm, ⟨9, _⟩ => ⟨S1x128, .f32⟩
  | .hbm, ⟨10, _⟩ => ⟨S1x1, .f32⟩
  | .hbm, ⟨11, _⟩ => ⟨S1x1, .f32⟩
  | .hbm, ⟨12, _⟩ => ⟨S32x1024x256, .f32⟩
  | .hbm, ⟨13, _⟩ => ⟨S_, .f32⟩
  | .hbm, ⟨14, _⟩ => ⟨S_, .f32⟩
  | .hbm, ⟨15, _⟩ => ⟨S32x1024, .i32⟩
  | .local _ .vmem, ⟨0, _⟩ => ⟨S256x256, .f32⟩
  | .local _ .vmem, ⟨1, _⟩ => ⟨S256x256, .f32⟩
  | .local _ .vmem, ⟨2, _⟩ => ⟨S4x4096x256, .f32⟩
  | .local _ .vmem, ⟨3, _⟩ => ⟨S2x4096x256, .f32⟩
  | .local _ .vmem, ⟨4, _⟩ => ⟨S2x4096x256, .f32⟩
  | .local _ .vmem, ⟨5, _⟩ => ⟨S2x4096x1, .i32⟩
  | .local _ .vmem, ⟨6, _⟩ => ⟨S1x256, .f32⟩
  | .local _ .vmem, ⟨7, _⟩ => ⟨S1x128, .f32⟩
  | .local _ .vmem, ⟨8, _⟩ => ⟨S1x256, .f32⟩
  | .local _ .vmem, ⟨9, _⟩ => ⟨S1x128, .f32⟩
  | .local _ .vmem, ⟨10, _⟩ => ⟨S1x1, .f32⟩
  | .local _ .vmem, ⟨11, _⟩ => ⟨S1x1, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem1_0 : DmaSem sig := 1
abbrev cc1_sem0_0 : DmaSem sig := 38
abbrev cc1_sem1_0 : DmaSem sig := 39
abbrev cc1_sem2_0 : DmaSem sig := 40
abbrev cc1_sem3_0 : DmaSem sig := 41

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32_1 : BitVec 32 := 4#32
  let v5 : BitVec 32 := Scalar.addi arg0 c4_i32_1
  let c1_i32 : BitVec 32 := 1#32
  let v6 : BitVec 32 := Scalar.subi v5 c1_i32
  let c8_i32 : BitVec 32 := 8#32
  let v7 : BitVec 1 := Scalar.cmpi .slt v6 c8_i32
  let v8 : BitVec 32 := Scalar.extui v7
  let c0_i32_2 : BitVec 32 := 0#32
  let v9 : BitVec 1 := Scalar.cmpi .ne v8 c0_i32_2
  v9

def k0_off1 (i : grid0.Coords) : Fin 2 → Nat :=
  let arg0 : BitVec 32 := BitVec.ofNat 32 (i 0).val
  let c4_i32_136 : BitVec 32 := 4#32
  let v240 : BitVec 32 := Scalar.addi arg0 c4_i32_136
  let c1_i32_137 : BitVec 32 := 1#32
  let v241 : BitVec 32 := Scalar.subi v240 c1_i32_137
  let c4_i32_138 : BitVec 32 := 4#32
  let v242 : BitVec 32 := Scalar.remsi v241 c4_i32_138
  let c0_i32_147 : BitVec 32 := 0#32
  ![v242.toNat, 0]
def k0_off2 (i : grid0.Coords) : Fin 3 → Nat :=
  let arg0 : BitVec 32 := BitVec.ofNat 32 (i 0).val
  let c4_i32_136 : BitVec 32 := 4#32
  let v240 : BitVec 32 := Scalar.addi arg0 c4_i32_136
  let c1_i32_137 : BitVec 32 := 1#32
  let v241 : BitVec 32 := Scalar.subi v240 c1_i32_137
  let c4_i32_138 : BitVec 32 := 4#32
  let v242 : BitVec 32 := Scalar.remsi v241 c4_i32_138
  let c0_i32_148 : BitVec 32 := 0#32
  let c0_i32_149 : BitVec 32 := 0#32
  ![v242.toNat, 0, 0]
def k0_off3 (i : grid0.Coords) (c0_i32_140 : BitVec 32) : Fin 2 → Nat :=
  let arg0 : BitVec 32 := BitVec.ofNat 32 (i 0).val
  let c4_i32_134 : BitVec 32 := 4#32
  let v238 : BitVec 32 := Scalar.addi arg0 c4_i32_134
  let c1_i32_135 : BitVec 32 := 1#32
  let v239 : BitVec 32 := Scalar.subi v238 c1_i32_135
  let c4096_i32_139 : BitVec 32 := 4096#32
  let v243 : BitVec 32 := Scalar.muli v239 c4096_i32_139
  let v244 : BitVec 32 := Scalar.addi v243 c0_i32_140
  let c0_i32_150 : BitVec 32 := 0#32
  ![v244.toNat, 0]
def k0_off4 (i : grid0.Coords) : Fin 2 → Nat :=
  let arg0 : BitVec 32 := BitVec.ofNat 32 (i 0).val
  let c4_i32_136 : BitVec 32 := 4#32
  let v240 : BitVec 32 := Scalar.addi arg0 c4_i32_136
  let c1_i32_137 : BitVec 32 := 1#32
  let v241 : BitVec 32 := Scalar.subi v240 c1_i32_137
  let c4_i32_138 : BitVec 32 := 4#32
  let v242 : BitVec 32 := Scalar.remsi v241 c4_i32_138
  let c1_i32_151 : BitVec 32 := 1#32
  ![v242.toNat, 1]
def k0_off5 (i : grid0.Coords) : Fin 3 → Nat :=
  let arg0 : BitVec 32 := BitVec.ofNat 32 (i 0).val
  let c4_i32_136 : BitVec 32 := 4#32
  let v240 : BitVec 32 := Scalar.addi arg0 c4_i32_136
  let c1_i32_137 : BitVec 32 := 1#32
  let v241 : BitVec 32 := Scalar.subi v240 c1_i32_137
  let c4_i32_138 : BitVec 32 := 4#32
  let v242 : BitVec 32 := Scalar.remsi v241 c4_i32_138
  let c1024_i32_152 : BitVec 32 := 1024#32
  let c0_i32_153 : BitVec 32 := 0#32
  ![v242.toNat, 1024, 0]
def k0_off6 (i : grid0.Coords) : Fin 2 → Nat :=
  let arg0 : BitVec 32 := BitVec.ofNat 32 (i 0).val
  let c4_i32_136 : BitVec 32 := 4#32
  let v240 : BitVec 32 := Scalar.addi arg0 c4_i32_136
  let c1_i32_137 : BitVec 32 := 1#32
  let v241 : BitVec 32 := Scalar.subi v240 c1_i32_137
  let c4_i32_138 : BitVec 32 := 4#32
  let v242 : BitVec 32 := Scalar.remsi v241 c4_i32_138
  let c2_i32_155 : BitVec 32 := 2#32
  ![v242.toNat, 2]
def k0_off7 (i : grid0.Coords) : Fin 3 → Nat :=
  let arg0 : BitVec 32 := BitVec.ofNat 32 (i 0).val
  let c4_i32_136 : BitVec 32 := 4#32
  let v240 : BitVec 32 := Scalar.addi arg0 c4_i32_136
  let c1_i32_137 : BitVec 32 := 1#32
  let v241 : BitVec 32 := Scalar.subi v240 c1_i32_137
  let c4_i32_138 : BitVec 32 := 4#32
  let v242 : BitVec 32 := Scalar.remsi v241 c4_i32_138
  let c2048_i32_156 : BitVec 32 := 2048#32
  let c0_i32_157 : BitVec 32 := 0#32
  ![v242.toNat, 2048, 0]
def k0_off8 (i : grid0.Coords) : Fin 2 → Nat :=
  let arg0 : BitVec 32 := BitVec.ofNat 32 (i 0).val
  let c4_i32_136 : BitVec 32 := 4#32
  let v240 : BitVec 32 := Scalar.addi arg0 c4_i32_136
  let c1_i32_137 : BitVec 32 := 1#32
  let v241 : BitVec 32 := Scalar.subi v240 c1_i32_137
  let c4_i32_138 : BitVec 32 := 4#32
  let v242 : BitVec 32 := Scalar.remsi v241 c4_i32_138
  let c3_i32_159 : BitVec 32 := 3#32
  ![v242.toNat, 3]
def k0_off9 (i : grid0.Coords) : Fin 3 → Nat :=
  let arg0 : BitVec 32 := BitVec.ofNat 32 (i 0).val
  let c4_i32_136 : BitVec 32 := 4#32
  let v240 : BitVec 32 := Scalar.addi arg0 c4_i32_136
  let c1_i32_137 : BitVec 32 := 1#32
  let v241 : BitVec 32 := Scalar.subi v240 c1_i32_137
  let c4_i32_138 : BitVec 32 := 4#32
  let v242 : BitVec 32 := Scalar.remsi v241 c4_i32_138
  let c3072_i32_160 : BitVec 32 := 3072#32
  let c0_i32_161 : BitVec 32 := 0#32
  ![v242.toNat, 3072, 0]
def k0_cond3 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_off10 (i : grid0.Coords) : Fin 2 → Nat :=
  let arg0 : BitVec 32 := BitVec.ofNat 32 (i 0).val
  let c2_i32 : BitVec 32 := 2#32
  let v0 : BitVec 32 := Scalar.remsi arg0 c2_i32
  let c0_i32_143 : BitVec 32 := 0#32
  ![v0.toNat, 0]
def k0_off11 (i : grid0.Coords) (c0_i32_136 : BitVec 32) : Fin 2 → Nat :=
  let arg0 : BitVec 32 := BitVec.ofNat 32 (i 0).val
  let c2_i32_134 : BitVec 32 := 2#32
  let v238 : BitVec 32 := Scalar.subi arg0 c2_i32_134
  let c4096_i32_135 : BitVec 32 := 4096#32
  let v239 : BitVec 32 := Scalar.muli v238 c4096_i32_135
  let v240 : BitVec 32 := Scalar.addi v239 c0_i32_136
  let c0_i32_144 : BitVec 32 := 0#32
  ![v240.toNat, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let c0_i32_145 : BitVec 32 := 0#32
  let c0_i32_146 : BitVec 32 := 0#32
  ![v0.toNat, 0, 0]
def k0_off13 (i : grid0.Coords) : Fin 2 → Nat :=
  let arg0 : BitVec 32 := BitVec.ofNat 32 (i 0).val
  let c2_i32 : BitVec 32 := 2#32
  let v0 : BitVec 32 := Scalar.remsi arg0 c2_i32
  let c1_i32_147 : BitVec 32 := 1#32
  ![v0.toNat, 1]
def k0_off14 (i : grid0.Coords) : Fin 3 → Nat :=
  let arg0 : BitVec 32 := BitVec.ofNat 32 (i 0).val
  let c2_i32 : BitVec 32 := 2#32
  let v0 : BitVec 32 := Scalar.remsi arg0 c2_i32
  let c1024_i32_149 : BitVec 32 := 1024#32
  let c0_i32_150 : BitVec 32 := 0#32
  ![v0.toNat, 1024, 0]
def k0_off15 (i : grid0.Coords) : Fin 2 → Nat :=
  let arg0 : BitVec 32 := BitVec.ofNat 32 (i 0).val
  let c2_i32 : BitVec 32 := 2#32
  let v0 : BitVec 32 := Scalar.remsi arg0 c2_i32
  let c2_i32_151 : BitVec 32 := 2#32
  ![v0.toNat, 2]
def k0_off16 (i : grid0.Coords) : Fin 3 → Nat :=
  let arg0 : BitVec 32 := BitVec.ofNat 32 (i 0).val
  let c2_i32 : BitVec 32 := 2#32
  let v0 : BitVec 32 := Scalar.remsi arg0 c2_i32
  let c2048_i32_153 : BitVec 32 := 2048#32
  let c0_i32_154 : BitVec 32 := 0#32
  ![v0.toNat, 2048, 0]
def k0_off17 (i : grid0.Coords) : Fin 2 → Nat :=
  let arg0 : BitVec 32 := BitVec.ofNat 32 (i 0).val
  let c2_i32 : BitVec 32 := 2#32
  let v0 : BitVec 32 := Scalar.remsi arg0 c2_i32
  let c3_i32_155 : BitVec 32 := 3#32
  ![v0.toNat, 3]
def k0_off18 (i : grid0.Coords) : Fin 3 → Nat :=
  let arg0 : BitVec 32 := BitVec.ofNat 32 (i 0).val
  let c2_i32 : BitVec 32 := 2#32
  let v0 : BitVec 32 := Scalar.remsi arg0 c2_i32
  let c3072_i32_157 : BitVec 32 := 3072#32
  let c0_i32_158 : BitVec 32 := 0#32
  ![v0.toNat, 3072, 0]
def k0_off19 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off20 (i : grid0.Coords) : Fin 2 → Nat :=
  let arg0 : BitVec 32 := BitVec.ofNat 32 (i 0).val
  let c2_i32_184 : BitVec 32 := 2#32
  let v296 : BitVec 32 := Scalar.subi arg0 c2_i32_184
  let c4096_i32_185 : BitVec 32 := 4096#32
  let v297 : BitVec 32 := Scalar.muli v296 c4096_i32_185
  let c0_i32_186 : BitVec 32 := 0#32
  ![v297.toNat, 0]
def k0_off21 (i : grid0.Coords) : Fin 3 → Nat :=
  let arg0 : BitVec 32 := BitVec.ofNat 32 (i 0).val
  let c2_i32 : BitVec 32 := 2#32
  let v0 : BitVec 32 := Scalar.remsi arg0 c2_i32
  let c0_i32_187 : BitVec 32 := 0#32
  let c0_i32_188 : BitVec 32 := 0#32
  ![v0.toNat, 0, 0]
def k0_off22 (i : grid0.Coords) : Fin 2 → Nat :=
  let arg0 : BitVec 32 := BitVec.ofNat 32 (i 0).val
  let c4_i32 : BitVec 32 := 4#32
  let v1 : BitVec 32 := Scalar.remsi arg0 c4_i32
  let c0_i32_12 : BitVec 32 := 0#32
  ![v1.toNat, 0]
def k0_off23 (i : grid0.Coords) : Fin 3 → Nat :=
  let arg0 : BitVec 32 := BitVec.ofNat 32 (i 0).val
  let c4_i32 : BitVec 32 := 4#32
  let v1 : BitVec 32 := Scalar.remsi arg0 c4_i32
  let c0_i32_13 : BitVec 32 := 0#32
  let c0_i32_14 : BitVec 32 := 0#32
  ![v1.toNat, 0, 0]
def k0_off24 (i : grid0.Coords) (c0_i32_8 : BitVec 32) : Fin 2 → Nat :=
  let arg0 : BitVec 32 := BitVec.ofNat 32 (i 0).val
  let c4096_i32 : BitVec 32 := 4096#32
  let v21 : BitVec 32 := Scalar.muli arg0 c4096_i32
  let v22 : BitVec 32 := Scalar.addi v21 c0_i32_8
  let c0_i32_15 : BitVec 32 := 0#32
  ![v22.toNat, 0]
def k0_off25 (i : grid0.Coords) : Fin 2 → Nat :=
  let arg0 : BitVec 32 := BitVec.ofNat 32 (i 0).val
  let c4_i32 : BitVec 32 := 4#32
  let v1 : BitVec 32 := Scalar.remsi arg0 c4_i32
  let c1_i32_16 : BitVec 32 := 1#32
  ![v1.toNat, 1]
def k0_off26 (i : grid0.Coords) : Fin 3 → Nat :=
  let arg0 : BitVec 32 := BitVec.ofNat 32 (i 0).val
  let c4_i32 : BitVec 32 := 4#32
  let v1 : BitVec 32 := Scalar.remsi arg0 c4_i32
  let c1024_i32_17 : BitVec 32 := 1024#32
  let c0_i32_18 : BitVec 32 := 0#32
  ![v1.toNat, 1024, 0]
def k0_off27 (i : grid0.Coords) : Fin 3 → Nat :=
  let arg0 : BitVec 32 := BitVec.ofNat 32 (i 0).val
  let c4_i32 : BitVec 32 := 4#32
  let v1 : BitVec 32 := Scalar.remsi arg0 c4_i32
  let v39 : Index := Scalar.indexCast v1
  let c0_20 : Index := 0#32
  let c0_21 : Index := 0#32
  ![v39.toNat, 0, 0]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v71 : Index := Scalar.indexCast v0
  let c0_30 : Index := 0#32
  let c0_31 : Index := 0#32
  ![v71.toNat, 0, 0]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v80 : Index := Scalar.indexCast v0
  let c0_34 : Index := 0#32
  let c0_35 : Index := 0#32
  ![v80.toNat, 0, 0]
def k0_off30 (i : grid0.Coords) : Fin 2 → Nat :=
  let arg0 : BitVec 32 := BitVec.ofNat 32 (i 0).val
  let c2_i32 : BitVec 32 := 2#32
  let v0 : BitVec 32 := Scalar.remsi arg0 c2_i32
  let c0_i32_51 : BitVec 32 := 0#32
  ![v0.toNat, 0]
def k0_off31 (i : grid0.Coords) : Fin 3 → Nat :=
  let arg0 : BitVec 32 := BitVec.ofNat 32 (i 0).val
  let c2_i32 : BitVec 32 := 2#32
  let v0 : BitVec 32 := Scalar.remsi arg0 c2_i32
  let c0_i32_53 : BitVec 32 := 0#32
  let c0_i32_54 : BitVec 32 := 0#32
  ![v0.toNat, 0, 0]
def k0_off32 (i : grid0.Coords) : Fin 2 → Nat :=
  let arg0 : BitVec 32 := BitVec.ofNat 32 (i 0).val
  let c2_i32 : BitVec 32 := 2#32
  let v0 : BitVec 32 := Scalar.remsi arg0 c2_i32
  let c1_i32_55 : BitVec 32 := 1#32
  ![v0.toNat, 1]
def k0_off33 (i : grid0.Coords) : Fin 3 → Nat :=
  let arg0 : BitVec 32 := BitVec.ofNat 32 (i 0).val
  let c2_i32 : BitVec 32 := 2#32
  let v0 : BitVec 32 := Scalar.remsi arg0 c2_i32
  let c1024_i32_57 : BitVec 32 := 1024#32
  let c0_i32_58 : BitVec 32 := 0#32
  ![v0.toNat, 1024, 0]
def k0_off34 (i : grid0.Coords) : Fin 2 → Nat :=
  let arg0 : BitVec 32 := BitVec.ofNat 32 (i 0).val
  let c4_i32 : BitVec 32 := 4#32
  let v1 : BitVec 32 := Scalar.remsi arg0 c4_i32
  let c2_i32_71 : BitVec 32 := 2#32
  ![v1.toNat, 2]
def k0_off35 (i : grid0.Coords) : Fin 3 → Nat :=
  let arg0 : BitVec 32 := BitVec.ofNat 32 (i 0).val
  let c4_i32 : BitVec 32 := 4#32
  let v1 : BitVec 32 := Scalar.remsi arg0 c4_i32
  let c2048_i32_72 : BitVec 32 := 2048#32
  let c0_i32_73 : BitVec 32 := 0#32
  ![v1.toNat, 2048, 0]
def k0_off36 (i : grid0.Coords) : Fin 2 → Nat :=
  let arg0 : BitVec 32 := BitVec.ofNat 32 (i 0).val
  let c4_i32 : BitVec 32 := 4#32
  let v1 : BitVec 32 := Scalar.remsi arg0 c4_i32
  let c3_i32 : BitVec 32 := 3#32
  ![v1.toNat, 3]
def k0_off37 (i : grid0.Coords) : Fin 3 → Nat :=
  let arg0 : BitVec 32 := BitVec.ofNat 32 (i 0).val
  let c4_i32 : BitVec 32 := 4#32
  let v1 : BitVec 32 := Scalar.remsi arg0 c4_i32
  let c3072_i32_75 : BitVec 32 := 3072#32
  let c0_i32_76 : BitVec 32 := 0#32
  ![v1.toNat, 3072, 0]
def k0_off38 (i : grid0.Coords) : Fin 3 → Nat :=
  let arg0 : BitVec 32 := BitVec.ofNat 32 (i 0).val
  let c4_i32 : BitVec 32 := 4#32
  let v1 : BitVec 32 := Scalar.remsi arg0 c4_i32
  let v139 : Index := Scalar.indexCast v1
  let c2048 : Index := 2048#32
  let c0_78 : Index := 0#32
  ![v139.toNat, 2048, 0]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v171 : Index := Scalar.indexCast v0
  let c2048_88 : Index := 2048#32
  let c0_89 : Index := 0#32
  ![v171.toNat, 2048, 0]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v180 : Index := Scalar.indexCast v0
  let c2048_92 : Index := 2048#32
  let c0_93 : Index := 0#32
  ![v180.toNat, 2048, 0]
def k0_off41 (i : grid0.Coords) : Fin 2 → Nat :=
  let arg0 : BitVec 32 := BitVec.ofNat 32 (i 0).val
  let c2_i32 : BitVec 32 := 2#32
  let v0 : BitVec 32 := Scalar.remsi arg0 c2_i32
  let c2_i32_109 : BitVec 32 := 2#32
  ![v0.toNat, 2]
def k0_off42 (i : grid0.Coords) : Fin 3 → Nat :=
  let arg0 : BitVec 32 := BitVec.ofNat 32 (i 0).val
  let c2_i32 : BitVec 32 := 2#32
  let v0 : BitVec 32 := Scalar.remsi arg0 c2_i32
  let c2048_i32_111 : BitVec 32 := 2048#32
  let c0_i32_112 : BitVec 32 := 0#32
  ![v0.toNat, 2048, 0]
def k0_off43 (i : grid0.Coords) : Fin 2 → Nat :=
  let arg0 : BitVec 32 := BitVec.ofNat 32 (i 0).val
  let c2_i32 : BitVec 32 := 2#32
  let v0 : BitVec 32 := Scalar.remsi arg0 c2_i32
  let c3_i32_113 : BitVec 32 := 3#32
  ![v0.toNat, 3]
def k0_off44 (i : grid0.Coords) : Fin 3 → Nat :=
  let arg0 : BitVec 32 := BitVec.ofNat 32 (i 0).val
  let c2_i32 : BitVec 32 := 2#32
  let v0 : BitVec 32 := Scalar.remsi arg0 c2_i32
  let c3072_i32_115 : BitVec 32 := 3072#32
  let c0_i32_116 : BitVec 32 := 0#32
  ![v0.toNat, 3072, 0]
def k0_off45 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off46 (i : grid0.Coords) : Fin 2 → Nat :=
  let arg0 : BitVec 32 := BitVec.ofNat 32 (i 0).val
  let c4096_i32_129 : BitVec 32 := 4096#32
  let v229 : BitVec 32 := Scalar.muli arg0 c4096_i32_129
  let c0_i32_130 : BitVec 32 := 0#32
  ![v229.toNat, 0]
def k0_off47 (i : grid0.Coords) : Fin 3 → Nat :=
  let arg0 : BitVec 32 := BitVec.ofNat 32 (i 0).val
  let c2_i32 : BitVec 32 := 2#32
  let v0 : BitVec 32 := Scalar.remsi arg0 c2_i32
  let c0_i32_131 : BitVec 32 := 0#32
  let c0_i32_132 : BitVec 32 := 0#32
  ![v0.toNat, 0, 0]
def k0_cond4 (i : grid0.Coords) : BitVec 1 :=
  let arg0 : BitVec 32 := BitVec.ofNat 32 (i 0).val
  let c7_i32 : BitVec 32 := 7#32
  let v235 : BitVec 1 := Scalar.cmpi .eq arg0 c7_i32
  let v236 : BitVec 32 := Scalar.extui v235
  let c0_i32_133 : BitVec 32 := 0#32
  let v237 : BitVec 1 := Scalar.cmpi .ne v236 c0_i32_133
  v237

def k0_off48 (i : grid0.Coords) : Fin 2 → Nat :=
  let c1_i32_135 : BitVec 32 := 1#32
  let arg0 : BitVec 32 := BitVec.ofNat 32 (i 0).val
  let c2_i32 : BitVec 32 := 2#32
  let v0 : BitVec 32 := Scalar.remsi arg0 c2_i32
  let v239 : BitVec 32 := Scalar.subi c1_i32_135 v0
  let c0_i32_144 : BitVec 32 := 0#32
  ![v239.toNat, 0]
def k0_off49 (i : grid0.Coords) (c0_i32_137 : BitVec 32) : Fin 2 → Nat :=
  let arg0 : BitVec 32 := BitVec.ofNat 32 (i 0).val
  let c1_i32_134 : BitVec 32 := 1#32
  let v238 : BitVec 32 := Scalar.subi arg0 c1_i32_134
  let c4096_i32_136 : BitVec 32 := 4096#32
  let v240 : BitVec 32 := Scalar.muli v238 c4096_i32_136
  let v241 : BitVec 32 := Scalar.addi v240 c0_i32_137
  let c0_i32_145 : BitVec 32 := 0#32
  ![v241.toNat, 0]
def k0_off50 (i : grid0.Coords) : Fin 3 → Nat :=
  let c1_i32_135 : BitVec 32 := 1#32
  let arg0 : BitVec 32 := BitVec.ofNat 32 (i 0).val
  let c2_i32 : BitVec 32 := 2#32
  let v0 : BitVec 32 := Scalar.remsi arg0 c2_i32
  let v239 : BitVec 32 := Scalar.subi c1_i32_135 v0
  let c0_i32_146 : BitVec 32 := 0#32
  let c0_i32_147 : BitVec 32 := 0#32
  ![v239.toNat, 0, 0]
def k0_off51 (i : grid0.Coords) : Fin 2 → Nat :=
  let c1_i32_135 : BitVec 32 := 1#32
  let arg0 : BitVec 32 := BitVec.ofNat 32 (i 0).val
  let c2_i32 : BitVec 32 := 2#32
  let v0 : BitVec 32 := Scalar.remsi arg0 c2_i32
  let v239 : BitVec 32 := Scalar.subi c1_i32_135 v0
  let c1_i32_148 : BitVec 32 := 1#32
  ![v239.toNat, 1]
def k0_off52 (i : grid0.Coords) : Fin 3 → Nat :=
  let c1_i32_135 : BitVec 32 := 1#32
  let arg0 : BitVec 32 := BitVec.ofNat 32 (i 0).val
  let c2_i32 : BitVec 32 := 2#32
  let v0 : BitVec 32 := Scalar.remsi arg0 c2_i32
  let v239 : BitVec 32 := Scalar.subi c1_i32_135 v0
  let c1024_i32_150 : BitVec 32 := 1024#32
  let c0_i32_151 : BitVec 32 := 0#32
  ![v239.toNat, 1024, 0]
def k0_off53 (i : grid0.Coords) : Fin 2 → Nat :=
  let c1_i32_135 : BitVec 32 := 1#32
  let arg0 : BitVec 32 := BitVec.ofNat 32 (i 0).val
  let c2_i32 : BitVec 32 := 2#32
  let v0 : BitVec 32 := Scalar.remsi arg0 c2_i32
  let v239 : BitVec 32 := Scalar.subi c1_i32_135 v0
  let c2_i32_152 : BitVec 32 := 2#32
  ![v239.toNat, 2]
def k0_off54 (i : grid0.Coords) : Fin 3 → Nat :=
  let c1_i32_135 : BitVec 32 := 1#32
  let arg0 : BitVec 32 := BitVec.ofNat 32 (i 0).val
  let c2_i32 : BitVec 32 := 2#32
  let v0 : BitVec 32 := Scalar.remsi arg0 c2_i32
  let v239 : BitVec 32 := Scalar.subi c1_i32_135 v0
  let c2048_i32_154 : BitVec 32 := 2048#32
  let c0_i32_155 : BitVec 32 := 0#32
  ![v239.toNat, 2048, 0]
def k0_off55 (i : grid0.Coords) : Fin 2 → Nat :=
  let c1_i32_135 : BitVec 32 := 1#32
  let arg0 : BitVec 32 := BitVec.ofNat 32 (i 0).val
  let c2_i32 : BitVec 32 := 2#32
  let v0 : BitVec 32 := Scalar.remsi arg0 c2_i32
  let v239 : BitVec 32 := Scalar.subi c1_i32_135 v0
  let c3_i32_156 : BitVec 32 := 3#32
  ![v239.toNat, 3]
def k0_off56 (i : grid0.Coords) : Fin 3 → Nat :=
  let c1_i32_135 : BitVec 32 := 1#32
  let arg0 : BitVec 32 := BitVec.ofNat 32 (i 0).val
  let c2_i32 : BitVec 32 := 2#32
  let v0 : BitVec 32 := Scalar.remsi arg0 c2_i32
  let v239 : BitVec 32 := Scalar.subi c1_i32_135 v0
  let c3072_i32_158 : BitVec 32 := 3072#32
  let c0_i32_159 : BitVec 32 := 0#32
  ![v239.toNat, 3072, 0]
def k0_off57 (i : grid0.Coords) : Fin 1 → Nat :=
  let c1_i32_189 : BitVec 32 := 1#32
  let arg0 : BitVec 32 := BitVec.ofNat 32 (i 0).val
  let c2_i32 : BitVec 32 := 2#32
  let v0 : BitVec 32 := Scalar.remsi arg0 c2_i32
  let v301 : BitVec 32 := Scalar.subi c1_i32_189 v0
  ![v301.toNat]
def k0_off58 (i : grid0.Coords) : Fin 2 → Nat :=
  let arg0 : BitVec 32 := BitVec.ofNat 32 (i 0).val
  let c1_i32_187 : BitVec 32 := 1#32
  let v299 : BitVec 32 := Scalar.subi arg0 c1_i32_187
  let c4096_i32_188 : BitVec 32 := 4096#32
  let v300 : BitVec 32 := Scalar.muli v299 c4096_i32_188
  let c0_i32_190 : BitVec 32 := 0#32
  ![v300.toNat, 0]
def k0_off59 (i : grid0.Coords) : Fin 3 → Nat :=
  let c1_i32_186 : BitVec 32 := 1#32
  let arg0 : BitVec 32 := BitVec.ofNat 32 (i 0).val
  let c2_i32 : BitVec 32 := 2#32
  let v0 : BitVec 32 := Scalar.remsi arg0 c2_i32
  let v298 : BitVec 32 := Scalar.subi c1_i32_186 v0
  let c0_i32_191 : BitVec 32 := 0#32
  let c0_i32_192 : BitVec 32 := 0#32
  ![v298.toNat, 0, 0]
def k0_off60 (i : grid0.Coords) : Fin 2 → Nat :=
  let arg0 : BitVec 32 := BitVec.ofNat 32 (i 0).val
  let c2_i32 : BitVec 32 := 2#32
  let v0 : BitVec 32 := Scalar.remsi arg0 c2_i32
  let c0_i32_201 : BitVec 32 := 0#32
  ![v0.toNat, 0]
def k0_off61 (i : grid0.Coords) (c0_i32_194 : BitVec 32) : Fin 2 → Nat :=
  let arg0 : BitVec 32 := BitVec.ofNat 32 (i 0).val
  let c4096_i32_193 : BitVec 32 := 4096#32
  let v307 : BitVec 32 := Scalar.muli arg0 c4096_i32_193
  let v308 : BitVec 32 := Scalar.addi v307 c0_i32_194
  let c0_i32_202 : BitVec 32 := 0#32
  ![v308.toNat, 0]
def k0_off62 (i : grid0.Coords) : Fin 3 → Nat :=
  let arg0 : BitVec 32 := BitVec.ofNat 32 (i 0).val
  let c2_i32 : BitVec 32 := 2#32
  let v0 : BitVec 32 := Scalar.remsi arg0 c2_i32
  let c0_i32_203 : BitVec 32 := 0#32
  let c0_i32_204 : BitVec 32 := 0#32
  ![v0.toNat, 0, 0]
def k0_off63 (i : grid0.Coords) : Fin 2 → Nat :=
  let arg0 : BitVec 32 := BitVec.ofNat 32 (i 0).val
  let c2_i32 : BitVec 32 := 2#32
  let v0 : BitVec 32 := Scalar.remsi arg0 c2_i32
  let c1_i32_205 : BitVec 32 := 1#32
  ![v0.toNat, 1]
def k0_off64 (i : grid0.Coords) : Fin 3 → Nat :=
  let arg0 : BitVec 32 := BitVec.ofNat 32 (i 0).val
  let c2_i32 : BitVec 32 := 2#32
  let v0 : BitVec 32 := Scalar.remsi arg0 c2_i32
  let c1024_i32_207 : BitVec 32 := 1024#32
  let c0_i32_208 : BitVec 32 := 0#32
  ![v0.toNat, 1024, 0]
def k0_off65 (i : grid0.Coords) : Fin 2 → Nat :=
  let arg0 : BitVec 32 := BitVec.ofNat 32 (i 0).val
  let c2_i32 : BitVec 32 := 2#32
  let v0 : BitVec 32 := Scalar.remsi arg0 c2_i32
  let c2_i32_209 : BitVec 32 := 2#32
  ![v0.toNat, 2]
def k0_off66 (i : grid0.Coords) : Fin 3 → Nat :=
  let arg0 : BitVec 32 := BitVec.ofNat 32 (i 0).val
  let c2_i32 : BitVec 32 := 2#32
  let v0 : BitVec 32 := Scalar.remsi arg0 c2_i32
  let c2048_i32_211 : BitVec 32 := 2048#32
  let c0_i32_212 : BitVec 32 := 0#32
  ![v0.toNat, 2048, 0]
def k0_off67 (i : grid0.Coords) : Fin 2 → Nat :=
  let arg0 : BitVec 32 := BitVec.ofNat 32 (i 0).val
  let c2_i32 : BitVec 32 := 2#32
  let v0 : BitVec 32 := Scalar.remsi arg0 c2_i32
  let c3_i32_213 : BitVec 32 := 3#32
  ![v0.toNat, 3]
def k0_off68 (i : grid0.Coords) : Fin 3 → Nat :=
  let arg0 : BitVec 32 := BitVec.ofNat 32 (i 0).val
  let c2_i32 : BitVec 32 := 2#32
  let v0 : BitVec 32 := Scalar.remsi arg0 c2_i32
  let c3072_i32_215 : BitVec 32 := 3072#32
  let c0_i32_216 : BitVec 32 := 0#32
  ![v0.toNat, 3072, 0]
def k0_off69 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off70 (i : grid0.Coords) : Fin 2 → Nat :=
  let arg0 : BitVec 32 := BitVec.ofNat 32 (i 0).val
  let c4096_i32_241 : BitVec 32 := 4096#32
  let v363 : BitVec 32 := Scalar.muli arg0 c4096_i32_241
  let c0_i32_242 : BitVec 32 := 0#32
  ![v363.toNat, 0]
def k0_off71 (i : grid0.Coords) : Fin 3 → Nat :=
  let arg0 : BitVec 32 := BitVec.ofNat 32 (i 0).val
  let c2_i32 : BitVec 32 := 2#32
  let v0 : BitVec 32 := Scalar.remsi arg0 c2_i32
  let c0_i32_243 : BitVec 32 := 0#32
  let c0_i32_244 : BitVec 32 := 0#32
  ![v0.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := .none

abbrev stage1_0 : Fin 1 → Memref sig .tc .vmem S1x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S32x1024x256 : Shape := ⟨3, ![32, 1024, 256]⟩
abbrev S256x256 : Shape := ⟨2, ![256, 256]⟩
abbrev S_ : Shape := ⟨0, ![]⟩
abbrev S32768x256 : Shape := ⟨2, ![32768, 256]⟩
abbrev S32768 : Shape := ⟨1, ![32768]⟩
abbrev S32768x1 : Shape := ⟨2, ![32768, 1]⟩
abbrev S256 : Shape := ⟨1, ![256]⟩
abbrev S1x256 : Shape := ⟨2, ![1, 256]⟩
abbrev S32x1024 : Shape := ⟨2, ![32, 1024]⟩
abbrev S32x1024x1 : Shape := ⟨3, ![32, 1024, 1]⟩
abbrev S1 : Shape := ⟨1, ![1]⟩
abbrev S1x1x1 : Shape := ⟨3, ![1, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S256x256, .f32⟩
  | .hbm, ⟨2, _⟩ => ⟨S_, .i32⟩
  | .hbm, ⟨3, _⟩ => ⟨S32768x256, .f32⟩
  | .hbm, ⟨4, _⟩ => ⟨S32768x256, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S32768x256, .f32⟩
  | .hbm, ⟨9, _⟩ => ⟨S_, .f32⟩
  | .hbm, ⟨10, _⟩ => ⟨S32768x256, .f32⟩
  | .hbm, ⟨11, _⟩ => ⟨S32768x256, .f32⟩
  | .hbm, ⟨12, _⟩ => ⟨S32768x256, .f32⟩
  | .hbm, ⟨13, _⟩ => ⟨S32768x256, .f32⟩
  | .hbm, ⟨14, _⟩ => ⟨S256x256, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S32768x256, .f32⟩
  | .hbm, ⟨19, _⟩ => ⟨S32768x256, .f32⟩
  | .hbm, ⟨20, _⟩ => ⟨S32768x256, .i32⟩
  | .hbm, ⟨21, _⟩ => ⟨S_, .f32⟩
  | .hbm, ⟨22, _⟩ => ⟨S_, .i32⟩
  | .hbm, ⟨23, _⟩ => ⟨S32768, .f32⟩
  | .hbm, ⟨24, _⟩ => ⟨S32768, .i32⟩
  | .hbm, ⟨25, _⟩ => ⟨S32768x1, .i32⟩
  | .hbm, ⟨26, _⟩ => ⟨S1x256, .i32⟩
  | .hbm, ⟨27, _⟩ => ⟨S32768x256, .i32⟩
  | .hbm, ⟨28, _⟩ => ⟨S32768x256, .i32⟩
  | .hbm, ⟨29, _⟩ => ⟨S32768x256, .i1⟩
  | .hbm, ⟨30, _⟩ => ⟨S32768x256, .f32⟩
  | .hbm, ⟨31, _⟩ => ⟨S32x1024, .i32⟩
  | .hbm, ⟨32, _⟩ => ⟨S256x256, .f32⟩
  | .hbm, ⟨33, _⟩ => ⟨S_, .i32⟩
  | .hbm, ⟨34, _⟩ => ⟨S32x1024, .i32⟩
  | .hbm, ⟨35, _⟩ => ⟨S32x1024, .i1⟩
  | .hbm, ⟨36, _⟩ => ⟨S_, .i32⟩
  | .hbm, ⟨37, _⟩ => ⟨S32x1024, .i32⟩
  | .hbm, ⟨38, _⟩ => ⟨S32x1024, .i32⟩
  | .hbm, ⟨39, _⟩ => ⟨S32x1024, .i32⟩
  | .hbm, ⟨40, _⟩ => ⟨S32x1024x1, .i32⟩
  | .hbm, ⟨41, _⟩ => ⟨S1, .i32⟩
  | .hbm, ⟨42, _⟩ => ⟨S_, .i32⟩
  | .hbm, ⟨43, _⟩ => ⟨S32x1024x1, .i32⟩
  | .hbm, ⟨44, _⟩ => ⟨S32x1024x1, .i1⟩
  | .hbm, ⟨45, _⟩ => ⟨S1x1x1, .i32⟩
  | .hbm, ⟨46, _⟩ => ⟨S32x1024x1, .i32⟩
  | .hbm, ⟨47, _⟩ => ⟨S32x1024x1, .i1⟩
  | .hbm, ⟨48, _⟩ => ⟨S32x1024x1, .i1⟩
  | .hbm, ⟨49, _⟩ => ⟨S_, .i1⟩
  | .hbm, ⟨50, _⟩ => ⟨S32x1024, .i1⟩
  | .hbm, ⟨51, _⟩ => ⟨S32x1024x256, .f32⟩
  | .hbm, ⟨52, _⟩ => ⟨S32x1024x256, .i1⟩
  | .hbm, ⟨53, _⟩ => ⟨S_, .f32⟩
  | .hbm, ⟨54, _⟩ => ⟨S32x1024x256, .f32⟩
  | .hbm, ⟨55, _⟩ => ⟨S32x1024x256, .f32⟩
  | .hbm, ⟨56, _⟩ => ⟨S32x1024x256, .f32⟩
  | .hbm, ⟨57, _⟩ => ⟨S32x1024x256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S32x1024x256, .f32⟩
  | .hbm, ⟨63, _⟩ => ⟨S32x1024x256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S32x1024x256, .f32⟩
  | .hbm, ⟨72, _⟩ => ⟨S32x1024x256, .f32⟩
  | .hbm, ⟨73, _⟩ => ⟨S_, .f32⟩
  | .hbm, ⟨74, _⟩ => ⟨S256, .f32⟩
  | .hbm, ⟨75, _⟩ => ⟨S_, .f32⟩
  | .hbm, ⟨76, _⟩ => ⟨S256, .f32⟩
  | .hbm, ⟨77, _⟩ => ⟨S256, .f32⟩
  | .hbm, ⟨78, _⟩ => ⟨S_, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v14 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_2 : Ref sig .tc := ⟨.hbm, 58, rfl⟩
abbrev main_v21 : Ref sig .tc := ⟨.hbm, 59, rfl⟩
abbrev main_cst_3 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_4 : Ref sig .tc := ⟨.hbm, 64, rfl⟩
abbrev main_v25 : Ref sig .tc := ⟨.hbm, 65, rfl⟩
abbrev main_cst_5 : Ref sig .tc := ⟨.hbm, 66, rfl⟩
abbrev main_v26 : Ref sig .tc := ⟨.hbm, 67, rfl⟩
abbrev main_cst_6 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_7 : Ref sig .tc := ⟨.hbm, 73, rfl⟩
abbrev main_v31 : Ref sig .tc := ⟨.hbm, 74, rfl⟩
abbrev main_cst_8 : Ref sig .tc := ⟨.hbm, 75, rfl⟩
abbrev main_v32 : Ref sig .tc := ⟨.hbm, 76, rfl⟩
abbrev main_v33 : Ref sig .tc := ⟨.hbm, 77, rfl⟩
abbrev main_cst_9 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_10 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩

abbrev nD : Nat := 1
abbrev τ : Topo := Topo.v7x

variable {F : FTy → Type} [FloatOps F]
-- ==== Proof.Ideal.Names.lean ====
/-
  Names for the slices the first kernel takes. The kernel walks eight tiles of 4096 rows; it keeps four input slots and
  two slots per output, each cut into four chunks of 1024 rows that move by their own copy. Here a chunk of an array, a
  chunk of a slot and a copy's semaphore get a name indexed by tile or slot and chunk, and the offsets the
  kernel computes at a grid point are stated in closed form, so that its slices are those names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.Tactic

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.Sem

/-! ## Whole buffers -/

abbrev hX : Memref sig .tc .hbm S32768x256 .f32 := Memref.whole main_v0
abbrev hQ : Memref sig .tc .hbm S32768x256 .f32 := Memref.whole main_v2_0
abbrev hE : Memref sig .tc .hbm S32768x256 .f32 := Memref.whole main_v2_1
abbrev hI : Memref sig .tc .hbm S32768x1 .i32 := Memref.whole main_v2_2
abbrev hH : Memref sig .tc .hbm S1x256 .f32 := Memref.whole main_v2_3
abbrev hS : Memref sig .tc .hbm S1x128 .f32 := Memref.whole main_v2_4
abbrev bX : Memref sig .tc .vmem S4x4096x256 .f32 := Memref.whole cc0_scratch0
abbrev bQ : Memref sig .tc .vmem S2x4096x256 .f32 := Memref.whole cc0_scratch1
abbrev bE : Memref sig .tc .vmem S2x4096x256 .f32 := Memref.whole cc0_scratch2
abbrev bI : Memref sig .tc .vmem S2x4096x1 .i32 := Memref.whole cc0_scratch3
abbrev bH : Memref sig .tc .vmem S1x256 .f32 := Memref.whole cc0_scratch4
abbrev bS : Memref sig .tc .vmem S1x128 .f32 := Memref.whole cc0_scratch5

/-! ## Offsets of chunks, slots and cells -/

abbrev chOff (n : Fin 8) (k : Fin 4) : Fin 2 → Nat := ![4096 * n.val + 1024 * k.val, 0]
abbrev slOff {B : ℕ} (s : Fin B) (k : Fin 4) : Fin 3 → Nat := ![s.val, 1024 * k.val, 0]
abbrev ceOff {B : ℕ} (s : Fin B) (k : Fin 4) : Fin 2 → Nat := ![s.val, k.val]
abbrev ieOff (s : Fin 2) : Fin 1 → Nat := ![s.val]

theorem chOff_inb (n : Fin 8) (k : Fin 4) : ∀ a, chOff n k a + S1024x256.size a ≤ S32768x256.size a := by
  have := n.isLt; have := k.isLt; intro a; fin_cases a
  · show 4096 * n.val + 1024 * k.val + 1024 ≤ 32768; omega
  · show 0 + 256 ≤ 256; omega
theorem ichOff_inb (n : Fin 8) : ∀ a, chOff n 0 a + S4096x1.size a ≤ S32768x1.size a := by
  have := n.isLt; intro a; fin_cases a
  · show 4096 * n.val + 1024 * 0 + 4096 ≤ 32768; omega
  · show 0 + 1 ≤ 1; omega
theorem xslOff_inb (s k : Fin 4) : ∀ a, slOff s k a + S1x1024x256.size a ≤ S4x4096x256.size a := by
  have := s.isLt; have := k.isLt; intro a; fin_cases a
  · show s.val + 1 ≤ 4; omega
  · show 1024 * k.val + 1024 ≤ 4096; omega
  · show 0 + 256 ≤ 256; omega
theorem oslOff_inb (s : Fin 2) (k : Fin 4) : ∀ a, slOff s k a + S1x1024x256.size a ≤ S2x4096x256.size a := by
  have := s.isLt; have := k.isLt; intro a; fin_cases a
  · show s.val + 1 ≤ 2; omega
  · show 1024 * k.val + 1024 ≤ 4096; omega
  · show 0 + 256 ≤ 256; omega
theorem islOff_inb (s : Fin 2) : ∀ a, slOff s 0 a + S1x4096x1.size a ≤ S2x4096x1.size a := by
  have := s.isLt; intro a; fin_cases a
  · show s.val + 1 ≤ 2; omega
  · show 1024 * 0 + 4096 ≤ 4096; omega
  · show 0 + 1 ≤ 1; omega
theorem xceOff_inb (s k : Fin 4) : ∀ a, ceOff s k a + S1x1.size a ≤ S4x4.size a := by
  have := s.isLt; have := k.isLt; intro a; fin_cases a
  · show s.val + 1 ≤ 4; omega
  · show k.val + 1 ≤ 4; omega
theorem oceOff_inb (s : Fin 2) (k : Fin 4) : ∀ a, ceOff s k a + S1x1.size a ≤ S2x4.size a := by
  have := s.isLt; have := k.isLt; intro a; fin_cases a
  · show s.val + 1 ≤ 2; omega
  · show k.val + 1 ≤ 4; omega
theorem ieOff_inb (s : Fin 2) : ∀ a, ieOff s a + S1.size a ≤ S2.size a := by
  have := s.isLt; intro a; fin_cases a; show s.val + 1 ≤ 2; omega

/-! ## The names -/

/-- Chunk `k` of tile `n` of an array of 32768 rows. -/
abbrev chunkOf (M : Memref sig .tc .hbm S32768x256 .f32) (n : Fin 8) (k : Fin 4) : Memref sig .tc .hbm S1024x256 .f32 :=
  (M.slice (Rect.unit (s := S32768x256) (chOff n k) S1024x256.size (chOff_inb n k)) (fun _ => rfl))
/-- Chunk `k` of slot `s` of a two-slot output buffer. -/
abbrev oslOf (M : Memref sig .tc .vmem S2x4096x256 .f32) (s : Fin 2) (k : Fin 4) : Memref sig .tc .vmem S1024x256 .f32 :=
  (M.slice (Rect.unit (s := S2x4096x256) (slOff s k) S1x1024x256.size (oslOff_inb s k)) (fun _ => rfl)).squeeze S1024x256 squeezes_S1x1024x256_S1024x256
/-- A four-by-four or two-by-four semaphore array's cell. -/
abbrev oceOf (A : DmaSems sig S2x4) (s : Fin 2) (k : Fin 4) : DmaSems sig S_ :=
  (A.slice (Rect.unit (s := S2x4) (ceOff s k) S1x1.size (oceOff_inb s k))).squeeze S_ squeezes_S1x1_S_

def xch (n : Fin 8) (k : Fin 4) : Memref sig .tc .hbm S1024x256 .f32 := chunkOf hX n k
def qch (n : Fin 8) (k : Fin 4) : Memref sig .tc .hbm S1024x256 .f32 := chunkOf hQ n k
def ech (n : Fin 8) (k : Fin 4) : Memref sig .tc .hbm S1024x256 .f32 := chunkOf hE n k
def ich (n : Fin 8) : Memref sig .tc .hbm S4096x1 .i32 :=
  (hI.slice (Rect.unit (s := S32768x1) (chOff n 0) S4096x1.size (ichOff_inb n)) (fun _ => rfl))
def xsl (s k : Fin 4) : Memref sig .tc .vmem S1024x256 .f32 :=
  (bX.slice (Rect.unit (s := S4x4096x256) (slOff s k) S1x1024x256.size (xslOff_inb s k)) (fun _ => rfl)).squeeze S1024x256 squeezes_S1x1024x256_S1024x256
def qsl (s : Fin 2) (k : Fin 4) : Memref sig .tc .vmem S1024x256 .f32 := oslOf bQ s k
def esl (s : Fin 2) (k : Fin 4) : Memref sig .tc .vmem S1024x256 .f32 := oslOf bE s k
def isl (s : Fin 2) : Memref sig .tc .vmem S4096x1 .i32 :=
  (bI.slice (Rect.unit (s := S2x4096x1) (slOff s 0) S1x4096x1.size (islOff_inb s)) (fun _ => rfl)).squeeze S4096x1 squeezes_S1x4096x1_S4096x1
def csem (s k : Fin 4) : DmaSems sig S_ :=
  (cc0_scratch6.slice (Rect.unit (s := S4x4) (ceOff s k) S1x1.size (xceOff_inb s k))).squeeze S_ squeezes_S1x1_S_
def qsem (s : Fin 2) (k : Fin 4) : DmaSems sig S_ := oceOf cc0_scratch7 s k
def esem (s : Fin 2) (k : Fin 4) : DmaSems sig S_ := oceOf cc0_scratch8 s k
def isem (s : Fin 2) : DmaSems sig S_ := (cc0_scratch9.slice (Rect.unit (s := S2) (ieOff s) S1.size (ieOff_inb s))).squeeze S_ squeezes_S1_S_
def fsem (s : Fin 2) : DmaSems sig S_ := (cc0_scratch10.slice (Rect.unit (s := S2) (ieOff s) S1.size (ieOff_inb s))).squeeze S_ squeezes_S1_S_

/-! ## Offsets recognised as those of a chunk, a slot's chunk, a cell -/

/-- `off` is the offset of chunk `k` of tile `n`. -/
class ChOff (off : Fin 2 → Nat) (n : outParam (Fin 8)) (k : outParam (Fin 4)) : Prop where
  eq : off = chOff n k
/-- `off` is the offset of chunk `k` of slot `s` of `B`. -/
class SlOff (B : ℕ) (off : Fin 3 → Nat) (s : outParam (Fin B)) (k : outParam (Fin 4)) : Prop where
  eq : off = slOff s k
/-- `off` is the place of cell `(s, k)`. -/
class CeOff (B : ℕ) (off : Fin 2 → Nat) (s : outParam (Fin B)) (k : outParam (Fin 4)) : Prop where
  eq : off = ceOff s k
/-- `off` is the place of cell `s`. -/
class IeOff (off : Fin 1 → Nat) (s : outParam (Fin 2)) : Prop where
  eq : off = ieOff s

section Canon
variable {off1 : Fin 1 → Nat} {off2 : Fin 2 → Nat} {off3 : Fin 3 → Nat} {n : Fin 8} {k s : Fin 4} {p : Fin 2}

@[sl_canon] theorem xch_canon [e : ChOff off2 n k] (hh hs) : hX.slice (Rect.unit (s := S32768x256) off2 S1024x256.size hh) hs = xch n k :=
  Memref.slice_unit_congr _ e.eq _ _ _ (fun _ => rfl)
@[sl_canon] theorem qch_canon [e : ChOff off2 n k] (hh hs) : hQ.slice (Rect.unit (s := S32768x256) off2 S1024x256.size hh) hs = qch n k :=
  Memref.slice_unit_congr _ e.eq _ _ _ (fun _ => rfl)
@[sl_canon] theorem ech_canon [e : ChOff off2 n k] (hh hs) : hE.slice (Rect.unit (s := S32768x256) off2 S1024x256.size hh) hs = ech n k :=
  Memref.slice_unit_congr _ e.eq _ _ _ (fun _ => rfl)
@[sl_canon] theorem ich_canon [e : ChOff off2 n 0] (hh hs) : hI.slice (Rect.unit (s := S32768x1) off2 S4096x1.size hh) hs = ich n :=
  Memref.slice_unit_congr _ e.eq _ _ _ (fun _ => rfl)
@[sl_canon] theorem xsl_canon [e : SlOff 4 off3 s k] (hh hs) :
    (bX.slice (Rect.unit (s := S4x4096x256) off3 S1x1024x256.size hh) hs).squeeze S1024x256 squeezes_S1x1024x256_S1024x256 = xsl s k :=
  congrArg (fun M : Memref sig .tc .vmem S1x1024x256 .f32 => M.squeeze S1024x256 squeezes_S1x1024x256_S1024x256) (Memref.slice_unit_congr _ e.eq _ _ _ _)
@[sl_canon] theorem qsl_canon [e : SlOff 2 off3 p k] (hh hs) :
    (bQ.slice (Rect.unit (s := S2x4096x256) off3 S1x1024x256.size hh) hs).squeeze S1024x256 squeezes_S1x1024x256_S1024x256 = qsl p k :=
  congrArg (fun M : Memref sig .tc .vmem S1x1024x256 .f32 => M.squeeze S1024x256 squeezes_S1x1024x256_S1024x256) (Memref.slice_unit_congr _ e.eq _ _ _ _)
@[sl_canon] theorem esl_canon [e : SlOff 2 off3 p k] (hh hs) :
    (bE.slice (Rect.unit (s := S2x4096x256) off3 S1x1024x256.size hh) hs).squeeze S1024x256 squeezes_S1x1024x256_S1024x256 = esl p k :=
  congrArg (fun M : Memref sig .tc .vmem S1x1024x256 .f32 => M.squeeze S1024x256 squeezes_S1x1024x256_S1024x256) (Memref.slice_unit_congr _ e.eq _ _ _ _)
@[sl_canon] theorem isl_canon [e : SlOff 2 off3 p 0] (hh hs) :
    (bI.slice (Rect.unit (s := S2x4096x1) off3 S1x4096x1.size hh) hs).squeeze S4096x1 squeezes_S1x4096x1_S4096x1 = isl p :=
  congrArg (fun M : Memref sig .tc .vmem S1x4096x1 .i32 => M.squeeze S4096x1 squeezes_S1x4096x1_S4096x1) (Memref.slice_unit_congr _ e.eq _ _ _ _)
@[sl_canon] theorem csem_canon [e : CeOff 4 off2 s k] (hh) :
    (cc0_scratch6.slice (Rect.unit (s := S4x4) off2 S1x1.size hh)).squeeze S_ squeezes_S1x1_S_ = csem s k :=
  congrArg (fun A : DmaSems sig S1x1 => A.squeeze S_ squeezes_S1x1_S_) (SemArray.slice_unit_congr _ e.eq _ _)
@[sl_canon] theorem qsem_canon [e : CeOff 2 off2 p k] (hh) :
    (cc0_scratch7.slice (Rect.unit (s := S2x4) off2 S1x1.size hh)).squeeze S_ squeezes_S1x1_S_ = qsem p k :=
  congrArg (fun A : DmaSems sig S1x1 => A.squeeze S_ squeezes_S1x1_S_) (SemArray.slice_unit_congr _ e.eq _ _)
@[sl_canon] theorem esem_canon [e : CeOff 2 off2 p k] (hh) :
    (cc0_scratch8.slice (Rect.unit (s := S2x4) off2 S1x1.size hh)).squeeze S_ squeezes_S1x1_S_ = esem p k :=
  congrArg (fun A : DmaSems sig S1x1 => A.squeeze S_ squeezes_S1x1_S_) (SemArray.slice_unit_congr _ e.eq _ _)
@[sl_canon] theorem isem_canon [e : IeOff off1 p] (hh) :
    (cc0_scratch9.slice (Rect.unit (s := S2) off1 S1.size hh)).squeeze S_ squeezes_S1_S_ = isem p :=
  congrArg (fun A : DmaSems sig S1 => A.squeeze S_ squeezes_S1_S_) (SemArray.slice_unit_congr _ e.eq _ _)
@[sl_canon] theorem fsem_canon [e : IeOff off1 p] (hh) :
    (cc0_scratch10.slice (Rect.unit (s := S2) off1 S1.size hh)).squeeze S_ squeezes_S1_S_ = fsem p :=
  congrArg (fun A : DmaSems sig S1 => A.squeeze S_ squeezes_S1_S_) (SemArray.slice_unit_congr _ e.eq _ _)

end Canon

/-! ## The kernel's offsets at point `t` -/

section Offsets
variable (t : Fin grid0.N)

/-! The fetch of tile `t + 3`. -/

instance : CeOff 4 (k0_off1 (grid0.coords t)) (Ring.sl 4 (t.val + 3)) 0 := ⟨(by decide +kernel : ∀ t : Fin grid0.N, k0_off1 (grid0.coords t) = ceOff (Ring.sl 4 (t.val + 3)) 0) t⟩
instance : SlOff 4 (k0_off2 (grid0.coords t)) (Ring.sl 4 (t.val + 3)) 0 := ⟨(by decide +kernel : ∀ t : Fin grid0.N, k0_off2 (grid0.coords t) = slOff (Ring.sl 4 (t.val + 3)) 0) t⟩
instance [h : Fact (t.val + 3 < 8)] : ChOff (k0_off3 (grid0.coords t) 0#32) (Ring.bk 8 (t.val + 3)) 0 := ⟨(by decide +kernel : ∀ t : Fin grid0.N, t.val + 3 < 8 → k0_off3 (grid0.coords t) 0#32 = chOff (Ring.bk 8 (t.val + 3)) 0) t h.out⟩
instance : CeOff 4 (k0_off4 (grid0.coords t)) (Ring.sl 4 (t.val + 3)) 1 := ⟨(by decide +kernel : ∀ t : Fin grid0.N, k0_off4 (grid0.coords t) = ceOff (Ring.sl 4 (t.val + 3)) 1) t⟩
instance : SlOff 4 (k0_off5 (grid0.coords t)) (Ring.sl 4 (t.val + 3)) 1 := ⟨(by decide +kernel : ∀ t : Fin grid0.N, k0_off5 (grid0.coords t) = slOff (Ring.sl 4 (t.val + 3)) 1) t⟩
instance [h : Fact (t.val + 3 < 8)] : ChOff (k0_off3 (grid0.coords t) 1024#32) (Ring.bk 8 (t.val + 3)) 1 := ⟨(by decide +kernel : ∀ t : Fin grid0.N, t.val + 3 < 8 → k0_off3 (grid0.coords t) 1024#32 = chOff (Ring.bk 8 (t.val + 3)) 1) t h.out⟩
instance : CeOff 4 (k0_off6 (grid0.coords t)) (Ring.sl 4 (t.val + 3)) 2 := ⟨(by decide +kernel : ∀ t : Fin grid0.N, k0_off6 (grid0.coords t) = ceOff (Ring.sl 4 (t.val + 3)) 2) t⟩
instance : SlOff 4 (k0_off7 (grid0.coords t)) (Ring.sl 4 (t.val + 3)) 2 := ⟨(by decide +kernel : ∀ t : Fin grid0.N, k0_off7 (grid0.coords t) = slOff (Ring.sl 4 (t.val + 3)) 2) t⟩
instance [h : Fact (t.val + 3 < 8)] : ChOff (k0_off3 (grid0.coords t) 2048#32) (Ring.bk 8 (t.val + 3)) 2 := ⟨(by decide +kernel : ∀ t : Fin grid0.N, t.val + 3 < 8 → k0_off3 (grid0.coords t) 2048#32 = chOff (Ring.bk 8 (t.val + 3)) 2) t h.out⟩
instance : CeOff 4 (k0_off8 (grid0.coords t)) (Ring.sl 4 (t.val + 3)) 3 := ⟨(by decide +kernel : ∀ t : Fin grid0.N, k0_off8 (grid0.coords t) = ceOff (Ring.sl 4 (t.val + 3)) 3) t⟩
instance : SlOff 4 (k0_off9 (grid0.coords t)) (Ring.sl 4 (t.val + 3)) 3 := ⟨(by decide +kernel : ∀ t : Fin grid0.N, k0_off9 (grid0.coords t) = slOff (Ring.sl 4 (t.val + 3)) 3) t⟩
instance [h : Fact (t.val + 3 < 8)] : ChOff (k0_off3 (grid0.coords t) 3072#32) (Ring.bk 8 (t.val + 3)) 3 := ⟨(by decide +kernel : ∀ t : Fin grid0.N, t.val + 3 < 8 → k0_off3 (grid0.coords t) 3072#32 = chOff (Ring.bk 8 (t.val + 3)) 3) t h.out⟩

/-! The waits for the copies of tile `t - 2`. -/

instance : CeOff 2 (k0_off10 (grid0.coords t)) (Ring.sl 2 t.val) 0 := ⟨(by decide +kernel : ∀ t : Fin grid0.N, k0_off10 (grid0.coords t) = ceOff (Ring.sl 2 t.val) 0) t⟩
instance : SlOff 2 (k0_off12 (grid0.coords t)) (Ring.sl 2 t.val) 0 := ⟨(by decide +kernel : ∀ t : Fin grid0.N, k0_off12 (grid0.coords t) = slOff (Ring.sl 2 t.val) 0) t⟩
instance [h : Fact (2 ≤ t.val)] : ChOff (k0_off11 (grid0.coords t) 0#32) (Ring.bk 8 (t.val - 2)) 0 := ⟨(by decide +kernel : ∀ t : Fin grid0.N, 2 ≤ t.val → k0_off11 (grid0.coords t) 0#32 = chOff (Ring.bk 8 (t.val - 2)) 0) t h.out⟩
instance : CeOff 2 (k0_off13 (grid0.coords t)) (Ring.sl 2 t.val) 1 := ⟨(by decide +kernel : ∀ t : Fin grid0.N, k0_off13 (grid0.coords t) = ceOff (Ring.sl 2 t.val) 1) t⟩
instance : SlOff 2 (k0_off14 (grid0.coords t)) (Ring.sl 2 t.val) 1 := ⟨(by decide +kernel : ∀ t : Fin grid0.N, k0_off14 (grid0.coords t) = slOff (Ring.sl 2 t.val) 1) t⟩
instance [h : Fact (2 ≤ t.val)] : ChOff (k0_off11 (grid0.coords t) 1024#32) (Ring.bk 8 (t.val - 2)) 1 := ⟨(by decide +kernel : ∀ t : Fin grid0.N, 2 ≤ t.val → k0_off11 (grid0.coords t) 1024#32 = chOff (Ring.bk 8 (t.val - 2)) 1) t h.out⟩
instance : CeOff 2 (k0_off15 (grid0.coords t)) (Ring.sl 2 t.val) 2 := ⟨(by decide +kernel : ∀ t : Fin grid0.N, k0_off15 (grid0.coords t) = ceOff (Ring.sl 2 t.val) 2) t⟩
instance : SlOff 2 (k0_off16 (grid0.coords t)) (Ring.sl 2 t.val) 2 := ⟨(by decide +kernel : ∀ t : Fin grid0.N, k0_off16 (grid0.coords t) = slOff (Ring.sl 2 t.val) 2) t⟩
instance [h : Fact (2 ≤ t.val)] : ChOff (k0_off11 (grid0.coords t) 2048#32) (Ring.bk 8 (t.val - 2)) 2 := ⟨(by decide +kernel : ∀ t : Fin grid0.N, 2 ≤ t.val → k0_off11 (grid0.coords t) 2048#32 = chOff (Ring.bk 8 (t.val - 2)) 2) t h.out⟩
instance : CeOff 2 (k0_off17 (grid0.coords t)) (Ring.sl 2 t.val) 3 := ⟨(by decide +kernel : ∀ t : Fin grid0.N, k0_off17 (grid0.coords t) = ceOff (Ring.sl 2 t.val) 3) t⟩
instance : SlOff 2 (k0_off18 (grid0.coords t)) (Ring.sl 2 t.val) 3 := ⟨(by decide +kernel : ∀ t : Fin grid0.N, k0_off18 (grid0.coords t) = slOff (Ring.sl 2 t.val) 3) t⟩
instance [h : Fact (2 ≤ t.val)] : ChOff (k0_off11 (grid0.coords t) 3072#32) (Ring.bk 8 (t.val - 2)) 3 := ⟨(by decide +kernel : ∀ t : Fin grid0.N, 2 ≤ t.val → k0_off11 (grid0.coords t) 3072#32 = chOff (Ring.bk 8 (t.val - 2)) 3) t h.out⟩
instance : IeOff (k0_off19 (grid0.coords t)) (Ring.sl 2 t.val) := ⟨(by decide +kernel : ∀ t : Fin grid0.N, k0_off19 (grid0.coords t) = ieOff (Ring.sl 2 t.val)) t⟩
instance [h : Fact (2 ≤ t.val)] : ChOff (k0_off20 (grid0.coords t)) (Ring.bk 8 (t.val - 2)) 0 := ⟨(by decide +kernel : ∀ t : Fin grid0.N, 2 ≤ t.val → k0_off20 (grid0.coords t) = chOff (Ring.bk 8 (t.val - 2)) 0) t h.out⟩
instance : SlOff 2 (k0_off21 (grid0.coords t)) (Ring.sl 2 t.val) 0 := ⟨(by decide +kernel : ∀ t : Fin grid0.N, k0_off21 (grid0.coords t) = slOff (Ring.sl 2 t.val) 0) t⟩

/-! The waits for tile `t`. -/

instance : CeOff 4 (k0_off22 (grid0.coords t)) (Ring.sl 4 t.val) 0 := ⟨(by decide +kernel : ∀ t : Fin grid0.N, k0_off22 (grid0.coords t) = ceOff (Ring.sl 4 t.val) 0) t⟩
instance : SlOff 4 (k0_off23 (grid0.coords t)) (Ring.sl 4 t.val) 0 := ⟨(by decide +kernel : ∀ t : Fin grid0.N, k0_off23 (grid0.coords t) = slOff (Ring.sl 4 t.val) 0) t⟩
instance : ChOff (k0_off24 (grid0.coords t) 0#32) (Ring.bk 8 t.val) 0 := ⟨(by decide +kernel : ∀ t : Fin grid0.N, k0_off24 (grid0.coords t) 0#32 = chOff (Ring.bk 8 t.val) 0) t⟩
instance : CeOff 4 (k0_off25 (grid0.coords t)) (Ring.sl 4 t.val) 1 := ⟨(by decide +kernel : ∀ t : Fin grid0.N, k0_off25 (grid0.coords t) = ceOff (Ring.sl 4 t.val) 1) t⟩
instance : SlOff 4 (k0_off26 (grid0.coords t)) (Ring.sl 4 t.val) 1 := ⟨(by decide +kernel : ∀ t : Fin grid0.N, k0_off26 (grid0.coords t) = slOff (Ring.sl 4 t.val) 1) t⟩
instance : ChOff (k0_off24 (grid0.coords t) 1024#32) (Ring.bk 8 t.val) 1 := ⟨(by decide +kernel : ∀ t : Fin grid0.N, k0_off24 (grid0.coords t) 1024#32 = chOff (Ring.bk 8 t.val) 1) t⟩
instance : CeOff 4 (k0_off34 (grid0.coords t)) (Ring.sl 4 t.val) 2 := ⟨(by decide +kernel : ∀ t : Fin grid0.N, k0_off34 (grid0.coords t) = ceOff (Ring.sl 4 t.val) 2) t⟩
instance : SlOff 4 (k0_off35 (grid0.coords t)) (Ring.sl 4 t.val) 2 := ⟨(by decide +kernel : ∀ t : Fin grid0.N, k0_off35 (grid0.coords t) = slOff (Ring.sl 4 t.val) 2) t⟩
instance : ChOff (k0_off24 (grid0.coords t) 2048#32) (Ring.bk 8 t.val) 2 := ⟨(by decide +kernel : ∀ t : Fin grid0.N, k0_off24 (grid0.coords t) 2048#32 = chOff (Ring.bk 8 t.val) 2) t⟩
instance : CeOff 4 (k0_off36 (grid0.coords t)) (Ring.sl 4 t.val) 3 := ⟨(by decide +kernel : ∀ t : Fin grid0.N, k0_off36 (grid0.coords t) = ceOff (Ring.sl 4 t.val) 3) t⟩
instance : SlOff 4 (k0_off37 (grid0.coords t)) (Ring.sl 4 t.val) 3 := ⟨(by decide +kernel : ∀ t : Fin grid0.N, k0_off37 (grid0.coords t) = slOff (Ring.sl 4 t.val) 3) t⟩
instance : ChOff (k0_off24 (grid0.coords t) 3072#32) (Ring.bk 8 t.val) 3 := ⟨(by decide +kernel : ∀ t : Fin grid0.N, k0_off24 (grid0.coords t) 3072#32 = chOff (Ring.bk 8 t.val) 3) t⟩

/-! The copies of tile `t`'s outputs. -/

instance : CeOff 2 (k0_off30 (grid0.coords t)) (Ring.sl 2 t.val) 0 := ⟨(by decide +kernel : ∀ t : Fin grid0.N, k0_off30 (grid0.coords t) = ceOff (Ring.sl 2 t.val) 0) t⟩
instance : SlOff 2 (k0_off31 (grid0.coords t)) (Ring.sl 2 t.val) 0 := ⟨(by decide +kernel : ∀ t : Fin grid0.N, k0_off31 (grid0.coords t) = slOff (Ring.sl 2 t.val) 0) t⟩
instance : CeOff 2 (k0_off32 (grid0.coords t)) (Ring.sl 2 t.val) 1 := ⟨(by decide +kernel : ∀ t : Fin grid0.N, k0_off32 (grid0.coords t) = ceOff (Ring.sl 2 t.val) 1) t⟩
instance : SlOff 2 (k0_off33 (grid0.coords t)) (Ring.sl 2 t.val) 1 := ⟨(by decide +kernel : ∀ t : Fin grid0.N, k0_off33 (grid0.coords t) = slOff (Ring.sl 2 t.val) 1) t⟩
instance : CeOff 2 (k0_off41 (grid0.coords t)) (Ring.sl 2 t.val) 2 := ⟨(by decide +kernel : ∀ t : Fin grid0.N, k0_off41 (grid0.coords t) = ceOff (Ring.sl 2 t.val) 2) t⟩
instance : SlOff 2 (k0_off42 (grid0.coords t)) (Ring.sl 2 t.val) 2 := ⟨(by decide +kernel : ∀ t : Fin grid0.N, k0_off42 (grid0.coords t) = slOff (Ring.sl 2 t.val) 2) t⟩
instance : CeOff 2 (k0_off43 (grid0.coords t)) (Ring.sl 2 t.val) 3 := ⟨(by decide +kernel : ∀ t : Fin grid0.N, k0_off43 (grid0.coords t) = ceOff (Ring.sl 2 t.val) 3) t⟩
instance : SlOff 2 (k0_off44 (grid0.coords t)) (Ring.sl 2 t.val) 3 := ⟨(by decide +kernel : ∀ t : Fin grid0.N, k0_off44 (grid0.coords t) = slOff (Ring.sl 2 t.val) 3) t⟩
instance : IeOff (k0_off45 (grid0.coords t)) (Ring.sl 2 t.val) := ⟨(by decide +kernel : ∀ t : Fin grid0.N, k0_off45 (grid0.coords t) = ieOff (Ring.sl 2 t.val)) t⟩
instance : ChOff (k0_off46 (grid0.coords t)) (Ring.bk 8 t.val) 0 := ⟨(by decide +kernel : ∀ t : Fin grid0.N, k0_off46 (grid0.coords t) = chOff (Ring.bk 8 t.val) 0) t⟩
instance : SlOff 2 (k0_off47 (grid0.coords t)) (Ring.sl 2 t.val) 0 := ⟨(by decide +kernel : ∀ t : Fin grid0.N, k0_off47 (grid0.coords t) = slOff (Ring.sl 2 t.val) 0) t⟩

/-! The last point's waits for tiles `t - 1` and `t`. -/

instance : CeOff 2 (k0_off48 (grid0.coords t)) (Ring.sl 2 (t.val + 1)) 0 := ⟨(by decide +kernel : ∀ t : Fin grid0.N, k0_off48 (grid0.coords t) = ceOff (Ring.sl 2 (t.val + 1)) 0) t⟩
instance : SlOff 2 (k0_off50 (grid0.coords t)) (Ring.sl 2 (t.val + 1)) 0 := ⟨(by decide +kernel : ∀ t : Fin grid0.N, k0_off50 (grid0.coords t) = slOff (Ring.sl 2 (t.val + 1)) 0) t⟩
instance [h : Fact (1 ≤ t.val)] : ChOff (k0_off49 (grid0.coords t) 0#32) (Ring.bk 8 (t.val - 1)) 0 := ⟨(by decide +kernel : ∀ t : Fin grid0.N, 1 ≤ t.val → k0_off49 (grid0.coords t) 0#32 = chOff (Ring.bk 8 (t.val - 1)) 0) t h.out⟩
instance : CeOff 2 (k0_off51 (grid0.coords t)) (Ring.sl 2 (t.val + 1)) 1 := ⟨(by decide +kernel : ∀ t : Fin grid0.N, k0_off51 (grid0.coords t) = ceOff (Ring.sl 2 (t.val + 1)) 1) t⟩
instance : SlOff 2 (k0_off52 (grid0.coords t)) (Ring.sl 2 (t.val + 1)) 1 := ⟨(by decide +kernel : ∀ t : Fin grid0.N, k0_off52 (grid0.coords t) = slOff (Ring.sl 2 (t.val + 1)) 1) t⟩
instance [h : Fact (1 ≤ t.val)] : ChOff (k0_off49 (grid0.coords t) 1024#32) (Ring.bk 8 (t.val - 1)) 1 := ⟨(by decide +kernel : ∀ t : Fin grid0.N, 1 ≤ t.val → k0_off49 (grid0.coords t) 1024#32 = chOff (Ring.bk 8 (t.val - 1)) 1) t h.out⟩
instance : CeOff 2 (k0_off53 (grid0.coords t)) (Ring.sl 2 (t.val + 1)) 2 := ⟨(by decide +kernel : ∀ t : Fin grid0.N, k0_off53 (grid0.coords t) = ceOff (Ring.sl 2 (t.val + 1)) 2) t⟩
instance : SlOff 2 (k0_off54 (grid0.coords t)) (Ring.sl 2 (t.val + 1)) 2 := ⟨(by decide +kernel : ∀ t : Fin grid0.N, k0_off54 (grid0.coords t) = slOff (Ring.sl 2 (t.val + 1)) 2) t⟩
instance [h : Fact (1 ≤ t.val)] : ChOff (k0_off49 (grid0.coords t) 2048#32) (Ring.bk 8 (t.val - 1)) 2 := ⟨(by decide +kernel : ∀ t : Fin grid0.N, 1 ≤ t.val → k0_off49 (grid0.coords t) 2048#32 = chOff (Ring.bk 8 (t.val - 1)) 2) t h.out⟩
instance : CeOff 2 (k0_off55 (grid0.coords t)) (Ring.sl 2 (t.val + 1)) 3 := ⟨(by decide +kernel : ∀ t : Fin grid0.N, k0_off55 (grid0.coords t) = ceOff (Ring.sl 2 (t.val + 1)) 3) t⟩
instance : SlOff 2 (k0_off56 (grid0.coords t)) (Ring.sl 2 (t.val + 1)) 3 := ⟨(by decide +kernel : ∀ t : Fin grid0.N, k0_off56 (grid0.coords t) = slOff (Ring.sl 2 (t.val + 1)) 3) t⟩
instance [h : Fact (1 ≤ t.val)] : ChOff (k0_off49 (grid0.coords t) 3072#32) (Ring.bk 8 (t.val - 1)) 3 := ⟨(by decide +kernel : ∀ t : Fin grid0.N, 1 ≤ t.val → k0_off49 (grid0.coords t) 3072#32 = chOff (Ring.bk 8 (t.val - 1)) 3) t h.out⟩
instance : IeOff (k0_off57 (grid0.coords t)) (Ring.sl 2 (t.val + 1)) := ⟨(by decide +kernel : ∀ t : Fin grid0.N, k0_off57 (grid0.coords t) = ieOff (Ring.sl 2 (t.val + 1))) t⟩
instance [h : Fact (1 ≤ t.val)] : ChOff (k0_off58 (grid0.coords t)) (Ring.bk 8 (t.val - 1)) 0 := ⟨(by decide +kernel : ∀ t : Fin grid0.N, 1 ≤ t.val → k0_off58 (grid0.coords t) = chOff (Ring.bk 8 (t.val - 1)) 0) t h.out⟩
instance : SlOff 2 (k0_off59 (grid0.coords t)) (Ring.sl 2 (t.val + 1)) 0 := ⟨(by decide +kernel : ∀ t : Fin grid0.N, k0_off59 (grid0.coords t) = slOff (Ring.sl 2 (t.val + 1)) 0) t⟩
instance : CeOff 2 (k0_off60 (grid0.coords t)) (Ring.sl 2 t.val) 0 := ⟨(by decide +kernel : ∀ t : Fin grid0.N, k0_off60 (grid0.coords t) = ceOff (Ring.sl 2 t.val) 0) t⟩
instance : SlOff 2 (k0_off62 (grid0.coords t)) (Ring.sl 2 t.val) 0 := ⟨(by decide +kernel : ∀ t : Fin grid0.N, k0_off62 (grid0.coords t) = slOff (Ring.sl 2 t.val) 0) t⟩
instance : ChOff (k0_off61 (grid0.coords t) 0#32) (Ring.bk 8 t.val) 0 := ⟨(by decide +kernel : ∀ t : Fin grid0.N, k0_off61 (grid0.coords t) 0#32 = chOff (Ring.bk 8 t.val) 0) t⟩
instance : CeOff 2 (k0_off63 (grid0.coords t)) (Ring.sl 2 t.val) 1 := ⟨(by decide +kernel : ∀ t : Fin grid0.N, k0_off63 (grid0.coords t) = ceOff (Ring.sl 2 t.val) 1) t⟩
instance : SlOff 2 (k0_off64 (grid0.coords t)) (Ring.sl 2 t.val) 1 := ⟨(by decide +kernel : ∀ t : Fin grid0.N, k0_off64 (grid0.coords t) = slOff (Ring.sl 2 t.val) 1) t⟩
instance : ChOff (k0_off61 (grid0.coords t) 1024#32) (Ring.bk 8 t.val) 1 := ⟨(by decide +kernel : ∀ t : Fin grid0.N, k0_off61 (grid0.coords t) 1024#32 = chOff (Ring.bk 8 t.val) 1) t⟩
instance : CeOff 2 (k0_off65 (grid0.coords t)) (Ring.sl 2 t.val) 2 := ⟨(by decide +kernel : ∀ t : Fin grid0.N, k0_off65 (grid0.coords t) = ceOff (Ring.sl 2 t.val) 2) t⟩
instance : SlOff 2 (k0_off66 (grid0.coords t)) (Ring.sl 2 t.val) 2 := ⟨(by decide +kernel : ∀ t : Fin grid0.N, k0_off66 (grid0.coords t) = slOff (Ring.sl 2 t.val) 2) t⟩
instance : ChOff (k0_off61 (grid0.coords t) 2048#32) (Ring.bk 8 t.val) 2 := ⟨(by decide +kernel : ∀ t : Fin grid0.N, k0_off61 (grid0.coords t) 2048#32 = chOff (Ring.bk 8 t.val) 2) t⟩
instance : CeOff 2 (k0_off67 (grid0.coords t)) (Ring.sl 2 t.val) 3 := ⟨(by decide +kernel : ∀ t : Fin grid0.N, k0_off67 (grid0.coords t) = ceOff (Ring.sl 2 t.val) 3) t⟩
instance : SlOff 2 (k0_off68 (grid0.coords t)) (Ring.sl 2 t.val) 3 := ⟨(by decide +kernel : ∀ t : Fin grid0.N, k0_off68 (grid0.coords t) = slOff (Ring.sl 2 t.val) 3) t⟩
instance : ChOff (k0_off61 (grid0.coords t) 3072#32) (Ring.bk 8 t.val) 3 := ⟨(by decide +kernel : ∀ t : Fin grid0.N, k0_off61 (grid0.coords t) 3072#32 = chOff (Ring.bk 8 t.val) 3) t⟩
instance : IeOff (k0_off69 (grid0.coords t)) (Ring.sl 2 t.val) := ⟨(by decide +kernel : ∀ t : Fin grid0.N, k0_off69 (grid0.coords t) = ieOff (Ring.sl 2 t.val)) t⟩
instance : ChOff (k0_off70 (grid0.coords t)) (Ring.bk 8 t.val) 0 := ⟨(by decide +kernel : ∀ t : Fin grid0.N, k0_off70 (grid0.coords t) = chOff (Ring.bk 8 t.val) 0) t⟩
instance : SlOff 2 (k0_off71 (grid0.coords t)) (Ring.sl 2 t.val) 0 := ⟨(by decide +kernel : ∀ t : Fin grid0.N, k0_off71 (grid0.coords t) = slOff (Ring.sl 2 t.val) 0) t⟩

/-! The first point's literal offsets: tiles 0, 1 and 2 into slots 0, 1 and 2. -/

instance : CeOff 4 ![0, 0] 0 0 := ⟨by decide⟩
instance : SlOff 4 ![0, 0, 0] 0 0 := ⟨by decide⟩
instance : ChOff ![0, 0] 0 0 := ⟨by decide⟩
instance : CeOff 4 ![0, 1] 0 1 := ⟨by decide⟩
instance : SlOff 4 ![0, 1024, 0] 0 1 := ⟨by decide⟩
instance : ChOff ![1024, 0] 0 1 := ⟨by decide⟩
instance : CeOff 4 ![0, 2] 0 2 := ⟨by decide⟩
instance : SlOff 4 ![0, 2048, 0] 0 2 := ⟨by decide⟩
instance : ChOff ![2048, 0] 0 2 := ⟨by decide⟩
instance : CeOff 4 ![0, 3] 0 3 := ⟨by decide⟩
instance : SlOff 4 ![0, 3072, 0] 0 3 := ⟨by decide⟩
instance : ChOff ![3072, 0] 0 3 := ⟨by decide⟩
instance : CeOff 4 ![1, 0] 1 0 := ⟨by decide⟩
instance : SlOff 4 ![1, 0, 0] 1 0 := ⟨by decide⟩
instance : ChOff ![4096, 0] 1 0 := ⟨by decide⟩
instance : CeOff 4 ![1, 1] 1 1 := ⟨by decide⟩
instance : SlOff 4 ![1, 1024, 0] 1 1 := ⟨by decide⟩
instance : ChOff ![5120, 0] 1 1 := ⟨by decide⟩
instance : CeOff 4 ![1, 2] 1 2 := ⟨by decide⟩
instance : SlOff 4 ![1, 2048, 0] 1 2 := ⟨by decide⟩
instance : ChOff ![6144, 0] 1 2 := ⟨by decide⟩
instance : CeOff 4 ![1, 3] 1 3 := ⟨by decide⟩
instance : SlOff 4 ![1, 3072, 0] 1 3 := ⟨by decide⟩
instance : ChOff ![7168, 0] 1 3 := ⟨by decide⟩
instance : CeOff 4 ![2, 0] 2 0 := ⟨by decide⟩
instance : SlOff 4 ![2, 0, 0] 2 0 := ⟨by decide⟩
instance : ChOff ![8192, 0] 2 0 := ⟨by decide⟩
instance : CeOff 4 ![2, 1] 2 1 := ⟨by decide⟩
instance : SlOff 4 ![2, 1024, 0] 2 1 := ⟨by decide⟩
instance : ChOff ![9216, 0] 2 1 := ⟨by decide⟩
instance : CeOff 4 ![2, 2] 2 2 := ⟨by decide⟩
instance : SlOff 4 ![2, 2048, 0] 2 2 := ⟨by decide⟩
instance : ChOff ![10240, 0] 2 2 := ⟨by decide⟩
instance : CeOff 4 ![2, 3] 2 3 := ⟨by decide⟩
instance : SlOff 4 ![2, 3072, 0] 2 3 := ⟨by decide⟩
instance : ChOff ![11264, 0] 2 3 := ⟨by decide⟩
instance : IeOff ![0] 0 := ⟨by decide⟩
instance : IeOff ![1] 1 := ⟨by decide⟩

/-! The halves of 2048 rows the kernel loads and stores through the whole buffers. -/

instance : ClosedOff (k0_off27 (grid0.coords t)) := ⟨![(Ring.sl 4 t.val).val, 0, 0], (by decide +kernel : ∀ t : Fin grid0.N, k0_off27 (grid0.coords t) = ![(Ring.sl 4 t.val).val, 0, 0]) t⟩
instance : ClosedOff (k0_off38 (grid0.coords t)) := ⟨![(Ring.sl 4 t.val).val, 2048, 0], (by decide +kernel : ∀ t : Fin grid0.N, k0_off38 (grid0.coords t) = ![(Ring.sl 4 t.val).val, 2048, 0]) t⟩
instance : ClosedOff (k0_off28 (grid0.coords t)) := ⟨![(Ring.sl 2 t.val).val, 0, 0], (by decide +kernel : ∀ t : Fin grid0.N, k0_off28 (grid0.coords t) = ![(Ring.sl 2 t.val).val, 0, 0]) t⟩
instance : ClosedOff (k0_off29 (grid0.coords t)) := ⟨![(Ring.sl 2 t.val).val, 0, 0], (by decide +kernel : ∀ t : Fin grid0.N, k0_off29 (grid0.coords t) = ![(Ring.sl 2 t.val).val, 0, 0]) t⟩
instance : ClosedOff (k0_off39 (grid0.coords t)) := ⟨![(Ring.sl 2 t.val).val, 2048, 0], (by decide +kernel : ∀ t : Fin grid0.N, k0_off39 (grid0.coords t) = ![(Ring.sl 2 t.val).val, 2048, 0]) t⟩
instance : ClosedOff (k0_off40 (grid0.coords t)) := ⟨![(Ring.sl 2 t.val).val, 2048, 0], (by decide +kernel : ∀ t : Fin grid0.N, k0_off40 (grid0.coords t) = ![(Ring.sl 2 t.val).val, 2048, 0]) t⟩

/-- The second condition of the kernel: tile `t + 3` exists. -/
theorem cond2_iff : k0_cond2 (grid0.coords t) = 1#1 ↔ t.val + 3 < 8 := (by decide +kernel : ∀ t : Fin grid0.N, k0_cond2 (grid0.coords t) = 1#1 ↔ t.val + 3 < 8) t
/-- The third: tile `t - 2` exists. -/
theorem cond3_iff : k0_cond3 (grid0.coords t) = 1#1 ↔ 2 ≤ t.val := (by decide +kernel : ∀ t : Fin grid0.N, k0_cond3 (grid0.coords t) = 1#1 ↔ 2 ≤ t.val) t
/-- The fourth: the last point. -/
theorem cond4_iff : k0_cond4 (grid0.coords t) = 1#1 ↔ t.val = 7 := (by decide +kernel : ∀ t : Fin grid0.N, k0_cond4 (grid0.coords t) = 1#1 ↔ t.val = 7) t

end Offsets

end Cert.Proof.Ideal
-- ==== Proof.Ideal.Pieces.lean ====
/-
  What the first kernel's body holds, piece by piece: a tile of the input at home, a tile on its way into a slot, an
  idle slot; a tile of the outputs not yet written, on its way out of a slot, written. Tiles are numbered by `n`,
  slots by `s` (input, four) and `p` (outputs, two).
-/
module

public import proofs.«01_k».proof.Proof.Ideal.Names
public import Idealize.ShloMosaic.Lib.ValueIdxCore
public import Idealize.ShloMosaic.Lib.ValueLayout
public import Idealize.ShloMosaic.Lib.Pipeline.Value

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- An entailment from an equation. -/
theorem ent {P Q : sProp 𝕄} (e : P = Q) : P ⊢ Q := e ▸ .rfl

/-! ## Arrays seen from a slot -/

/-- Row `4096 n + r` of an array of 32768 rows at row `r` of any slot of a buffer. -/
def atSlot {α : Type} {B W : ℕ} [NeZero W] (Y : (⟨2, ![32768, W]⟩ : Shape).Idx → α) (n : ℕ) : (⟨3, ![B, 4096, W]⟩ : Shape).Idx → α :=
  fun i => Y (ix2 (Fin.ofNat 32768 (4096 * n + (i 1).val)) (Fin.ofNat W (i 2).val))

section
variable (c : Dev nD)

/-- A memref's elements at `f`. -/
abbrev pP {sp : Space} {s : Shape} {e : EltTy} (M : Memref sig .tc sp s e) (f : Buf (Elt F) (M.view.loc (c : Thread nD τ))) : sProp 𝕄 :=
  M.view.loc (c : Thread nD τ) ↦[M.view.set]{fullShare} f
/-- A cell at zero. -/
abbrev cP (A : DmaSems sig S_) : sProp 𝕄 := semVal ((c : Thread nD τ), SemLoc.dma A.sem) 0
/-- A copy of `src` (at `g`) into `dst`, under way; it leaves `h` there. -/
abbrev flP {sp sp' : Space} {s : Shape} {e : EltTy} (dst : Memref sig .tc sp s e) (src : Memref sig .tc sp' s e) (A : DmaSems sig S_) (N : ℕ)
    (h : Buf (Elt F) (dst.view.loc (c : Thread nD τ))) (g : Buf (Elt F) (src.view.loc (c : Thread nD τ))) : sProp 𝕄 :=
  Transfers.Flight countersEmb (c : Thread nD τ) (SemLoc.dma A.sem) () N iprop(pP c dst h ∗ pP c src g)

/-- Four of a kind. -/
abbrev four (P : Fin 4 → sProp 𝕄) : sProp 𝕄 := iprop(P 0 ∗ P 1 ∗ P 2 ∗ P 3)

variable (X : Vec F S32768x256 .f32) (Q E : Vec F S32768x256 .f32) (I : Vec F S32768x1 .i32)

/-! ## The input -/

/-- Tile `n` at home. -/
def homeX (n : Fin 8) : sProp 𝕄 := four fun k => pP c (xch n k) X
/-- Slot `s` holding `f`. -/
abbrev slotX (s : Fin 4) (f : Vec F S4x4096x256 .f32) : sProp 𝕄 := four fun k => pP c (xsl s k) f
abbrev cellX (s : Fin 4) : sProp 𝕄 := four fun k => cP c (csem s k)
/-- Slot `s` idle. -/
def idleX (s : Fin 4) : sProp 𝕄 := iprop((∃ f, slotX c s f) ∗ cellX c s)
abbrev flyXk (n : Fin 8) (s k : Fin 4) : sProp 𝕄 := flP c (xsl s k) (xch n k) (csem s k) 32768 (atSlot (B := 4) X n.val) X
/-- Tile `n` on its way into slot `s`. -/
def flyX (n : Fin 8) (s : Fin 4) : sProp 𝕄 := four fun k => flyXk c X n s k

/-! ## The outputs -/

/-- Tile `n` of the three outputs, at anything, -/
def rawO (n : Fin 8) : sProp 𝕄 :=
  iprop((four fun k => iprop(∃ f, pP c (qch n k) f)) ∗ (four fun k => iprop(∃ f, pP c (ech n k) f)) ∗ (∃ f, pP c (ich n) f))
/-- and written. -/
def homeO (n : Fin 8) : sProp 𝕄 :=
  iprop((four fun k => pP c (qch n k) Q) ∗ (four fun k => pP c (ech n k) E) ∗ pP c (ich n) I)
abbrev slotQ (p : Fin 2) (f : Vec F S2x4096x256 .f32) : sProp 𝕄 := four fun k => pP c (qsl p k) f
abbrev slotE (p : Fin 2) (f : Vec F S2x4096x256 .f32) : sProp 𝕄 := four fun k => pP c (esl p k) f
abbrev cellO (p : Fin 2) : sProp 𝕄 := iprop((four fun k => cP c (qsem p k)) ∗ (four fun k => cP c (esem p k)) ∗ cP c (isem p))
/-- Slot `p` of the three output buffers idle. -/
def idleO (p : Fin 2) : sProp 𝕄 := iprop((∃ f, slotQ c p f) ∗ (∃ f, slotE c p f) ∗ (∃ f, pP c (isl p) f) ∗ cellO c p)
abbrev flyQk (n : Fin 8) (p : Fin 2) (k : Fin 4) : sProp 𝕄 := flP c (qch n k) (qsl p k) (qsem p k) 32768 Q (atSlot (B := 2) Q n.val)
abbrev flyEk (n : Fin 8) (p : Fin 2) (k : Fin 4) : sProp 𝕄 := flP c (ech n k) (esl p k) (esem p k) 32768 E (atSlot (B := 2) E n.val)
abbrev flyIk (n : Fin 8) (p : Fin 2) : sProp 𝕄 := flP c (ich n) (isl p) (isem p) 65536 I (atSlot (B := 2) I n.val)
/-- Tile `n` of the outputs on its way out of slot `p`. -/
def flyO (n : Fin 8) (p : Fin 2) : sProp 𝕄 := iprop((four fun k => flyQk c Q n p k) ∗ (four fun k => flyEk c E n p k) ∗ flyIk c I n p)

end

/-! ## Landing: what a copy leaves is the array itself -/

omit [FloatOps F] in
/-- A copy whose words are `G`'s leaves `G` on its destination. -/
theorem landed {sp : Space} {s : Shape} {e : EltTy} (c : Dev nD) (M : Memref sig .tc sp s e) (f G : Buf (Elt F) (M.view.loc (c : Thread nD τ)))
    (v : s.Idx → Elt F e) (h : ∀ j, v j = M.view.read (Elt F) G j) :
    pP c M (M.view.writes (Elt F) f [⟨Rect.whole s, v⟩]) = pP c M G := by
  refine pointsTo_congr fun i hi => ?_
  obtain ⟨j, rfl⟩ := View.exists_emb_of_mem_set M.view hi
  have h1 := View.read_writes_cons_emb M.view f (Rect.whole s) v [] j
  rw [Rect.emb_whole_apply] at h1
  have h2 := h1.trans (h j)
  exact (cast_inj _).mp h2

omit [FloatOps F] in
theorem ofNat_val_lt {n a : ℕ} [NeZero n] (h : a < n) : (Fin.ofNat n a).val = a := Nat.mod_eq_of_lt h

section Reads
omit [FloatOps F]

/-- A squeezed slice of a buffer of slots reads the buffer at the slice's place. -/
theorem read_slot {sp : Space} {e : EltTy} {B W R : ℕ} (M : Memref sig .tc sp ⟨3, ![B, 4096, W]⟩ e) (s : Fin B) (o : ℕ)
    (inb : ∀ a, (![s.val, o, 0] : Fin 3 → ℕ) a + (![1, R, W] : Fin 3 → ℕ) a ≤ (⟨3, ![B, 4096, W]⟩ : Shape).size a) (hr)
    (hq : (⟨3, ![1, R, W]⟩ : Shape).Squeezes ⟨2, ![R, W]⟩) (f : M.view.ty.Contents (Elt F)) (a : Fin R) (b : Fin W) (i : (⟨3, ![B, 4096, W]⟩ : Shape).Idx)
    (h0 : (i 0).val = s.val) (h1 : (i 1).val = o + a.val) (h2 : (i 2).val = b.val) :
    ((M.slice (Rect.unit (s := ⟨3, ![B, 4096, W]⟩) ![s.val, o, 0] ![1, R, W] inb) hr).squeeze ⟨2, ![R, W]⟩ hq).view.read (Elt F) f (ix2 a b)
      = M.view.read (Elt F) f i := by
  have e : ((M.slice (Rect.unit (s := ⟨3, ![B, 4096, W]⟩) ![s.val, o, 0] ![1, R, W] inb) hr).squeeze ⟨2, ![R, W]⟩ hq).view.read (Elt F) f (ix2 a b)
      = M.view.read (Elt F) f ((Rect.unit (s := ⟨3, ![B, 4096, W]⟩) ![s.val, o, 0] ![1, R, W] inb).emb (Shape.reshapeEquiv hq.numel_eq (ix2 a b))) := rfl
  rw [e, ValueIdx.reshapeEquiv_ix2_1ab]
  congr 1
  funext x
  apply Fin.ext
  rw [Rect.emb_apply]
  match x with
  | ⟨0, _⟩ => show s.val + 1 * 0 = (i 0).val; omega
  | ⟨1, _⟩ => show o + 1 * a.val = (i 1).val; omega
  | ⟨2, _⟩ => show 0 + 1 * b.val = (i 2).val; omega

/-- The row of an array under row `1024 k + a` of a slot that holds tile `n`. -/
theorem atSlot_ix {α : Type} {B W : ℕ} [NeZero W] (Y : (⟨2, ![32768, W]⟩ : Shape).Idx → α) (n : Fin 8) (i : (⟨3, ![B, 4096, W]⟩ : Shape).Idx)
    (a : Fin 32768) (b : Fin W) (ha : 4096 * n.val + (i 1).val = a.val) (hb : (i 2).val = b.val) : atSlot Y n.val i = Y (ix2 a b) := by
  unfold atSlot
  rw [ha, hb]
  congr 2
  · exact Fin.ext (Nat.mod_eq_of_lt a.isLt)
  · exact Fin.ext (Nat.mod_eq_of_lt b.isLt)

variable (n : Fin 8) (k : Fin 4)

/-- Chunk `k` of tile `n` of an array, read through the array and read through a slot that holds the tile. -/
theorem read_chunk (M : Memref sig .tc .hbm S32768x256 .f32) (f : M.view.ty.Contents (Elt F)) (a : Fin 1024) (b : Fin 256) :
    (chunkOf M n k).view.read (Elt F) f (ix2 a b)
      = M.view.read (Elt F) f (ix2 (⟨4096 * n.val + 1024 * k.val + a.val, by have := n.isLt; have := k.isLt; have := a.isLt; omega⟩ : Fin 32768) b) := by
  have e : (chunkOf M n k).view.read (Elt F) f (ix2 a b)
      = M.view.read (Elt F) f ((Rect.unit (s := S32768x256) (chOff n k) S1024x256.size (chOff_inb n k)).emb (ix2 a b)) := rfl
  rw [e]
  congr 1
  funext x
  apply Fin.ext
  rw [Rect.emb_apply]
  match x with
  | ⟨0, _⟩ => show 4096 * n.val + 1024 * k.val + 1 * a.val = 4096 * n.val + 1024 * k.val + a.val; omega
  | ⟨1, _⟩ => show 0 + 1 * b.val = b.val; omega

theorem slot_row (k : Fin 4) (a : Fin 1024) : 1024 * k.val + a.val < 4096 := by have := k.isLt; have := a.isLt; omega

theorem readX (X : Vec F S32768x256 .f32) (s : Fin 4) (j : S1024x256.Idx) :
    (xch n k).view.read (Elt F) X j = (xsl s k).view.read (Elt F) (atSlot (B := 4) X n.val) j := by
  obtain ⟨a, b, rfl⟩ : ∃ a b, j = ix2 a b := ⟨_, _, eq_ix2 j⟩
  refine (read_chunk n k hX X a b).trans (Eq.symm ?_)
  refine (read_slot (B := 4) (W := 256) bX s (1024 * k.val) (xslOff_inb s k) (fun _ => rfl) squeezes_S1x1024x256_S1024x256 _ a b (ix3 s ⟨_, slot_row k a⟩ b) rfl rfl rfl).trans ?_
  exact atSlot_ix (B := 4) X n _ _ _ (by show 4096 * n.val + (1024 * k.val + a.val) = 4096 * n.val + 1024 * k.val + a.val; omega) rfl

theorem readQ (Y : Vec F S32768x256 .f32) (p : Fin 2) (j : S1024x256.Idx) :
    (qsl p k).view.read (Elt F) (atSlot (B := 2) Y n.val) j = (qch n k).view.read (Elt F) Y j := by
  obtain ⟨a, b, rfl⟩ : ∃ a b, j = ix2 a b := ⟨_, _, eq_ix2 j⟩
  refine Eq.trans ?_ (read_chunk n k hQ Y a b).symm
  refine (read_slot (B := 2) (W := 256) bQ p (1024 * k.val) (oslOff_inb p k) (fun _ => rfl) squeezes_S1x1024x256_S1024x256 _ a b (ix3 p ⟨_, slot_row k a⟩ b) rfl rfl rfl).trans ?_
  exact atSlot_ix (B := 2) Y n _ _ _ (by show 4096 * n.val + (1024 * k.val + a.val) = 4096 * n.val + 1024 * k.val + a.val; omega) rfl

theorem readE (Y : Vec F S32768x256 .f32) (p : Fin 2) (j : S1024x256.Idx) :
    (esl p k).view.read (Elt F) (atSlot (B := 2) Y n.val) j = (ech n k).view.read (Elt F) Y j := by
  obtain ⟨a, b, rfl⟩ : ∃ a b, j = ix2 a b := ⟨_, _, eq_ix2 j⟩
  refine Eq.trans ?_ (read_chunk n k hE Y a b).symm
  refine (read_slot (B := 2) (W := 256) bE p (1024 * k.val) (oslOff_inb p k) (fun _ => rfl) squeezes_S1x1024x256_S1024x256 _ a b (ix3 p ⟨_, slot_row k a⟩ b) rfl rfl rfl).trans ?_
  exact atSlot_ix (B := 2) Y n _ _ _ (by show 4096 * n.val + (1024 * k.val + a.val) = 4096 * n.val + 1024 * k.val + a.val; omega) rfl

theorem readI (Y : Vec F S32768x1 .i32) (p : Fin 2) (j : S4096x1.Idx) :
    (isl p).view.read (Elt F) (atSlot (B := 2) Y n.val) j = (ich n).view.read (Elt F) Y j := by
  obtain ⟨a, b, rfl⟩ : ∃ a b, j = ix2 a b := ⟨_, _, eq_ix2 j⟩
  have ha : a.val < 4096 := a.isLt
  have hn := n.isLt
  refine (read_slot (B := 2) (W := 1) bI p (1024 * 0) (islOff_inb p) (fun _ => rfl) squeezes_S1x4096x1_S4096x1 _ a b (ix3 p a b) rfl (by show a.val = 1024 * 0 + a.val; omega) rfl).trans ?_
  refine (atSlot_ix (B := 2) Y n (ix3 p a b) ⟨4096 * n.val + a.val, by omega⟩ b rfl rfl).trans ?_
  have e : (ich n).view.read (Elt F) Y (ix2 a b)
      = Y ((Rect.unit (s := S32768x1) (chOff n 0) S4096x1.size (ichOff_inb n)).emb (ix2 a b)) := rfl
  rw [e]
  refine congrArg Y (funext fun x => Fin.ext ?_)
  rw [Rect.emb_apply]
  match x with
  | ⟨0, _⟩ => show 4096 * n.val + a.val = 4096 * n.val + 1024 * 0 + 1 * a.val; omega
  | ⟨1, _⟩ => show b.val = 0 + 1 * b.val; omega

end Reads

section Land
variable (c : Dev nD) (n : Fin 8) (k : Fin 4)

/-- A copy whose words are `h`'s, as it is started, is one that leaves `h`. -/
theorem started {sp sp' : Space} {s : Shape} {e : EltTy} (dst : Memref sig .tc sp s e) (src : Memref sig .tc sp' s e) (A : DmaSems sig S_) (N : ℕ)
    (f h : Buf (Elt F) (dst.view.loc (c : Thread nD τ))) (g : Buf (Elt F) (src.view.loc (c : Thread nD τ)))
    (hh : ∀ j, src.view.read (Elt F) g j = dst.view.read (Elt F) h j) :
    Transfers.Flight countersEmb (c : Thread nD τ) (SemLoc.dma A.sem) () N
        iprop(pP c dst (dst.view.writes (Elt F) f [⟨Rect.whole s, ReadAs.same.apply (src.view.read (Elt F) g)⟩]) ∗ pP c src g)
      ⊢ (flP c dst src A N h g : sProp 𝕄) :=
  ent (congrArg (fun P : sProp 𝕄 => Transfers.Flight countersEmb (c : Thread nD τ) (SemLoc.dma A.sem) () N iprop(P ∗ pP c src g))
    (landed c dst f h _ hh))

variable (X Q E : Vec F S32768x256 .f32) (I : Vec F S32768x1 .i32)

/-- The copy of a chunk of a tile into a slot, as started. -/
theorem startedX (s : Fin 4) (f : Buf (Elt F) ((xsl s k).view.loc (c : Thread nD τ))) :
    Transfers.Flight countersEmb (c : Thread nD τ) (SemLoc.dma (csem s k).sem) () 32768
        iprop(pP c (xsl s k) ((xsl s k).view.writes (Elt F) f [⟨Rect.whole S1024x256, ReadAs.same.apply ((xch n k).view.read (Elt F) X)⟩]) ∗ pP c (xch n k) X)
      ⊢ (flyXk c X n s k : sProp 𝕄) :=
  started c _ _ _ _ _ _ _ fun j => readX n k X s j
/-- The copies of a slot's chunks out, as started, the slot holding the tile of the array. -/
theorem startedQ (p : Fin 2) (f : Buf (Elt F) ((qch n k).view.loc (c : Thread nD τ))) :
    Transfers.Flight countersEmb (c : Thread nD τ) (SemLoc.dma (qsem p k).sem) () 32768
        iprop(pP c (qch n k) ((qch n k).view.writes (Elt F) f [⟨Rect.whole S1024x256, ReadAs.same.apply ((qsl p k).view.read (Elt F) (atSlot (B := 2) Q n.val))⟩])
          ∗ pP c (qsl p k) (atSlot (B := 2) Q n.val))
      ⊢ (flyQk c Q n p k : sProp 𝕄) :=
  started c _ _ _ _ _ _ _ fun j => readQ n k Q p j
theorem startedE (p : Fin 2) (f : Buf (Elt F) ((ech n k).view.loc (c : Thread nD τ))) :
    Transfers.Flight countersEmb (c : Thread nD τ) (SemLoc.dma (esem p k).sem) () 32768
        iprop(pP c (ech n k) ((ech n k).view.writes (Elt F) f [⟨Rect.whole S1024x256, ReadAs.same.apply ((esl p k).view.read (Elt F) (atSlot (B := 2) E n.val))⟩])
          ∗ pP c (esl p k) (atSlot (B := 2) E n.val))
      ⊢ (flyEk c E n p k : sProp 𝕄) :=
  started c _ _ _ _ _ _ _ fun j => readE n k E p j
theorem startedI (p : Fin 2) (f : Buf (Elt F) ((ich n).view.loc (c : Thread nD τ))) :
    Transfers.Flight countersEmb (c : Thread nD τ) (SemLoc.dma (isem p).sem) () 65536
        iprop(pP c (ich n) ((ich n).view.writes (Elt F) f [⟨Rect.whole S4096x1, ReadAs.same.apply ((isl p).view.read (Elt F) (atSlot (B := 2) I n.val))⟩])
          ∗ pP c (isl p) (atSlot (B := 2) I n.val))
      ⊢ (flyIk c I n p : sProp 𝕄) :=
  started c _ _ _ _ _ _ _ fun j => readI n I p j

end Land

end Cert.Proof.Ideal
-- ==== Proof.Ideal.Run10.lean ====
/-
  The first stretch of the first kernel's body: the tile to be fetched ahead is started, the outputs of the tile
  before the last are waited for, the two weight blocks are read.
-/
module

public import proofs.«01_k».proof.Proof.Ideal.Pieces
public import Idealize.ShloMosaic.Lib.VecWindow
public import Idealize.ShloMosaic.Lib.SparseCore.ProtocolKit

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (X : Vec F S32768x256 .f32) (Q E : Vec F S32768x256 .f32) (I : Vec F S32768x1 .i32)
  (aW aT : Memref sig .tc .vmem S256x256 .f32) (hW : aW.IsWhole) (hT : aT.IsWhole)
  (gW : Buf (Elt F) (aW.view.loc (c : Thread nD τ))) (gT : Buf (Elt F) (aT.view.loc (c : Thread nD τ)))
  (t : Fin grid0.N)

/-- The first stretch at point `t`. -/
abbrev prog10 := k0_part10 (F := F) (grid0.coords t) hX (Memref.isWhole_whole _) aW hW aT hT
  hQ (Memref.isWhole_whole _) hE (Memref.isWhole_whole _) hI (Memref.isWhole_whole _) hH (Memref.isWhole_whole _) hS (Memref.isWhole_whole _)
  bX (Memref.isWhole_whole _) bQ (Memref.isWhole_whole _) bE (Memref.isWhole_whole _) bI (Memref.isWhole_whole _)
  bH (Memref.isWhole_whole _) bS (Memref.isWhole_whole _)
  cc0_scratch6 cc0_scratch7 cc0_scratch8 cc0_scratch9 cc0_scratch10

/-- The weight block as the body reads it. -/
abbrev wRead (a : Memref sig .tc .vmem S256x256 .f32) (g : Buf (Elt F) (a.view.loc (c : Thread nD τ))) : Vec F S256x256 .f32 :=
  a.view.readAt (Elt F) (Rect.unit (s := S256x256) ![0, 0] S256x256.size inb_S256x256_S256x256_0_0).toLoadRect g

/-- What the first stretch hands on: the weight blocks' forms. -/
def out10 (r : Σ' (arg0 : BitVec 32) (v0 : BitVec 32) (v1 : BitVec 32) (v14 : FVec F S256x256 .bf16) (v17 : FVec F S1x256 .f32), FVec F S256x256 .bf16) : Prop :=
  ∃ a b d, r = ⟨a, b, d, k0_pay3 (wRead c aW gW), k0_pay4 (wRead c aW gW), k0_pay5 (wRead c aT gT)⟩

/-- The condition of the prologue. -/
abbrev first (t : Fin grid0.N) : Prop :=
  Scalar.cmpi .ne (Scalar.extui (Scalar.cmpi .eq (BitVec.ofNat 32 (grid0.coords t 0).val) 0#32) : BitVec 32) 0#32 = 1#1

theorem first_iff : ∀ t : Fin grid0.N, Iff (first t) (t.val = 0) := by decide +kernel

/-- A whole row stored over anything is the row. -/
theorem rowH (f v : Vec F S1x256 .f32) :
    pP c bH (bH.view.writes (Elt F) f [⟨Rect.unit (s := S1x256) ![0, 0] S1x256.size inb_S1x256_S1x256_0_0, v⟩]) ⊢ (pP c bH v : sProp 𝕄) :=
  ent (pointsTo_congr fun i _ => congrFun (View.read_writes_full bH.view f inb_S1x256_S1x256_0_0 v []) i)
theorem rowS (f v : Vec F S1x128 .f32) :
    pP c bS (bS.view.writes (Elt F) f [⟨Rect.unit (s := S1x128) ![0, 0] S1x128.size inb_S1x128_S1x128_0_0, v⟩]) ⊢ (pP c bS v : sProp 𝕄) :=
  ent (pointsTo_congr fun i _ => congrFun (View.read_writes_full bS.view f inb_S1x128_S1x128_0_0 v []) i)

/-- The middle points: a tile started ahead, the outputs of the tile before the last waited for. -/
theorem run10_mid (h2 : 2 ≤ t.val) (h3 : t.val + 3 < 8) :
    iprop((∃ W, owes (c : Thread nD τ) 0 W) ∗ pP c aW gW ∗ pP c aT gT
        ∗ homeX c X (Ring.bk 8 (t.val + 3)) ∗ idleX c (Ring.sl 4 (t.val + 3))
        ∗ flyO c Q E I (Ring.bk 8 (t.val - 2)) (Ring.sl 2 t.val))
      ⊢ wp frame (wpE (defs₀ (F := F)) 𝒱₀ (c : Thread nD τ) none) Set.univ (prog10 aW aT hW hT t)
        (fun r => iprop(⌜out10 c aW aT gW gT r⌝ ∗ (∃ W, owes (c : Thread nD τ) 0 W) ∗ pP c aW gW ∗ pP c aT gT
          ∗ flyX c X (Ring.bk 8 (t.val + 3)) (Ring.sl 4 (t.val + 3))
          ∗ homeO c Q E I (Ring.bk 8 (t.val - 2)) ∗ idleO c (Ring.sl 2 t.val))) := by
  haveI : Fact (t.val + 3 < 8) := ⟨h3⟩
  haveI : Fact (2 ≤ t.val) := ⟨h2⟩
  have hc1 : ¬ first t := fun h => by have := (first_iff t).mp h; omega
  have hc2 : k0_cond2 (grid0.coords t) = 1#1 := (cond2_iff t).mpr h3
  have hc3 : k0_cond3 (grid0.coords t) = 1#1 := (cond3_iff t).mpr h2
  unfold homeX idleX flyO
  iintro ⟨⟨%W, HO⟩, HW, HT, ⟨Hx0, Hx1, Hx2, Hx3⟩, ⟨⟨%f, Hs0, Hs1, Hs2, Hs3⟩, Hc0, Hc1, Hc2, Hc3⟩,
    ⟨Hq0, Hq1, Hq2, Hq3⟩, ⟨He0, He1, He2, He3⟩, Hi⟩
  dsimp only [prog10]
  sl_unfold [k0_part10, k0_part3, k0_part4, k0_part5]
  sl_exec
  sl_step
  unfold flyX homeO idleO
  isplitr
  · ipureintro; exact ⟨_, _, _, rfl⟩
  iclose using startedX

/-- The late points: no tile is left to start. -/
theorem run10_late (h3 : ¬ t.val + 3 < 8) :
    iprop((∃ W, owes (c : Thread nD τ) 0 W) ∗ pP c aW gW ∗ pP c aT gT
        ∗ flyO c Q E I (Ring.bk 8 (t.val - 2)) (Ring.sl 2 t.val))
      ⊢ wp frame (wpE (defs₀ (F := F)) 𝒱₀ (c : Thread nD τ) none) Set.univ (prog10 aW aT hW hT t)
        (fun r => iprop(⌜out10 c aW aT gW gT r⌝ ∗ (∃ W, owes (c : Thread nD τ) 0 W) ∗ pP c aW gW ∗ pP c aT gT
          ∗ homeO c Q E I (Ring.bk 8 (t.val - 2)) ∗ idleO c (Ring.sl 2 t.val))) := by
  have h2 : 2 ≤ t.val := by omega
  haveI : Fact (2 ≤ t.val) := ⟨h2⟩
  have hc1 : ¬ first t := fun h => by have := (first_iff t).mp h; omega
  have hc2 : ¬ k0_cond2 (grid0.coords t) = 1#1 := fun h => h3 ((cond2_iff t).mp h)
  have hc3 : k0_cond3 (grid0.coords t) = 1#1 := (cond3_iff t).mpr h2
  unfold flyO
  iintro ⟨⟨%W, HO⟩, HW, HT, ⟨Hq0, Hq1, Hq2, Hq3⟩, ⟨He0, He1, He2, He3⟩, Hi⟩
  dsimp only [prog10]
  sl_unfold [k0_part10, k0_part4, k0_part5]
  sl_exec
  sl_step
  unfold homeO idleO
  isplitr
  · ipureintro; exact ⟨_, _, _, rfl⟩
  iclose

/-- Point one: nothing to wait for yet. -/
theorem run10_one (h1 : t.val = 1) :
    iprop((∃ W, owes (c : Thread nD τ) 0 W) ∗ pP c aW gW ∗ pP c aT gT
        ∗ homeX c X (Ring.bk 8 (t.val + 3)) ∗ idleX c (Ring.sl 4 (t.val + 3)))
      ⊢ wp frame (wpE (defs₀ (F := F)) 𝒱₀ (c : Thread nD τ) none) Set.univ (prog10 aW aT hW hT t)
        (fun r => iprop(⌜out10 c aW aT gW gT r⌝ ∗ (∃ W, owes (c : Thread nD τ) 0 W) ∗ pP c aW gW ∗ pP c aT gT
          ∗ flyX c X (Ring.bk 8 (t.val + 3)) (Ring.sl 4 (t.val + 3)))) := by
  have h3 : t.val + 3 < 8 := by omega
  haveI : Fact (t.val + 3 < 8) := ⟨h3⟩
  have hc1 : ¬ first t := fun h => by have := (first_iff t).mp h; omega
  have hc2 : k0_cond2 (grid0.coords t) = 1#1 := (cond2_iff t).mpr h3
  have hc3 : ¬ k0_cond3 (grid0.coords t) = 1#1 := fun h => by have := (cond3_iff t).mp h; omega
  unfold homeX idleX
  iintro ⟨⟨%W, HO⟩, HW, HT, ⟨Hx0, Hx1, Hx2, Hx3⟩, ⟨⟨%f, Hs0, Hs1, Hs2, Hs3⟩, Hc0, Hc1, Hc2, Hc3⟩⟩
  dsimp only [prog10]
  sl_unfold [k0_part10, k0_part3]
  sl_exec
  sl_step
  unfold flyX
  isplitr
  · ipureintro; exact ⟨_, _, _, rfl⟩
  isplitl [HO]; · iexists _; iexact HO
  isplitl [HW]; · iexact HW
  isplitl [HT]; · iexact HT
  isplitl [Hc0]; · iapply (startedX c (Ring.bk 8 (t.val + 3)) 0 X (Ring.sl 4 (t.val + 3)) f); iexact Hc0
  isplitl [Hc1]; · iapply (startedX c (Ring.bk 8 (t.val + 3)) 1 X (Ring.sl 4 (t.val + 3)) f); iexact Hc1
  isplitl [Hc2]; · iapply (startedX c (Ring.bk 8 (t.val + 3)) 2 X (Ring.sl 4 (t.val + 3)) f); iexact Hc2
  iapply (startedX c (Ring.bk 8 (t.val + 3)) 3 X (Ring.sl 4 (t.val + 3)) f); iexact Hc3

/-- Point zero: tiles 0 to 3 started, the two accumulators zeroed. -/
theorem run10_zero (h0 : t.val = 0) (fH : Vec F S1x256 .f32) (fS : Vec F S1x128 .f32) :
    iprop((∃ W, owes (c : Thread nD τ) 0 W) ∗ pP c aW gW ∗ pP c aT gT
        ∗ (homeX c X 0 ∗ idleX c 0) ∗ (homeX c X 1 ∗ idleX c 1) ∗ (homeX c X 2 ∗ idleX c 2)
        ∗ homeX c X (Ring.bk 8 (t.val + 3)) ∗ idleX c (Ring.sl 4 (t.val + 3))
        ∗ pP c bH fH ∗ pP c bS fS)
      ⊢ wp frame (wpE (defs₀ (F := F)) 𝒱₀ (c : Thread nD τ) none) Set.univ (prog10 aW aT hW hT t)
        (fun r => iprop(⌜out10 c aW aT gW gT r⌝ ∗ (∃ W, owes (c : Thread nD τ) 0 W) ∗ pP c aW gW ∗ pP c aT gT
          ∗ flyX c X 0 0 ∗ flyX c X 1 1 ∗ flyX c X 2 2
          ∗ flyX c X (Ring.bk 8 (t.val + 3)) (Ring.sl 4 (t.val + 3)) ∗ pP c bH (k0_pay1 (F := F)) ∗ pP c bS (k0_pay2 (F := F)))) := by
  have h3 : t.val + 3 < 8 := by omega
  haveI : Fact (t.val + 3 < 8) := ⟨h3⟩
  have hc1 : first t := (first_iff t).mpr h0
  have hc2 : k0_cond2 (grid0.coords t) = 1#1 := (cond2_iff t).mpr h3
  have hc3 : ¬ k0_cond3 (grid0.coords t) = 1#1 := fun h => by have := (cond3_iff t).mp h; omega
  unfold homeX idleX
  iintro ⟨⟨%W, HO⟩, HW, HT,
    ⟨⟨Hx0, Hx1, Hx2, Hx3⟩, ⟨%f, Hs0, Hs1, Hs2, Hs3⟩, Hc0, Hc1, Hc2, Hc3⟩,
    ⟨⟨Ix0, Ix1, Ix2, Ix3⟩, ⟨%g, Is0, Is1, Is2, Is3⟩, Ic0, Ic1, Ic2, Ic3⟩,
    ⟨⟨Jx0, Jx1, Jx2, Jx3⟩, ⟨%h, Js0, Js1, Js2, Js3⟩, Jc0, Jc1, Jc2, Jc3⟩,
    ⟨Kx0, Kx1, Kx2, Kx3⟩, ⟨⟨%k, Ks0, Ks1, Ks2, Ks3⟩, Kc0, Kc1, Kc2, Kc3⟩, HH, HS⟩
  dsimp only [prog10]
  sl_unfold [k0_part10, k0_part1, k0_part2, k0_part3]
  sl_exec
  sl_step
  unfold flyX
  isplitr
  · ipureintro; exact ⟨_, _, _, rfl⟩
  isplitl [HO]; · iexists _; iexact HO
  isplitl [HW]; · iexact HW
  isplitl [HT]; · iexact HT
  isplitl [Hc0 Hc1 Hc2 Hc3]
  · isplitl [Hc0]; · iapply (startedX c 0 0 X 0 f); iexact Hc0
    isplitl [Hc1]; · iapply (startedX c 0 1 X 0 f); iexact Hc1
    isplitl [Hc2]; · iapply (startedX c 0 2 X 0 f); iexact Hc2
    iapply (startedX c 0 3 X 0 f); iexact Hc3
  isplitl [Ic0 Ic1 Ic2 Ic3]
  · isplitl [Ic0]; · iapply (startedX c 1 0 X 1 g); iexact Ic0
    isplitl [Ic1]; · iapply (startedX c 1 1 X 1 g); iexact Ic1
    isplitl [Ic2]; · iapply (startedX c 1 2 X 1 g); iexact Ic2
    iapply (startedX c 1 3 X 1 g); iexact Ic3
  isplitl [Jc0 Jc1 Jc2 Jc3]
  · isplitl [Jc0]; · iapply (startedX c 2 0 X 2 h); iexact Jc0
    isplitl [Jc1]; · iapply (startedX c 2 1 X 2 h); iexact Jc1
    isplitl [Jc2]; · iapply (startedX c 2 2 X 2 h); iexact Jc2
    iapply (startedX c 2 3 X 2 h); iexact Jc3
  iclose using startedX, rowH, rowS
end

end Cert.Proof.Ideal
-- ==== Proof.Ideal.Halves.lean ====
/-
  Half a tile in a slot: 2048 rows of a buffer of slots, held as one window. Two chunks of 1024 rows make a half
  tile, two halves make a slot of indices; a half tile stored is a half of the array the slot then holds.
-/
module

public import proofs.«01_k».proof.Proof.Ideal.Pieces
public import Idealize.ShloMosaic.Lib.VecWindow

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]
local notation "𝕄" => MT nD τ sig Unit (Elt F) ℕ (UU nD τ) ℕ

/-- Rows `o`, …, `o + 2047` of tile `n` of an array of 32768 rows. -/
def rowsOf {α : Type} {W : ℕ} [NeZero W] (Y : (⟨2, ![32768, W]⟩ : Shape).Idx → α) (n o : ℕ) : (⟨3, ![1, 2048, W]⟩ : Shape).Idx → α :=
  fun i => Y (ix2 (Fin.ofNat 32768 (4096 * n + o + (i 1).val)) (Fin.ofNat W (i 2).val))

section Rows
variable {B W : ℕ}

/-- `R` rows from row `o` of slot `s`. -/
abbrev rows (s : Fin B) (o R : ℕ) (h : ∀ a, (![s.val, o, 0] : Fin 3 → ℕ) a + (![1, R, W] : Fin 3 → ℕ) a ≤ (⟨3, ![B, 4096, W]⟩ : Shape).size a) :
    Rect (⟨3, ![B, 4096, W]⟩ : Shape) := Rect.unit (s := ⟨3, ![B, 4096, W]⟩) ![s.val, o, 0] ![1, R, W] h

theorem mem_rows (s : Fin B) (o R : ℕ) (h) (i : (⟨3, ![B, 4096, W]⟩ : Shape).Idx) :
    Iff (i ∈ (rows (W := W) s o R h).set) ((i 0).val = s.val ∧ o ≤ (i 1).val ∧ (i 1).val < o + R) := by
  refine Iff.trans Rect.mem_set_unit ⟨fun hh => ?_, fun hh a => ?_⟩
  · have h0 := hh 0
    have h1 := hh 1
    have e0 : s.val ≤ (i 0).val ∧ (i 0).val < s.val + 1 := h0
    have e1 : o ≤ (i 1).val ∧ (i 1).val < o + R := h1
    exact ⟨by omega, e1⟩
  · match a with
    | ⟨0, _⟩ => show s.val ≤ (i 0).val ∧ (i 0).val < s.val + 1; omega
    | ⟨1, _⟩ => exact hh.2
    | ⟨2, _⟩ => exact ⟨Nat.zero_le _, by show (i 2).val < 0 + W; have : (i 2).val < W := (i 2).isLt; omega⟩

/-- Rows stand one part after the other. -/
theorem rows_set (s : Fin B) (o R o' R' Rt : ℕ) (h h' ht) (ho : o' = o + R) (hR : Rt = R + R') :
    (rows (W := W) s o Rt ht).set = (rows (W := W) s o R h).set ∪ (rows (W := W) s o' R' h').set := by
  ext i
  rw [Finset.mem_union, mem_rows, mem_rows, mem_rows]
  omega

theorem rows_disjoint (s : Fin B) (o R o' R' : ℕ) (h h') (ho : o' = o + R) :
    Disjoint (rows (W := W) s o R h).set (rows (W := W) s o' R' h').set := by
  rw [Finset.disjoint_left]
  intro i hi hi'
  rw [mem_rows] at hi hi'
  omega

section Held
variable (c : Dev nD) {e : EltTy}

/-- A window of a buffer held at `f`. -/
abbrev pR {s : Shape} (M : Memref sig .tc .vmem s e) (R : Rect s) (f : Buf (Elt F) (M.view.loc (c : Thread nD τ))) : sProp 𝕄 :=
  M.view.loc (c : Thread nD τ) ↦[M.view.setOn R.set]{fullShare} f

/-- A window of rows is its two parts. -/
theorem pR_rows (M : Memref sig .tc .vmem ⟨3, ![B, 4096, W]⟩ e) (f : Buf (Elt F) (M.view.loc (c : Thread nD τ)))
    (s : Fin B) (o R o' R' Rt : ℕ) (h h' ht) (ho : o' = o + R) (hR : Rt = R + R') :
    (pR c M (rows s o Rt ht) f : sProp 𝕄) ⊣⊢ iprop(pR c M (rows s o R h) f ∗ pR c M (rows s o' R' h') f) := by
  have e1 : M.view.setOn (rows s o Rt ht).set = M.view.setOn (rows s o R h).set ∪ M.view.setOn (rows s o' R' h').set := by
    rw [rows_set s o R o' R' Rt h h' ht ho hR]; exact Finset.map_union _ _
  have e2 : Disjoint (M.view.setOn (rows s o R h).set) (M.view.setOn (rows s o' R' h').set) :=
    (Finset.disjoint_map _).mpr (rows_disjoint s o R o' R' h h' ho)
  unfold pR
  rw [e1]
  exact pointsTo_union e2

/-- A chunk of a slot is a window of rows. -/
theorem pP_rows {R : ℕ} (M : Memref sig .tc .vmem ⟨3, ![B, 4096, W]⟩ e) (f : Buf (Elt F) (M.view.loc (c : Thread nD τ)))
    (s : Fin B) (o : ℕ) (h hr) (hq : (⟨3, ![1, R, W]⟩ : Shape).Squeezes ⟨2, ![R, W]⟩) :
    (pP c ((M.slice (rows s o R h) hr).squeeze ⟨2, ![R, W]⟩ hq) f : sProp 𝕄) = pR c M (rows s o R h) f :=
  congrArg (fun S => (M.view.loc (c : Thread nD τ) ↦[S]{fullShare} f : sProp 𝕄))
    ((View.set_reshape _ _).trans (View.set_slice (r := rows s o R h) M.view))

/-- A window stored over whole is what was stored. -/
theorem pR_stored {s : Shape} (M : Memref sig .tc .vmem s e) (R : Rect s) (f G : Buf (Elt F) (M.view.loc (c : Thread nD τ)))
    (v : R.shape.Idx → Elt F e) (h : ∀ j, v j = M.view.read (Elt F) G (R.emb j)) :
    (pR c M R (M.view.writes (Elt F) f [⟨R, v⟩]) : sProp 𝕄) = pR c M R G := by
  refine pointsTo_congr fun i hi => ?_
  obtain ⟨j, hj, rfl⟩ := Finset.mem_map.mp hi
  rw [← Rect.map_emb_univ] at hj
  obtain ⟨k, _, rfl⟩ := Finset.mem_map.mp hj
  have h1 := (View.read_writes_cons_emb M.view f R v [] k).trans (h k)
  exact (cast_inj _).mp h1

end Held

/-- Half a slot that holds tile `n` of an array reads as those rows. -/
theorem atSlot_rows {α : Type} [NeZero W] (Y : (⟨2, ![32768, W]⟩ : Shape).Idx → α) (n o : ℕ) (s : Fin B) (h) (j : (⟨3, ![1, 2048, W]⟩ : Shape).Idx) :
    atSlot (B := B) Y n ((rows (W := W) s o 2048 h).emb j) = rowsOf Y n o j := by
  have h1 : (((rows (W := W) s o 2048 h).emb j) 1).val = o + 1 * (j 1).val := Rect.emb_apply _ _ _
  have h2 : (((rows (W := W) s o 2048 h).emb j) 2).val = 0 + 1 * (j 2).val := Rect.emb_apply _ _ _
  unfold atSlot rowsOf
  rw [h1, h2]
  congr 2 <;> congr 1 <;> omega

end Rows

/-! ## The half tiles of the five buffers -/

section Halves
variable (c : Dev nD)

theorem rX_inb (s : Fin 4) (o : ℕ) (ho : o + 2048 ≤ 4096) : ∀ a, (![s.val, o, 0] : Fin 3 → ℕ) a + S1x2048x256.size a ≤ S4x4096x256.size a := by
  have := s.isLt
  intro a
  match a with
  | ⟨0, _⟩ => show s.val + 1 ≤ 4; omega
  | ⟨1, _⟩ => exact ho
  | ⟨2, _⟩ => exact Nat.le_refl _
theorem rO_inb (p : Fin 2) (o : ℕ) (ho : o + 2048 ≤ 4096) : ∀ a, (![p.val, o, 0] : Fin 3 → ℕ) a + S1x2048x256.size a ≤ S2x4096x256.size a := by
  have := p.isLt
  intro a
  match a with
  | ⟨0, _⟩ => show p.val + 1 ≤ 2; omega
  | ⟨1, _⟩ => exact ho
  | ⟨2, _⟩ => exact Nat.le_refl _
theorem rI_inb (p : Fin 2) (o : ℕ) (ho : o + 2048 ≤ 4096) : ∀ a, (![p.val, o, 0] : Fin 3 → ℕ) a + S1x2048x1.size a ≤ S2x4096x1.size a := by
  have := p.isLt
  intro a
  match a with
  | ⟨0, _⟩ => show p.val + 1 ≤ 2; omega
  | ⟨1, _⟩ => exact ho
  | ⟨2, _⟩ => exact Nat.le_refl _

/-- Half a slot of the input buffer, of an output buffer, of the index buffer. -/
abbrev rX (s : Fin 4) (o : ℕ) (ho : o + 2048 ≤ 4096) : Rect S4x4096x256 := Rect.unit (s := S4x4096x256) ![s.val, o, 0] S1x2048x256.size (rX_inb s o ho)
abbrev rO (p : Fin 2) (o : ℕ) (ho : o + 2048 ≤ 4096) : Rect S2x4096x256 := Rect.unit (s := S2x4096x256) ![p.val, o, 0] S1x2048x256.size (rO_inb p o ho)
abbrev rI (p : Fin 2) (o : ℕ) (ho : o + 2048 ≤ 4096) : Rect S2x4096x1 := Rect.unit (s := S2x4096x1) ![p.val, o, 0] S1x2048x1.size (rI_inb p o ho)

theorem halfX (s : Fin 4) (o : ℕ) (ho) (k k' : Fin 4) (hk : o = 1024 * k.val) (hk' : k'.val = k.val + 1) (f : Vec F S4x4096x256 .f32) :
    (pR c bX (rX s o ho) f : sProp 𝕄) ⊣⊢ iprop(pP c (xsl s k) f ∗ pP c (xsl s k') f)   := by
  subst hk
  have e (k : Fin 4) : (pP c (xsl s k) f : sProp 𝕄) = pR c bX (rows (B := 4) (W := 256) s (1024 * k.val) 1024 (xslOff_inb s k)) f :=
    pP_rows (B := 4) (W := 256) c bX f s (1024 * k.val) (xslOff_inb s k) (fun _ => rfl) squeezes_S1x1024x256_S1024x256
  rw [e k, e k']
  exact pR_rows (B := 4) (W := 256) c bX f s _ 1024 _ 1024 2048 _ _ _ (by omega) rfl

theorem halfQ (p : Fin 2) (o : ℕ) (ho) (k k' : Fin 4) (hk : o = 1024 * k.val) (hk' : k'.val = k.val + 1) (f : Vec F S2x4096x256 .f32) :
    (pR c bQ (rO p o ho) f : sProp 𝕄) ⊣⊢ iprop(pP c (qsl p k) f ∗ pP c (qsl p k') f) := by
  subst hk
  have e (k : Fin 4) : (pP c (qsl p k) f : sProp 𝕄) = pR c bQ (rows (B := 2) (W := 256) p (1024 * k.val) 1024 (oslOff_inb p k)) f :=
    pP_rows (B := 2) (W := 256) c bQ f p (1024 * k.val) (oslOff_inb p k) (fun _ => rfl) squeezes_S1x1024x256_S1024x256
  rw [e k, e k']
  exact pR_rows (B := 2) (W := 256) c bQ f p _ 1024 _ 1024 2048 _ _ _ (by omega) rfl

theorem halfE (p : Fin 2) (o : ℕ) (ho) (k k' : Fin 4) (hk : o = 1024 * k.val) (hk' : k'.val = k.val + 1) (f : Vec F S2x4096x256 .f32) :
    (pR c bE (rO p o ho) f : sProp 𝕄) ⊣⊢ iprop(pP c (esl p k) f ∗ pP c (esl p k') f) := by
  subst hk
  have e (k : Fin 4) : (pP c (esl p k) f : sProp 𝕄) = pR c bE (rows (B := 2) (W := 256) p (1024 * k.val) 1024 (oslOff_inb p k)) f :=
    pP_rows (B := 2) (W := 256) c bE f p (1024 * k.val) (oslOff_inb p k) (fun _ => rfl) squeezes_S1x1024x256_S1024x256
  rw [e k, e k']
  exact pR_rows (B := 2) (W := 256) c bE f p _ 1024 _ 1024 2048 _ _ _ (by omega) rfl

theorem halfI (p : Fin 2) (h0 h1) (f : Vec F S2x4096x1 .i32) :
    (pP c (isl p) f : sProp 𝕄) ⊣⊢ iprop(pR c bI (rI p 0 h0) f ∗ pR c bI (rI p 2048 h1) f) := by
  have e : (pP c (isl p) f : sProp 𝕄) = pR c bI (rows (B := 2) (W := 1) p (1024 * 0) 4096 (islOff_inb p)) f :=
    pP_rows (B := 2) (W := 1) c bI f p (1024 * 0) (islOff_inb p) (fun _ => rfl) squeezes_S1x4096x1_S4096x1
  rw [e]
  exact pR_rows (B := 2) (W := 1) c bI f p 0 2048 2048 2048 4096 _ _ _ rfl rfl

/-- The two chunks of a half of a slot, the half stored over with rows of `Y`. -/
theorem storedQ (p : Fin 2) (o : ℕ) (ho) (k k' : Fin 4) (hk : o = 1024 * k.val) (hk' : k'.val = k.val + 1) (n : Fin 8)
    (off : Fin 3 → ℕ) (hoff : off = ![p.val, o, 0]) (inb) (f : Vec F S2x4096x256 .f32) (Y : Vec F S32768x256 .f32)
    (v : Vec F S1x2048x256 .f32) (hv : v = rowsOf Y n.val o) :
    (pR c bQ (rO p o ho) (bQ.view.writes (Elt F) f [⟨Rect.unit (s := S2x4096x256) off S1x2048x256.size inb, v⟩]) : sProp 𝕄)
      ⊢ iprop(pP c (qsl p k) (atSlot (B := 2) Y n.val) ∗ pP c (qsl p k') (atSlot (B := 2) Y n.val)) := by
  subst hoff hv
  exact (ent (pR_stored c bQ (rO p o ho) f (atSlot (B := 2) Y n.val) _ fun j => (atSlot_rows (B := 2) Y n.val o p (rO_inb p o ho) j).symm)).trans
    (halfQ c p o ho k k' hk hk' _).1
theorem storedE (p : Fin 2) (o : ℕ) (ho) (k k' : Fin 4) (hk : o = 1024 * k.val) (hk' : k'.val = k.val + 1) (n : Fin 8)
    (off : Fin 3 → ℕ) (hoff : off = ![p.val, o, 0]) (inb) (f : Vec F S2x4096x256 .f32) (Y : Vec F S32768x256 .f32)
    (v : Vec F S1x2048x256 .f32) (hv : v = rowsOf Y n.val o) :
    (pR c bE (rO p o ho) (bE.view.writes (Elt F) f [⟨Rect.unit (s := S2x4096x256) off S1x2048x256.size inb, v⟩]) : sProp 𝕄)
      ⊢ iprop(pP c (esl p k) (atSlot (B := 2) Y n.val) ∗ pP c (esl p k') (atSlot (B := 2) Y n.val)) := by
  subst hoff hv
  exact (ent (pR_stored c bE (rO p o ho) f (atSlot (B := 2) Y n.val) _ fun j => (atSlot_rows (B := 2) Y n.val o p (rO_inb p o ho) j).symm)).trans
    (halfE c p o ho k k' hk hk' _).1
/-- Half a slot of indices stored over with rows of `Y`. -/
theorem storedI (p : Fin 2) (o : ℕ) (ho) (n : Fin 8) (off : Fin 3 → ℕ) (hoff : off = ![p.val, o, 0]) (inb) (f : Vec F S2x4096x1 .i32)
    (Y : Vec F S32768x1 .i32) (v : Vec F S1x2048x1 .i32) (hv : v = rowsOf Y n.val o) :
    (pR c bI (rI p o ho) (bI.view.writes (Elt F) f [⟨Rect.unit (s := S2x4096x1) off S1x2048x1.size inb, v⟩]) : sProp 𝕄)
      ⊢ pR c bI (rI p o ho) (atSlot (B := 2) Y n.val) := by
  subst hoff hv
  exact ent (pR_stored c bI (rI p o ho) f (atSlot (B := 2) Y n.val) _ fun j => (atSlot_rows (B := 2) Y n.val o p (rI_inb p o ho) j).symm)

/-- Half a slot read. -/
theorem readHalf (s : Fin 4) (o : ℕ) (ho : o + 2048 ≤ 4096) (n : Fin 8) (off : Fin 3 → ℕ) (hoff : off = ![s.val, o, 0]) (inb) (X : Vec F S32768x256 .f32) :
    bX.view.readAt (Elt F) (Rect.unit (s := S4x4096x256) off S1x2048x256.size inb).toLoadRect (atSlot (B := 4) X n.val) = rowsOf X n.val o := by
  subst hoff
  funext j
  exact atSlot_rows (B := 4) X n.val o s (rX_inb s o ho) j

end Halves

end Cert.Proof.Ideal
-- ==== Proof.Ideal.Run16.lean ====
/-
  The body of the first kernel after its first stretch: the tile waited for in two halves, each half computed, stored
  and started on its way out, the two accumulators added to.
-/
module

public import proofs.«01_k».proof.Proof.Ideal.Run10
public import proofs.«01_k».proof.Proof.Ideal.Halves

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (v14 : FVec F S256x256 .bf16) (v17 : FVec F S1x256 .f32) (v20 : FVec F S256x256 .bf16)

/-- The three arrays hold, half tile by half tile, what the body computes of tile `n`. -/
structure Fits (X Q E : Vec F S32768x256 .f32) (I : Vec F S32768x1 .i32) (n : Fin 8) : Prop where
  q0 : k0_pay13 (k0_pay12 v14 v17 v20 (rowsOf X n.val 0)) = rowsOf Q n.val 0
  q1 : k0_pay13 (k0_pay12 v14 v17 v20 (rowsOf X n.val 2048)) = rowsOf Q n.val 2048
  e0 : k0_pay14 (k0_pay10 v14 v17 (rowsOf X n.val 0)) = rowsOf E n.val 0
  e1 : k0_pay14 (k0_pay10 v14 v17 (rowsOf X n.val 2048)) = rowsOf E n.val 2048
  i0 : k0_pay15 (k0_pay9 v14 v17 (rowsOf X n.val 0)) = rowsOf I n.val 0
  i1 : k0_pay15 (k0_pay9 v14 v17 (rowsOf X n.val 2048)) = rowsOf I n.val 2048

/-- The two accumulators after one half tile more. -/
abbrev histStep (x : Vec F S1x2048x256 .f32) (h : Vec F S1x256 .f32) : Vec F S1x256 .f32 := k0_pay16 (k0_pay11 v14 v17 x) h
abbrev sseStep (x : Vec F S1x2048x256 .f32) (s : Vec F S1x128 .f32) : Vec F S1x128 .f32 := k0_pay17 (k0_pay7 v14 v17 x) s
end

section
variable (c : Dev nD)

/-- An accumulator read whole; stored whole. -/
theorem readH (f : Vec F S1x256 .f32) :
    bH.view.readAt (Elt F) (Rect.unit (s := S1x256) ![0, 0] S1x256.size inb_S1x256_S1x256_0_0).toLoadRect f = f :=
  View.readAt_full bH.view f inb_S1x256_S1x256_0_0
theorem readS (f : Vec F S1x128 .f32) :
    bS.view.readAt (Elt F) (Rect.unit (s := S1x128) ![0, 0] S1x128.size inb_S1x128_S1x128_0_0).toLoadRect f = f :=
  View.readAt_full bS.view f inb_S1x128_S1x128_0_0
theorem storedH (f v v' : Vec F S1x256 .f32) (h : v = v') :
    pP c bH (bH.view.writes (Elt F) f [⟨Rect.unit (s := S1x256) ![0, 0] S1x256.size inb_S1x256_S1x256_0_0, v⟩]) ⊢ (pP c bH v' : sProp 𝕄) :=
  h ▸ rowH c f v
theorem storedS (f v v' : Vec F S1x128 .f32) (h : v = v') :
    pP c bS (bS.view.writes (Elt F) f [⟨Rect.unit (s := S1x128) ![0, 0] S1x128.size inb_S1x128_S1x128_0_0, v⟩]) ⊢ (pP c bS v' : sProp 𝕄) :=
  h ▸ rowS c f v
end

section
variable (c : Dev nD) (X : Vec F S32768x256 .f32) (Q E : Vec F S32768x256 .f32) (I : Vec F S32768x1 .i32)
  (aW aT : Memref sig .tc .vmem S256x256 .f32) (hW : aW.IsWhole) (hT : aT.IsWhole)
  (gW : Buf (Elt F) (aW.view.loc (c : Thread nD τ))) (gT : Buf (Elt F) (aT.view.loc (c : Thread nD τ)))
  (t : Fin grid0.N)

abbrev prog16 := k0_part16 (F := F) (grid0.coords t) hX (Memref.isWhole_whole _) aW hW aT hT
  hQ (Memref.isWhole_whole _) hE (Memref.isWhole_whole _) hI (Memref.isWhole_whole _) hH (Memref.isWhole_whole _) hS (Memref.isWhole_whole _)
  bX (Memref.isWhole_whole _) bQ (Memref.isWhole_whole _) bE (Memref.isWhole_whole _) bI (Memref.isWhole_whole _)
  bH (Memref.isWhole_whole _) bS (Memref.isWhole_whole _)
  cc0_scratch6 cc0_scratch7 cc0_scratch8 cc0_scratch9 cc0_scratch10

/-- The weight block's forms. -/
abbrev wA : FVec F S256x256 .bf16 := k0_pay3 (wRead c aW gW)
abbrev wN : FVec F S1x256 .f32 := k0_pay4 (wRead c aW gW)
abbrev wB : FVec F S256x256 .bf16 := k0_pay5 (wRead c aT gT)

theorem run16 (P R : sProp 𝕄) (fits : Fits (wA c aW gW) (wN c aW gW) (wB c aT gT) X Q E I (Ring.bk 8 t.val))
    (H : Vec F S1x256 .f32) (S : Vec F S1x128 .f32)
    (h10 : P ⊢ wp frame (wpE (defs₀ (F := F)) 𝒱₀ (c : Thread nD τ) none) Set.univ (prog10 aW aT hW hT t)
        (fun r => iprop(⌜out10 c aW aT gW gT r⌝ ∗ (∃ W, owes (c : Thread nD τ) 0 W) ∗ pP c aW gW ∗ pP c aT gT
          ∗ pP c bH H ∗ pP c bS S ∗ flyX c X (Ring.bk 8 t.val) (Ring.sl 4 t.val) ∗ idleO c (Ring.sl 2 t.val) ∗ rawO c (Ring.bk 8 t.val) ∗ R))) :
    P ⊢ wp frame (wpE (defs₀ (F := F)) 𝒱₀ (c : Thread nD τ) none) Set.univ (prog16 aW aT hW hT t)
        (fun _ => iprop((∃ W, owes (c : Thread nD τ) 0 W) ∗ pP c aW gW ∗ pP c aT gT
          ∗ pP c bH (histStep (wA c aW gW) (wN c aW gW) (rowsOf X (Ring.bk 8 t.val).val 2048) (histStep (wA c aW gW) (wN c aW gW) (rowsOf X (Ring.bk 8 t.val).val 0) H))
          ∗ pP c bS (sseStep (wA c aW gW) (wN c aW gW) (rowsOf X (Ring.bk 8 t.val).val 2048) (sseStep (wA c aW gW) (wN c aW gW) (rowsOf X (Ring.bk 8 t.val).val 0) S))
          ∗ homeX c X (Ring.bk 8 t.val) ∗ idleX c (Ring.sl 4 t.val) ∗ flyO c Q E I (Ring.bk 8 t.val) (Ring.sl 2 t.val) ∗ R)) := by
  iintro HP
  dsimp only [prog16]
  rw [k0_part16_eq_skeleton]
  sl_unfold [k0_part16_skel]
  rw [k0_part11_eq_skeleton, k0_part12_eq_skeleton, k0_part13_eq_skeleton, k0_part14_eq_skeleton, k0_part15_eq_skeleton]
  rw [wp_bind]
  iapply (wp_wand_r Idealize.ShloMosaic.frame (wpE (defs₀ (F := F)) 𝒱₀ (c : Thread nD τ) none) Set.univ)
  isplitl [HP]
  · iapply h10; iexact HP
  iintro %r ⟨%hr, ⟨%W, HO⟩, HW, HT, HH, HS, HX, HD, HR, Hrest⟩
  obtain ⟨a, b, d, rfl⟩ := hr
  unfold flyX idleO rawO
  icases HX with ⟨Hx0, Hx1, Hx2, Hx3⟩
  icases HD with ⟨⟨%fq, Dq0, Dq1, Dq2, Dq3⟩, ⟨%fe, De0, De1, De2, De3⟩, ⟨%fi, Di⟩, ⟨Cq0, Cq1, Cq2, Cq3⟩, ⟨Ce0, Ce1, Ce2, Ce3⟩, Ci⟩
  icases HR with ⟨⟨⟨%rq0, Rq0⟩, ⟨%rq1, Rq1⟩, ⟨%rq2, Rq2⟩, ⟨%rq3, Rq3⟩⟩, ⟨⟨%re0, Re0⟩, ⟨%re1, Re1⟩, ⟨%re2, Re2⟩, ⟨%re3, Re3⟩⟩, ⟨%ri, Ri⟩⟩
  -- what the run will read and store
  have z0 : 0 + 2048 ≤ 4096 := by omega
  have z1 : 2048 + 2048 ≤ 4096 := by omega
  have hx0 := readHalf (F := F) (Ring.sl 4 t.val) 0 z0 (Ring.bk 8 t.val) _ (ClosedOff.eq (off := k0_off27 (grid0.coords t))) (k0_off27_inb _) X
  have hx1 := readHalf (F := F) (Ring.sl 4 t.val) 2048 z1 (Ring.bk 8 t.val) _ (ClosedOff.eq (off := k0_off38 (grid0.coords t))) (k0_off38_inb _) X
  have hrH := readH (F := F) H
  have hrS := readS (F := F) S
  have hrH' := readH (histStep (wA c aW gW) (wN c aW gW) (rowsOf X (Ring.bk 8 t.val).val 0) H)
  have hrS' := readS (sseStep (wA c aW gW) (wN c aW gW) (rowsOf X (Ring.bk 8 t.val).val 0) S)
  have hq1 : k0_pay24 (wA c aW gW) (wN c aW gW) (wB c aT gT) (rowsOf X (Ring.bk 8 t.val).val 2048) = rowsOf Q (Ring.bk 8 t.val).val 2048 := fits.q1
  have he1 : k0_pay25 (k0_pay22 (wA c aW gW) (wN c aW gW) (rowsOf X (Ring.bk 8 t.val).val 2048)) = rowsOf E (Ring.bk 8 t.val).val 2048 := fits.e1
  have hi1 : k0_pay26 (k0_pay21 (wA c aW gW) (wN c aW gW) (rowsOf X (Ring.bk 8 t.val).val 2048)) = rowsOf I (Ring.bk 8 t.val).val 2048 := fits.i1
  have hh1 (h : Vec F S1x256 .f32) : k0_pay27 (k0_pay23 (wA c aW gW) (wN c aW gW) (rowsOf X (Ring.bk 8 t.val).val 2048)) h
      = histStep (wA c aW gW) (wN c aW gW) (rowsOf X (Ring.bk 8 t.val).val 2048) h := rfl
  have hs1 (s : Vec F S1x128 .f32) : k0_pay28 (k0_pay19 (wA c aW gW) (wN c aW gW) (rowsOf X (Ring.bk 8 t.val).val 2048)) s
      = sseStep (wA c aW gW) (wN c aW gW) (rowsOf X (Ring.bk 8 t.val).val 2048) s := rfl
  -- the output slots as halves
  ihave Dq := (halfQ c (Ring.sl 2 t.val) 0 z0 0 1 rfl rfl fq).2 $$ [Dq0 Dq1]
  · isplitl [Dq0]; · iexact Dq0
    iexact Dq1
  ihave Dq' := (halfQ c (Ring.sl 2 t.val) 2048 z1 2 3 rfl rfl fq).2 $$ [Dq2 Dq3]
  · isplitl [Dq2]; · iexact Dq2
    iexact Dq3
  ihave De := (halfE c (Ring.sl 2 t.val) 0 z0 0 1 rfl rfl fe).2 $$ [De0 De1]
  · isplitl [De0]; · iexact De0
    iexact De1
  ihave De' := (halfE c (Ring.sl 2 t.val) 2048 z1 2 3 rfl rfl fe).2 $$ [De2 De3]
  · isplitl [De2]; · iexact De2
    iexact De3
  ihave Di' := (halfI c (Ring.sl 2 t.val) z0 z1 fi).1 $$ Di
  icases Di' with ⟨Di0, Di1⟩
  sl_unfold [k0_part11_skel, k0_part12_skel, k0_part13_skel, k0_part14_skel, k0_part15_skel]
  sl_exec
  -- the first half tile has landed
  ihave HXa := (halfX c (Ring.sl 4 t.val) 0 z0 0 1 rfl rfl (atSlot (B := 4) X (Ring.bk 8 t.val).val)).2 $$ [Hx0_dst Hx1_dst]
  · isplitl [Hx0_dst]; · iexact Hx0_dst
    iexact Hx1_dst
  sl_exec
  ihave Dq2 := (storedQ c (Ring.sl 2 t.val) 0 z0 0 1 rfl rfl (Ring.bk 8 t.val) _ (ClosedOff.eq (off := k0_off28 (grid0.coords t))) (k0_off28_inb _) fq Q _ fits.q0) $$ Dq
  icases Dq2 with ⟨Dq0, Dq1⟩
  ihave De2 := (storedE c (Ring.sl 2 t.val) 0 z0 0 1 rfl rfl (Ring.bk 8 t.val) _ (ClosedOff.eq (off := k0_off28 (grid0.coords t))) (k0_off28_inb _) fe E _ fits.e0) $$ De
  icases De2 with ⟨De0, De1⟩
  ihave Di0' := (storedI c (Ring.sl 2 t.val) 0 z0 (Ring.bk 8 t.val) _ (ClosedOff.eq (off := k0_off29 (grid0.coords t))) (k0_off29_inb _) fi I _ fits.i0) $$ Di0
  ihave HH' := (storedH c H _ (histStep (wA c aW gW) (wN c aW gW) (rowsOf X (Ring.bk 8 t.val).val 0) H) rfl) $$ HH
  ihave HS' := (storedS c S _ (sseStep (wA c aW gW) (wN c aW gW) (rowsOf X (Ring.bk 8 t.val).val 0) S) rfl) $$ HS
  sl_exec
  -- the second half tile has landed
  ihave HXb := (halfX c (Ring.sl 4 t.val) 2048 z1 2 3 rfl rfl (atSlot (B := 4) X (Ring.bk 8 t.val).val)).2 $$ [Hx2_dst Hx3_dst]
  · isplitl [Hx2_dst]; · iexact Hx2_dst
    iexact Hx3_dst
  sl_exec
  ihave Dq3 := (storedQ c (Ring.sl 2 t.val) 2048 z1 2 3 rfl rfl (Ring.bk 8 t.val) _ (ClosedOff.eq (off := k0_off39 (grid0.coords t))) (k0_off39_inb _) fq Q _ hq1) $$ Dq'
  icases Dq3 with ⟨Dq2, Dq3⟩
  ihave De3 := (storedE c (Ring.sl 2 t.val) 2048 z1 2 3 rfl rfl (Ring.bk 8 t.val) _ (ClosedOff.eq (off := k0_off39 (grid0.coords t))) (k0_off39_inb _) fe E _ he1) $$ De'
  icases De3 with ⟨De2, De3⟩
  ihave Di1' := (storedI c (Ring.sl 2 t.val) 2048 z1 (Ring.bk 8 t.val) _ (ClosedOff.eq (off := k0_off40 (grid0.coords t))) (k0_off40_inb _) fi I _ hi1) $$ Di1
  ihave Di := (halfI c (Ring.sl 2 t.val) z0 z1 _).2 $$ [Di0' Di1']
  · isplitl [Di0']; · iexact Di0'
    iexact Di1'
  sl_exec
  sl_step
  ihave HH2 := (storedH c _ _ _ (hh1 _)) $$ HH'
  ihave HS2 := (storedS c _ _ _ (hs1 _)) $$ HS'
  ihave HXa' := (halfX c (Ring.sl 4 t.val) 0 z0 0 1 rfl rfl (atSlot (B := 4) X (Ring.bk 8 t.val).val)).1 $$ HXa
  icases HXa' with ⟨Hs0, Hs1⟩
  ihave HXb' := (halfX c (Ring.sl 4 t.val) 2048 z1 2 3 rfl rfl (atSlot (B := 4) X (Ring.bk 8 t.val).val)).1 $$ HXb
  icases HXb' with ⟨Hs2, Hs3⟩
  unfold homeX idleX flyO
  isplitl [HO]; · iexists _; iexact HO
  isplitl [HW]; · iexact HW
  isplitl [HT]; · iexact HT
  isplitl [HH2]; · iexact HH2
  isplitl [HS2]; · iexact HS2
  isplitl [Hx0_src Hx1_src Hx2_src Hx3_src]
  · isplitl [Hx0_src]; · iexact Hx0_src
    isplitl [Hx1_src]; · iexact Hx1_src
    isplitl [Hx2_src]; · iexact Hx2_src
    iexact Hx3_src
  isplitl [Hs0 Hs1 Hs2 Hs3 Hx0 Hx1 Hx2 Hx3]
  · isplitl [Hs0 Hs1 Hs2 Hs3]
    · iexists (atSlot (B := 4) X (Ring.bk 8 t.val).val)
      isplitl [Hs0]; · iexact Hs0
      isplitl [Hs1]; · iexact Hs1
      isplitl [Hs2]; · iexact Hs2
      iexact Hs3
    isplitl [Hx0]; · iexact Hx0
    isplitl [Hx1]; · iexact Hx1
    isplitl [Hx2]; · iexact Hx2
    iexact Hx3
  isplitl [Cq0 Cq1 Cq2 Cq3 Ce0 Ce1 Ce2 Ce3 Ci]
  · isplitl [Cq0 Cq1 Cq2 Cq3]
    · isplitl [Cq0]; · iapply (startedQ c (Ring.bk 8 t.val) 0 Q (Ring.sl 2 t.val) rq0); iexact Cq0
      isplitl [Cq1]; · iapply (startedQ c (Ring.bk 8 t.val) 1 Q (Ring.sl 2 t.val) rq1); iexact Cq1
      isplitl [Cq2]; · iapply (startedQ c (Ring.bk 8 t.val) 2 Q (Ring.sl 2 t.val) rq2); iexact Cq2
      iapply (startedQ c (Ring.bk 8 t.val) 3 Q (Ring.sl 2 t.val) rq3); iexact Cq3
    isplitl [Ce0 Ce1 Ce2 Ce3]
    · isplitl [Ce0]; · iapply (startedE c (Ring.bk 8 t.val) 0 E (Ring.sl 2 t.val) re0); iexact Ce0
      isplitl [Ce1]; · iapply (startedE c (Ring.bk 8 t.val) 1 E (Ring.sl 2 t.val) re1); iexact Ce1
      isplitl [Ce2]; · iapply (startedE c (Ring.bk 8 t.val) 2 E (Ring.sl 2 t.val) re2); iexact Ce2
      iapply (startedE c (Ring.bk 8 t.val) 3 E (Ring.sl 2 t.val) re3); iexact Ce3
    iapply (startedI c (Ring.bk 8 t.val) I (Ring.sl 2 t.val) ri); iexact Ci
  iexact Hrest
end

end Cert.Proof.Ideal
-- ==== Proof.Ideal.Run.lean ====
/-
  The first kernel's body at one grid point: what follows its computation. At the last point the outputs of the last
  two tiles are waited for and the two accumulators are copied out; at the others nothing is done.
-/
module

public import proofs.«01_k».proof.Proof.Ideal.Run16

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (Q E : Vec F S32768x256 .f32) (I : Vec F S32768x1 .i32)
  (aW aT : Memref sig .tc .vmem S256x256 .f32) (hW : aW.IsWhole) (hT : aT.IsWhole)
  (gW : Buf (Elt F) (aW.view.loc (c : Thread nD τ))) (gT : Buf (Elt F) (aT.view.loc (c : Thread nD τ)))
  (t : Fin grid0.N)

/-- The whole body at point `t`. -/
abbrev prog := cc0__vq_main (F := F) (grid0.coords t) hX (Memref.isWhole_whole _) aW hW aT hT
  hQ (Memref.isWhole_whole _) hE (Memref.isWhole_whole _) hI (Memref.isWhole_whole _) hH (Memref.isWhole_whole _) hS (Memref.isWhole_whole _)
  bX (Memref.isWhole_whole _) bQ (Memref.isWhole_whole _) bE (Memref.isWhole_whole _) bI (Memref.isWhole_whole _)
  bH (Memref.isWhole_whole _) bS (Memref.isWhole_whole _)
  cc0_scratch6 cc0_scratch7 cc0_scratch8 cc0_scratch9 cc0_scratch10

/-- Before the last point nothing follows. -/
theorem runBody (P M : sProp 𝕄) (h7 : ¬ t.val = 7)
    (h16 : P ⊢ wp frame (wpE (defs₀ (F := F)) 𝒱₀ (c : Thread nD τ) none) Set.univ (prog16 aW aT hW hT t) (fun _ => M)) :
    P ⊢ wp frame (wpE (defs₀ (F := F)) 𝒱₀ (c : Thread nD τ) none) Set.univ (prog aW aT hW hT t) (fun _ => M) := by
  have hc4 : ¬ k0_cond4 (grid0.coords t) = 1#1 := fun h => h7 ((cond4_iff t).mp h)
  iintro HP
  dsimp only [prog]
  rw [cc0__vq_main_eq_skeleton]
  sl_unfold [cc0__vq_main_skel]
  rw [wp_bind]
  iapply (wp_wand_r Idealize.ShloMosaic.frame (wpE (defs₀ (F := F)) 𝒱₀ (c : Thread nD τ) none) Set.univ)
  isplitl [HP]
  · iapply h16; iexact HP
  iintro %r HM
  sl_exec
  sl_step
  iexact HM

/-- A row copied out whole. -/
theorem landedH (f H : Vec F S1x256 .f32) :
    pP c hH (hH.view.writes (Elt F) f [⟨Rect.whole S1x256, ReadAs.same.apply (bH.view.read (Elt F) H)⟩]) ⊢ (pP c hH H : sProp 𝕄) :=
  ent (landed c hH f H _ fun j => rfl)
theorem landedS (f S : Vec F S1x128 .f32) :
    pP c hS (hS.view.writes (Elt F) f [⟨Rect.whole S1x128, ReadAs.same.apply (bS.view.read (Elt F) S)⟩]) ⊢ (pP c hS S : sProp 𝕄) :=
  ent (landed c hS f S _ fun j => rfl)

/-- At the last point the outputs come home. -/
theorem runBody_last (P R : sProp 𝕄) (h7 : t.val = 7) (H : Vec F S1x256 .f32) (S : Vec F S1x128 .f32)
    (h16 : P ⊢ wp frame (wpE (defs₀ (F := F)) 𝒱₀ (c : Thread nD τ) none) Set.univ (prog16 aW aT hW hT t)
      (fun _ => iprop((∃ W, owes (c : Thread nD τ) 0 W) ∗ pP c bH H ∗ pP c bS S
        ∗ flyO c Q E I (Ring.bk 8 (t.val - 1)) (Ring.sl 2 (t.val + 1)) ∗ flyO c Q E I (Ring.bk 8 t.val) (Ring.sl 2 t.val)
        ∗ (∃ f : Vec F S1x256 .f32, pP c hH f) ∗ (∃ f : Vec F S1x128 .f32, pP c hS f) ∗ cP c (fsem 0) ∗ cP c (fsem 1) ∗ R))) :
    P ⊢ wp frame (wpE (defs₀ (F := F)) 𝒱₀ (c : Thread nD τ) none) Set.univ (prog aW aT hW hT t)
      (fun _ => iprop((∃ W, owes (c : Thread nD τ) 0 W) ∗ pP c bH H ∗ pP c bS S
        ∗ homeO c Q E I (Ring.bk 8 (t.val - 1)) ∗ idleO c (Ring.sl 2 (t.val + 1)) ∗ homeO c Q E I (Ring.bk 8 t.val) ∗ idleO c (Ring.sl 2 t.val)
        ∗ pP c hH H ∗ pP c hS S ∗ cP c (fsem 0) ∗ cP c (fsem 1) ∗ R)) := by
  haveI : Fact (1 ≤ t.val) := ⟨by omega⟩
  have hc4 : k0_cond4 (grid0.coords t) = 1#1 := (cond4_iff t).mpr h7
  iintro HP
  dsimp only [prog]
  rw [cc0__vq_main_eq_skeleton]
  sl_unfold [cc0__vq_main_skel]
  rw [wp_bind]
  iapply (wp_wand_r Idealize.ShloMosaic.frame (wpE (defs₀ (F := F)) 𝒱₀ (c : Thread nD τ) none) Set.univ)
  isplitl [HP]
  · iapply h16; iexact HP
  unfold flyO
  iintro %r ⟨⟨%W, HO⟩, HH, HS, ⟨⟨Haq0, Haq1, Haq2, Haq3⟩, ⟨Hae0, Hae1, Hae2, Hae3⟩, Hai⟩, ⟨⟨Hbq0, Hbq1, Hbq2, Hbq3⟩, ⟨Hbe0, Hbe1, Hbe2, Hbe3⟩, Hbi⟩, ⟨%fh, Hh⟩, ⟨%fs, Hs⟩, C0, C1, HR⟩
  sl_unfold [k0_part6, k0_part7, k0_part8, k0_part9]
  sl_exec
  sl_step
  unfold homeO idleO
  isplitl [HO]; · iexists _; iexact HO
  isplitl [HH]; · iexact HH
  isplitl [HS]; · iexact HS
  isplitl [Haq0_dst Haq1_dst Haq2_dst Haq3_dst Hae0_dst Hae1_dst Hae2_dst Hae3_dst Hai_dst]
  · isplitl [Haq0_dst Haq1_dst Haq2_dst Haq3_dst]
    · isplitl [Haq0_dst]; · iexact Haq0_dst
      isplitl [Haq1_dst]; · iexact Haq1_dst
      isplitl [Haq2_dst]; · iexact Haq2_dst
      iexact Haq3_dst
    isplitl [Hae0_dst Hae1_dst Hae2_dst Hae3_dst]
    · isplitl [Hae0_dst]; · iexact Hae0_dst
      isplitl [Hae1_dst]; · iexact Hae1_dst
      isplitl [Hae2_dst]; · iexact Hae2_dst
      iexact Hae3_dst
    iexact Hai_dst
  isplitl [Haq0_src Haq0 Haq1_src Haq1 Haq2_src Haq2 Haq3_src Haq3 Hae0_src Hae0 Hae1_src Hae1 Hae2_src Hae2 Hae3_src Hae3 Hai_src Hai]
  · isplitl [Haq0_src Haq1_src Haq2_src Haq3_src]
    · iexists _
      isplitl [Haq0_src]; · iexact Haq0_src
      isplitl [Haq1_src]; · iexact Haq1_src
      isplitl [Haq2_src]; · iexact Haq2_src
      iexact Haq3_src
    isplitl [Hae0_src Hae1_src Hae2_src Hae3_src]
    · iexists _
      isplitl [Hae0_src]; · iexact Hae0_src
      isplitl [Hae1_src]; · iexact Hae1_src
      isplitl [Hae2_src]; · iexact Hae2_src
      iexact Hae3_src
    isplitl [Hai_src]; · iexists _; iexact Hai_src
    isplitl [Haq0 Haq1 Haq2 Haq3]
    · isplitl [Haq0]; · iexact Haq0
      isplitl [Haq1]; · iexact Haq1
      isplitl [Haq2]; · iexact Haq2
      iexact Haq3
    isplitl [Hae0 Hae1 Hae2 Hae3]
    · isplitl [Hae0]; · iexact Hae0
      isplitl [Hae1]; · iexact Hae1
      isplitl [Hae2]; · iexact Hae2
      iexact Hae3
    iexact Hai
  isplitl [Hbq0_dst Hbq1_dst Hbq2_dst Hbq3_dst Hbe0_dst Hbe1_dst Hbe2_dst Hbe3_dst Hbi_dst]
  · isplitl [Hbq0_dst Hbq1_dst Hbq2_dst Hbq3_dst]
    · isplitl [Hbq0_dst]; · iexact Hbq0_dst
      isplitl [Hbq1_dst]; · iexact Hbq1_dst
      isplitl [Hbq2_dst]; · iexact Hbq2_dst
      iexact Hbq3_dst
    isplitl [Hbe0_dst Hbe1_dst Hbe2_dst Hbe3_dst]
    · isplitl [Hbe0_dst]; · iexact Hbe0_dst
      isplitl [Hbe1_dst]; · iexact Hbe1_dst
      isplitl [Hbe2_dst]; · iexact Hbe2_dst
      iexact Hbe3_dst
    iexact Hbi_dst
  isplitl [Hbq0_src Hbq0 Hbq1_src Hbq1 Hbq2_src Hbq2 Hbq3_src Hbq3 Hbe0_src Hbe0 Hbe1_src Hbe1 Hbe2_src Hbe2 Hbe3_src Hbe3 Hbi_src Hbi]
  · isplitl [Hbq0_src Hbq1_src Hbq2_src Hbq3_src]
    · iexists _
      isplitl [Hbq0_src]; · iexact Hbq0_src
      isplitl [Hbq1_src]; · iexact Hbq1_src
      isplitl [Hbq2_src]; · iexact Hbq2_src
      iexact Hbq3_src
    isplitl [Hbe0_src Hbe1_src Hbe2_src Hbe3_src]
    · iexists _
      isplitl [Hbe0_src]; · iexact Hbe0_src
      isplitl [Hbe1_src]; · iexact Hbe1_src
      isplitl [Hbe2_src]; · iexact Hbe2_src
      iexact Hbe3_src
    isplitl [Hbi_src]; · iexists _; iexact Hbi_src
    isplitl [Hbq0 Hbq1 Hbq2 Hbq3]
    · isplitl [Hbq0]; · iexact Hbq0
      isplitl [Hbq1]; · iexact Hbq1
      isplitl [Hbq2]; · iexact Hbq2
      iexact Hbq3
    isplitl [Hbe0 Hbe1 Hbe2 Hbe3]
    · isplitl [Hbe0]; · iexact Hbe0
      isplitl [Hbe1]; · iexact Hbe1
      isplitl [Hbe2]; · iexact Hbe2
      iexact Hbe3
    iexact Hbi
  isplitl [Hh]; · iapply (landedH c fh H); iexact Hh
  isplitl [Hs]; · iapply (landedS c fs S); iexact Hs
  isplitl [C0]; · iexact C0
  isplitl [C1]; · iexact C1
  iexact HR
end

end Cert.Proof.Ideal
-- ==== Proof.Ideal.Steps.lean ====
/-
  The first kernel's body at one grid point, from what the point needs to what it leaves: point zero, point one, the
  points in the middle, the late ones, the last.
-/
module

public import proofs.«01_k».proof.Proof.Ideal.Run

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (X : Vec F S32768x256 .f32) (Q E : Vec F S32768x256 .f32) (I : Vec F S32768x1 .i32)
  (aW aT : Memref sig .tc .vmem S256x256 .f32) (hW : aW.IsWhole) (hT : aT.IsWhole)
  (gW : Buf (Elt F) (aW.view.loc (c : Thread nD τ))) (gT : Buf (Elt F) (aT.view.loc (c : Thread nD τ)))
  (t : Fin grid0.N)

/-- The histogram and the error sum after tile `t`. -/
abbrev histTile (H : Vec F S1x256 .f32) : Vec F S1x256 .f32 :=
  histStep (wA c aW gW) (wN c aW gW) (rowsOf X (Ring.bk 8 t.val).val 2048) (histStep (wA c aW gW) (wN c aW gW) (rowsOf X (Ring.bk 8 t.val).val 0) H)
abbrev sseTile (S : Vec F S1x128 .f32) : Vec F S1x128 .f32 :=
  sseStep (wA c aW gW) (wN c aW gW) (rowsOf X (Ring.bk 8 t.val).val 2048) (sseStep (wA c aW gW) (wN c aW gW) (rowsOf X (Ring.bk 8 t.val).val 0) S)

/-- The middle points. -/
theorem body_mid (h2 : 2 ≤ t.val) (h3 : t.val + 3 < 8) (H : Vec F S1x256 .f32) (S : Vec F S1x128 .f32)
    (fits : Fits (wA c aW gW) (wN c aW gW) (wB c aT gT) X Q E I (Ring.bk 8 t.val)) :
    iprop((∃ W, owes (c : Thread nD τ) 0 W)
        ∗ pP c aW gW
        ∗ pP c aT gT
        ∗ homeX c X (Ring.bk 8 (t.val + 3))
        ∗ idleX c (Ring.sl 4 (t.val + 3))
        ∗ flyO c Q E I (Ring.bk 8 (t.val - 2)) (Ring.sl 2 t.val)
        ∗ pP c bH H
        ∗ pP c bS S
        ∗ flyX c X (Ring.bk 8 t.val) (Ring.sl 4 t.val)
        ∗ rawO c (Ring.bk 8 t.val))
      ⊢ wp frame (wpE (defs₀ (F := F)) 𝒱₀ (c : Thread nD τ) none) Set.univ (prog aW aT hW hT t)
        (fun _ => iprop((∃ W, owes (c : Thread nD τ) 0 W)
        ∗   pP c aW gW
        ∗   pP c aT gT
        ∗   pP c bH (histTile c X aW gW t H)
        ∗   pP c bS (sseTile c X aW gW t S)
        ∗   homeX c X (Ring.bk 8 t.val)
        ∗   idleX c (Ring.sl 4 t.val)
        ∗   flyO c Q E I (Ring.bk 8 t.val) (Ring.sl 2 t.val)
        ∗   flyX c X (Ring.bk 8 (t.val + 3)) (Ring.sl 4 (t.val + 3))
        ∗   homeO c Q E I (Ring.bk 8 (t.val - 2)))) := by
  have h16 := run16 c X Q E I aW aT hW hT gW gT t (P := iprop((∃ W, owes (c : Thread nD τ) 0 W)
        ∗ pP c aW gW
        ∗ pP c aT gT
        ∗ homeX c X (Ring.bk 8 (t.val + 3))
        ∗ idleX c (Ring.sl 4 (t.val + 3))
        ∗ flyO c Q E I (Ring.bk 8 (t.val - 2)) (Ring.sl 2 t.val)
        ∗ pP c bH H
        ∗ pP c bS S
        ∗ flyX c X (Ring.bk 8 t.val) (Ring.sl 4 t.val)
        ∗ rawO c (Ring.bk 8 t.val)))
    (R := iprop(flyX c X (Ring.bk 8 (t.val + 3)) (Ring.sl 4 (t.val + 3)) ∗ homeO c Q E I (Ring.bk 8 (t.val - 2)))) fits H S (by
      iintro ⟨HO, HW, HT, x3, i3, o2, HH, HS, HX, HR⟩
      iapply (wp_wand_r Idealize.ShloMosaic.frame (wpE (defs₀ (F := F)) 𝒱₀ (c : Thread nD τ) none) Set.univ)
      isplitl [HO HW HT x3 i3 o2]
      · iapply (run10_mid c X Q E I aW aT hW hT gW gT t h2 h3)
        isplitl [HO]; · iexact HO
        isplitl [HW]; · iexact HW
        isplitl [HT]; · iexact HT
        isplitl [x3]; · iexact x3
        isplitl [i3]; · iexact i3
        iexact o2
      iintro %r ⟨%hr, HO, HW, HT, R3, R0, HD⟩
      isplitr; · ipureintro; exact hr
      isplitl [HO]; · iexact HO
      isplitl [HW]; · iexact HW
      isplitl [HT]; · iexact HT
      isplitl [HH]; · iexact HH
      isplitl [HS]; · iexact HS
      isplitl [HX]; · iexact HX
      isplitl [HD]; · iexact HD
      isplitl [HR]; · iexact HR
      isplitl [R3]; · iexact R3
      iexact R0)
  exact runBody c aW aT hW hT t _ _ (by omega) h16

/-- The late points. -/
theorem body_late (h3 : ¬ t.val + 3 < 8) (h7 : ¬ t.val = 7) (H : Vec F S1x256 .f32) (S : Vec F S1x128 .f32)
    (fits : Fits (wA c aW gW) (wN c aW gW) (wB c aT gT) X Q E I (Ring.bk 8 t.val)) :
    iprop((∃ W, owes (c : Thread nD τ) 0 W)
        ∗ pP c aW gW
        ∗ pP c aT gT
        ∗ flyO c Q E I (Ring.bk 8 (t.val - 2)) (Ring.sl 2 t.val)
        ∗ pP c bH H
        ∗ pP c bS S
        ∗ flyX c X (Ring.bk 8 t.val) (Ring.sl 4 t.val)
        ∗ rawO c (Ring.bk 8 t.val))
      ⊢ wp frame (wpE (defs₀ (F := F)) 𝒱₀ (c : Thread nD τ) none) Set.univ (prog aW aT hW hT t)
        (fun _ => iprop((∃ W, owes (c : Thread nD τ) 0 W)
        ∗   pP c aW gW
        ∗   pP c aT gT
        ∗   pP c bH (histTile c X aW gW t H)
        ∗   pP c bS (sseTile c X aW gW t S)
        ∗   homeX c X (Ring.bk 8 t.val)
        ∗   idleX c (Ring.sl 4 t.val)
        ∗   flyO c Q E I (Ring.bk 8 t.val) (Ring.sl 2 t.val)
        ∗   homeO c Q E I (Ring.bk 8 (t.val - 2)))) := by
  have h16 := run16 c X Q E I aW aT hW hT gW gT t (P := iprop((∃ W, owes (c : Thread nD τ) 0 W)
        ∗ pP c aW gW
        ∗ pP c aT gT
        ∗ flyO c Q E I (Ring.bk 8 (t.val - 2)) (Ring.sl 2 t.val)
        ∗ pP c bH H
        ∗ pP c bS S
        ∗ flyX c X (Ring.bk 8 t.val) (Ring.sl 4 t.val)
        ∗ rawO c (Ring.bk 8 t.val)))
    (R := iprop(homeO c Q E I (Ring.bk 8 (t.val - 2)))) fits H S (by
      iintro ⟨HO, HW, HT, o2, HH, HS, HX, HR⟩
      iapply (wp_wand_r Idealize.ShloMosaic.frame (wpE (defs₀ (F := F)) 𝒱₀ (c : Thread nD τ) none) Set.univ)
      isplitl [HO HW HT o2]
      · iapply (run10_late c Q E I aW aT hW hT gW gT t h3)
        isplitl [HO]; · iexact HO
        isplitl [HW]; · iexact HW
        isplitl [HT]; · iexact HT
        iexact o2
      iintro %r ⟨%hr, HO, HW, HT, R0, HD⟩
      isplitr; · ipureintro; exact hr
      isplitl [HO]; · iexact HO
      isplitl [HW]; · iexact HW
      isplitl [HT]; · iexact HT
      isplitl [HH]; · iexact HH
      isplitl [HS]; · iexact HS
      isplitl [HX]; · iexact HX
      isplitl [HD]; · iexact HD
      isplitl [HR]; · iexact HR
      iexact R0)
  exact runBody c aW aT hW hT t _ _ (by omega) h16

/-- Point one. -/
theorem body_one (h1 : t.val = 1) (H : Vec F S1x256 .f32) (S : Vec F S1x128 .f32)
    (fits : Fits (wA c aW gW) (wN c aW gW) (wB c aT gT) X Q E I (Ring.bk 8 t.val)) :
    iprop((∃ W, owes (c : Thread nD τ) 0 W)
        ∗ pP c aW gW
        ∗ pP c aT gT
        ∗ homeX c X (Ring.bk 8 (t.val + 3))
        ∗ idleX c (Ring.sl 4 (t.val + 3))
        ∗ pP c bH H
        ∗ pP c bS S
        ∗ flyX c X (Ring.bk 8 t.val) (Ring.sl 4 t.val)
        ∗ idleO c (Ring.sl 2 t.val)
        ∗ rawO c (Ring.bk 8 t.val))
      ⊢ wp frame (wpE (defs₀ (F := F)) 𝒱₀ (c : Thread nD τ) none) Set.univ (prog aW aT hW hT t)
        (fun _ => iprop((∃ W, owes (c : Thread nD τ) 0 W)
        ∗   pP c aW gW
        ∗   pP c aT gT
        ∗   pP c bH (histTile c X aW gW t H)
        ∗   pP c bS (sseTile c X aW gW t S)
        ∗   homeX c X (Ring.bk 8 t.val)
        ∗   idleX c (Ring.sl 4 t.val)
        ∗   flyO c Q E I (Ring.bk 8 t.val) (Ring.sl 2 t.val)
        ∗   flyX c X (Ring.bk 8 (t.val + 3)) (Ring.sl 4 (t.val + 3)))) := by
  have h16 := run16 c X Q E I aW aT hW hT gW gT t (P := iprop((∃ W, owes (c : Thread nD τ) 0 W)
        ∗ pP c aW gW
        ∗ pP c aT gT
        ∗ homeX c X (Ring.bk 8 (t.val + 3))
        ∗ idleX c (Ring.sl 4 (t.val + 3))
        ∗ pP c bH H
        ∗ pP c bS S
        ∗ flyX c X (Ring.bk 8 t.val) (Ring.sl 4 t.val)
        ∗ idleO c (Ring.sl 2 t.val)
        ∗ rawO c (Ring.bk 8 t.val)))
    (R := iprop(flyX c X (Ring.bk 8 (t.val + 3)) (Ring.sl 4 (t.val + 3)))) fits H S (by
      iintro ⟨HO, HW, HT, x3, i3, HH, HS, HX, HD, HR⟩
      iapply (wp_wand_r Idealize.ShloMosaic.frame (wpE (defs₀ (F := F)) 𝒱₀ (c : Thread nD τ) none) Set.univ)
      isplitl [HO HW HT x3 i3]
      · iapply (run10_one c X aW aT hW hT gW gT t h1)
        isplitl [HO]; · iexact HO
        isplitl [HW]; · iexact HW
        isplitl [HT]; · iexact HT
        isplitl [x3]; · iexact x3
        iexact i3
      iintro %r ⟨%hr, HO, HW, HT, R3⟩
      isplitr; · ipureintro; exact hr
      isplitl [HO]; · iexact HO
      isplitl [HW]; · iexact HW
      isplitl [HT]; · iexact HT
      isplitl [HH]; · iexact HH
      isplitl [HS]; · iexact HS
      isplitl [HX]; · iexact HX
      isplitl [HD]; · iexact HD
      isplitl [HR]; · iexact HR
      iexact R3)
  exact runBody c aW aT hW hT t _ _ (by omega) h16

/-- The last point. -/
theorem body_last (h7 : t.val = 7) (H : Vec F S1x256 .f32) (S : Vec F S1x128 .f32)
    (fits : Fits (wA c aW gW) (wN c aW gW) (wB c aT gT) X Q E I (Ring.bk 8 t.val)) :
    iprop((∃ W, owes (c : Thread nD τ) 0 W)
        ∗ pP c aW gW
        ∗ pP c aT gT
        ∗ flyO c Q E I (Ring.bk 8 (t.val - 2)) (Ring.sl 2 t.val)
        ∗ pP c bH H
        ∗ pP c bS S
        ∗ flyX c X (Ring.bk 8 t.val) (Ring.sl 4 t.val)
        ∗ rawO c (Ring.bk 8 t.val)
        ∗ flyO c Q E I (Ring.bk 8 (t.val - 1)) (Ring.sl 2 (t.val + 1))
        ∗ (∃ f : Vec F S1x256 .f32, pP c hH f)
        ∗ (∃ f : Vec F S1x128 .f32, pP c hS f)
        ∗ cP c (fsem 0)
        ∗ cP c (fsem 1))
      ⊢ wp frame (wpE (defs₀ (F := F)) 𝒱₀ (c : Thread nD τ) none) Set.univ (prog aW aT hW hT t)
        (fun _ => iprop((∃ W, owes (c : Thread nD τ) 0 W)
        ∗   pP c aW gW
        ∗   pP c aT gT
        ∗   pP c bH (histTile c X aW gW t H)
        ∗   pP c bS (sseTile c X aW gW t S)
        ∗   homeX c X (Ring.bk 8 t.val)
        ∗   idleX c (Ring.sl 4 t.val)
        ∗   homeO c Q E I (Ring.bk 8 (t.val - 2))
        ∗   homeO c Q E I (Ring.bk 8 (t.val - 1))
        ∗   idleO c (Ring.sl 2 (t.val + 1))
        ∗   homeO c Q E I (Ring.bk 8 t.val)
        ∗   idleO c (Ring.sl 2 t.val)
        ∗   pP c hH (histTile c X aW gW t H)
        ∗   pP c hS (sseTile c X aW gW t S)
        ∗   cP c (fsem 0)
        ∗   cP c (fsem 1))) := by
  have h16 := run16 c X Q E I aW aT hW hT gW gT t (P := iprop((∃ W, owes (c : Thread nD τ) 0 W)
        ∗ pP c aW gW
        ∗ pP c aT gT
        ∗ flyO c Q E I (Ring.bk 8 (t.val - 2)) (Ring.sl 2 t.val)
        ∗ pP c bH H
        ∗ pP c bS S
        ∗ flyX c X (Ring.bk 8 t.val) (Ring.sl 4 t.val)
        ∗ rawO c (Ring.bk 8 t.val)
        ∗ flyO c Q E I (Ring.bk 8 (t.val - 1)) (Ring.sl 2 (t.val + 1))
        ∗ (∃ f : Vec F S1x256 .f32, pP c hH f)
        ∗ (∃ f : Vec F S1x128 .f32, pP c hS f)
        ∗ cP c (fsem 0)
        ∗ cP c (fsem 1)))
    (R := iprop(homeO c Q E I (Ring.bk 8 (t.val - 2)) ∗ flyO c Q E I (Ring.bk 8 (t.val - 1)) (Ring.sl 2 (t.val + 1)) ∗ (∃ f : Vec F S1x256 .f32, pP c hH f) ∗ (∃ f : Vec F S1x128 .f32, pP c hS f) ∗ cP c (fsem 0) ∗ cP c (fsem 1))) fits H S (by
      iintro ⟨HO, HW, HT, o2, HH, HS, HX, HR, HF, Hh, Hs, C0, C1⟩
      iapply (wp_wand_r Idealize.ShloMosaic.frame (wpE (defs₀ (F := F)) 𝒱₀ (c : Thread nD τ) none) Set.univ)
      isplitl [HO HW HT o2]
      · iapply (run10_late c Q E I aW aT hW hT gW gT t (by omega))
        isplitl [HO]; · iexact HO
        isplitl [HW]; · iexact HW
        isplitl [HT]; · iexact HT
        iexact o2
      iintro %r ⟨%hr, HO, HW, HT, R0, HD⟩
      isplitr; · ipureintro; exact hr
      isplitl [HO]; · iexact HO
      isplitl [HW]; · iexact HW
      isplitl [HT]; · iexact HT
      isplitl [HH]; · iexact HH
      isplitl [HS]; · iexact HS
      isplitl [HX]; · iexact HX
      isplitl [HD]; · iexact HD
      isplitl [HR]; · iexact HR
      isplitl [R0]; · iexact R0
      isplitl [HF]; · iexact HF
      isplitl [Hh]; · iexact Hh
      isplitl [Hs]; · iexact Hs
      isplitl [C0]; · iexact C0
      iexact C1)
  have hl := runBody_last c Q E I aW aT hW hT t (P := iprop((∃ W, owes (c : Thread nD τ) 0 W)
        ∗ pP c aW gW
        ∗ pP c aT gT
        ∗ flyO c Q E I (Ring.bk 8 (t.val - 2)) (Ring.sl 2 t.val)
        ∗ pP c bH H
        ∗ pP c bS S
        ∗ flyX c X (Ring.bk 8 t.val) (Ring.sl 4 t.val)
        ∗ rawO c (Ring.bk 8 t.val)
        ∗ flyO c Q E I (Ring.bk 8 (t.val - 1)) (Ring.sl 2 (t.val + 1))
        ∗ (∃ f : Vec F S1x256 .f32, pP c hH f)
        ∗ (∃ f : Vec F S1x128 .f32, pP c hS f)
        ∗ cP c (fsem 0)
        ∗ cP c (fsem 1)))
    (R := iprop(pP c aW gW ∗ pP c aT gT ∗ homeX c X (Ring.bk 8 t.val) ∗ idleX c (Ring.sl 4 t.val) ∗ homeO c Q E I (Ring.bk 8 (t.val - 2)))) h7 (histTile c X aW gW t H) (sseTile c X aW gW t S) (by
      iintro HP
      iapply (wp_wand_r Idealize.ShloMosaic.frame (wpE (defs₀ (F := F)) 𝒱₀ (c : Thread nD τ) none) Set.univ)
      isplitl [HP]; · iapply h16; iexact HP
      iintro %r ⟨HO, HW, HT, HH, HS, HX, HI, HB, R0, HF, Hh, Hs, C0, C1⟩
      isplitl [HO]; · iexact HO
      isplitl [HH]; · iexact HH
      isplitl [HS]; · iexact HS
      isplitl [HF]; · iexact HF
      isplitl [HB]; · iexact HB
      isplitl [Hh]; · iexact Hh
      isplitl [Hs]; · iexact Hs
      isplitl [C0]; · iexact C0
      isplitl [C1]; · iexact C1
      isplitl [HW]; · iexact HW
      isplitl [HT]; · iexact HT
      isplitl [HX]; · iexact HX
      isplitl [HI]; · iexact HI
      iexact R0)
  iintro HP
  iapply (wp_wand_r Idealize.ShloMosaic.frame (wpE (defs₀ (F := F)) 𝒱₀ (c : Thread nD τ) none) Set.univ)
  isplitl [HP]; · iapply hl; iexact HP
  iintro %r ⟨HO, HH, HS, A, B, C, D, Hh, Hs, C0, C1, HW, HT, HX, HI, R0⟩
  isplitl [HO]; · iexact HO
  isplitl [HW]; · iexact HW
  isplitl [HT]; · iexact HT
  isplitl [HH]; · iexact HH
  isplitl [HS]; · iexact HS
  isplitl [HX]; · iexact HX
  isplitl [HI]; · iexact HI
  isplitl [R0]; · iexact R0
  isplitl [A]; · iexact A
  isplitl [B]; · iexact B
  isplitl [C]; · iexact C
  isplitl [D]; · iexact D
  isplitl [Hh]; · iexact Hh
  isplitl [Hs]; · iexact Hs
  isplitl [C0]; · iexact C0
  iexact C1

/-- Tile zero's flight at point zero. -/
theorem zeroX (h0 : t.val = 0) : (flyX c X 0 0 : sProp 𝕄) = flyX c X (Ring.bk 8 t.val) (Ring.sl 4 t.val) := by
  rw [h0]; rfl

/-- Point zero. -/
theorem body_zero (h0 : t.val = 0) (fH : Vec F S1x256 .f32) (fS : Vec F S1x128 .f32)
    (fits : Fits (wA c aW gW) (wN c aW gW) (wB c aT gT) X Q E I (Ring.bk 8 t.val)) :
    iprop((∃ W, owes (c : Thread nD τ) 0 W)
        ∗ pP c aW gW
        ∗ pP c aT gT
        ∗ (homeX c X 0 ∗ idleX c 0)
        ∗ (homeX c X 1 ∗ idleX c 1)
        ∗ (homeX c X 2 ∗ idleX c 2)
        ∗ homeX c X (Ring.bk 8 (t.val + 3))
        ∗ idleX c (Ring.sl 4 (t.val + 3))
        ∗ pP c bH fH
        ∗ pP c bS fS
        ∗ idleO c (Ring.sl 2 t.val)
        ∗ rawO c (Ring.bk 8 t.val))
      ⊢ wp frame (wpE (defs₀ (F := F)) 𝒱₀ (c : Thread nD τ) none) Set.univ (prog aW aT hW hT t)
        (fun _ => iprop((∃ W, owes (c : Thread nD τ) 0 W)
        ∗   pP c aW gW
        ∗   pP c aT gT
        ∗   pP c bH (histTile c X aW gW t (k0_pay1 (F := F)))
        ∗   pP c bS (sseTile c X aW gW t (k0_pay2 (F := F)))
        ∗   homeX c X (Ring.bk 8 t.val)
        ∗   idleX c (Ring.sl 4 t.val)
        ∗   flyO c Q E I (Ring.bk 8 t.val) (Ring.sl 2 t.val)
        ∗   flyX c X 1 1
        ∗   flyX c X 2 2
        ∗   flyX c X (Ring.bk 8 (t.val + 3)) (Ring.sl 4 (t.val + 3)))) := by
  have h16 := run16 c X Q E I aW aT hW hT gW gT t (P := iprop((∃ W, owes (c : Thread nD τ) 0 W)
        ∗ pP c aW gW
        ∗ pP c aT gT
        ∗ (homeX c X 0 ∗ idleX c 0)
        ∗ (homeX c X 1 ∗ idleX c 1)
        ∗ (homeX c X 2 ∗ idleX c 2)
        ∗ homeX c X (Ring.bk 8 (t.val + 3))
        ∗ idleX c (Ring.sl 4 (t.val + 3))
        ∗ pP c bH fH
        ∗ pP c bS fS
        ∗ idleO c (Ring.sl 2 t.val)
        ∗ rawO c (Ring.bk 8 t.val)))
    (R := iprop(flyX c X 1 1 ∗ flyX c X 2 2 ∗ flyX c X (Ring.bk 8 (t.val + 3)) (Ring.sl 4 (t.val + 3)))) fits (k0_pay1 (F := F)) (k0_pay2 (F := F)) (by
      iintro ⟨HO, HW, HT, a0, a1, a2, x3, i3, rH, rS, HD, HR⟩
      iapply (wp_wand_r Idealize.ShloMosaic.frame (wpE (defs₀ (F := F)) 𝒱₀ (c : Thread nD τ) none) Set.univ)
      isplitl [HO HW HT a0 a1 a2 x3 i3 rH rS]
      · iapply (run10_zero c X aW aT hW hT gW gT t h0 fH fS)
        isplitl [HO]; · iexact HO
        isplitl [HW]; · iexact HW
        isplitl [HT]; · iexact HT
        isplitl [a0]; · iexact a0
        isplitl [a1]; · iexact a1
        isplitl [a2]; · iexact a2
        isplitl [x3]; · iexact x3
        isplitl [i3]; · iexact i3
        isplitl [rH]; · iexact rH
        iexact rS
      iintro %r ⟨%hr, HO, HW, HT, HX, R1, R2, R3, HH, HS⟩
      isplitr; · ipureintro; exact hr
      isplitl [HO]; · iexact HO
      isplitl [HW]; · iexact HW
      isplitl [HT]; · iexact HT
      isplitl [HH]; · iexact HH
      isplitl [HS]; · iexact HS
      isplitl [HX]; · iapply (ent (zeroX c X t h0)); iexact HX
      isplitl [HD]; · iexact HD
      isplitl [HR]; · iexact HR
      isplitl [R1]; · iexact R1
      isplitl [R2]; · iexact R2
      iexact R3)
  exact runBody c aW aT hW hT t _ _ (by omega) h16

end

end Cert.Proof.Ideal
-- ==== Proof.Ideal.Inv.lean ====
/-
  What holds between two grid points of the first kernel: which tiles of the input and the outputs are at home, which
  are on their way and through which slot, and what the two accumulators hold; and the step from one point to the next.
-/
module

public import proofs.«01_k».proof.Proof.Ideal.Steps

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Taking pieces out of a family and putting others back -/

section
variable {M : Type} [URA M] {m : ℕ}

theorem takeOut (S : Finset (Fin m)) (P : Fin m → sProp M) (a : Fin m) (ha : a ∈ S) :
    bigSep S P = iprop(P a ∗ bigSep (S.erase a) P) := bigSep_erase ha

theorem move1 (P P' : Fin m → sProp M) (a : Fin m) (h : ∀ x, x ≠ a → P x = P' x) :
    bigSep Finset.univ P ⊢ iprop(P a ∗ (P' a -∗ bigSep Finset.univ P')) := by
  rw [takeOut _ P a (Finset.mem_univ a), takeOut _ P' a (Finset.mem_univ a),
    bigSep_congr (s := Finset.univ.erase a) fun x hx => h x (Finset.ne_of_mem_erase hx)]
  iintro ⟨Ha, Hr⟩
  isplitl [Ha]; · iexact Ha
  iintro Ha'
  isplitl [Ha']; · iexact Ha'
  iexact Hr

theorem move2 (P P' : Fin m → sProp M) (a b : Fin m) (hab : b ≠ a) (h : ∀ x, x ≠ a → x ≠ b → P x = P' x) :
    bigSep Finset.univ P ⊢ iprop(P a ∗ P b ∗ (P' a -∗ P' b -∗ bigSep Finset.univ P')) := by
  have hb : b ∈ Finset.univ.erase a := Finset.mem_erase.mpr ⟨hab, Finset.mem_univ _⟩
  rw [takeOut _ P a (Finset.mem_univ a), takeOut _ P' a (Finset.mem_univ a),
    takeOut _ P b hb, takeOut _ P' b hb,
    bigSep_congr (s := (Finset.univ.erase a).erase b) fun x hx =>
      h x (Finset.ne_of_mem_erase (Finset.mem_of_mem_erase hx)) (Finset.ne_of_mem_erase hx)]
  iintro ⟨Ha, Hb, Hr⟩
  isplitl [Ha]; · iexact Ha
  isplitl [Hb]; · iexact Hb
  iintro Ha'
  iintro Hb'
  isplitl [Ha']; · iexact Ha'
  isplitl [Hb']; · iexact Hb'
  iexact Hr
end

/-! ## Which tiles are under way -/

/-- Input tile `n` is on its way before point `t`; -/
abbrev flyingX (t : ℕ) (n : Fin 8) : Prop := t ≠ 0 ∧ t ≤ n.val ∧ n.val < t + 3
/-- input slot `s` is in use; -/
abbrev busyX (t : ℕ) (s : Fin 4) : Prop := ∃ n : Fin 8, flyingX t n ∧ Ring.sl 4 n.val = s
/-- output tile `n` is on its way; -/
abbrev flyingO (t : ℕ) (n : Fin 8) : Prop := t ≠ 8 ∧ n.val < t ∧ t ≤ n.val + 2
/-- output slot `p` is in use. -/
abbrev busyO (t : ℕ) (p : Fin 2) : Prop := ∃ n : Fin 8, flyingO t n ∧ Ring.sl 2 n.val = p

section
variable (c : Dev nD) (X : Vec F S32768x256 .f32) (Q E : Vec F S32768x256 .f32) (I : Vec F S32768x1 .i32)

def Xs (t : ℕ) (n : Fin 8) : sProp 𝕄 := if flyingX t n then flyX c X n (Ring.sl 4 n.val) else homeX c X n
def Ss (t : ℕ) (s : Fin 4) : sProp 𝕄 := if busyX t s then BI.emp else idleX c s
def Os (t : ℕ) (n : Fin 8) : sProp 𝕄 :=
  if flyingO t n then flyO c Q E I n (Ring.sl 2 n.val) else if n.val < t then homeO c Q E I n else rawO c n
def Ps (t : ℕ) (p : Fin 2) : sProp 𝕄 := if busyO t p then BI.emp else idleO c p

theorem Xs_fly {t : ℕ} {n : Fin 8} (h : flyingX t n) : Xs c X t n = flyX c X n (Ring.sl 4 n.val) := if_pos h
theorem Xs_home {t : ℕ} {n : Fin 8} (h : ¬ flyingX t n) : Xs c X t n = homeX c X n := if_neg h
theorem Xs_same {t t' : ℕ} {n : Fin 8} (h : flyingX t n ↔ flyingX t' n) : Xs c X t n = Xs c X t' n := by
  unfold Xs; simp only [h]
theorem Ss_busy {t : ℕ} {s : Fin 4} (h : busyX t s) : (Ss c t s : sProp 𝕄) = BI.emp := if_pos h
theorem Ss_idle {t : ℕ} {s : Fin 4} (h : ¬ busyX t s) : (Ss c t s : sProp 𝕄) = idleX c s := if_neg h
theorem Ss_same {t t' : ℕ} {s : Fin 4} (h : busyX t s ↔ busyX t' s) : (Ss c t s : sProp 𝕄) = Ss c t' s := by
  unfold Ss; simp only [h]
theorem Os_fly {t : ℕ} {n : Fin 8} (h : flyingO t n) : Os c Q E I t n = flyO c Q E I n (Ring.sl 2 n.val) := if_pos h
theorem Os_home {t : ℕ} {n : Fin 8} (h : ¬ flyingO t n) (h' : n.val < t) : Os c Q E I t n = homeO c Q E I n := (if_neg h).trans (if_pos h')
theorem Os_raw {t : ℕ} {n : Fin 8} (h : ¬ flyingO t n) (h' : ¬ n.val < t) : Os c Q E I t n = rawO c n := (if_neg h).trans (if_neg h')
theorem Os_same {t t' : ℕ} {n : Fin 8} (h : flyingO t n ↔ flyingO t' n) (h' : n.val < t ↔ n.val < t') : Os c Q E I t n = Os c Q E I t' n := by
  unfold Os; simp only [h, h']
theorem Ps_busy {t : ℕ} {p : Fin 2} (h : busyO t p) : (Ps c t p : sProp 𝕄) = BI.emp := if_pos h
theorem Ps_idle {t : ℕ} {p : Fin 2} (h : ¬ busyO t p) : (Ps c t p : sProp 𝕄) = idleO c p := if_neg h
theorem Ps_same {t t' : ℕ} {p : Fin 2} (h : busyO t p ↔ busyO t' p) : (Ps c t p : sProp 𝕄) = Ps c t' p := by
  unfold Ps; simp only [h]

/-- Point zero starts the first four tiles. -/
theorem X_zero : bigSep Finset.univ (Xs c X 0) ⊢ (iprop(homeX c X 0 ∗ homeX c X 1 ∗ homeX c X 2 ∗ homeX c X 3
    ∗ (homeX c X 0 -∗ flyX c X 1 1 -∗ flyX c X 2 2 -∗ flyX c X 3 3 -∗ bigSep Finset.univ (Xs c X 1))) : sProp 𝕄) := by
  have h0 : ∀ n : Fin 8, Xs c X 0 n = homeX c X n := fun n => Xs_home c X (by simp)
  rw [bigSep_univ_eq_bigSepL [0, 1, 2, 3, 4, 5, 6, 7] (by decide) (by decide), bigSep_univ_eq_bigSepL [0, 1, 2, 3, 4, 5, 6, 7] (by decide) (by decide)]
  show iprop(Xs c X 0 0 ∗ Xs c X 0 1 ∗ Xs c X 0 2 ∗ Xs c X 0 3 ∗ Xs c X 0 4 ∗ Xs c X 0 5 ∗ Xs c X 0 6 ∗ Xs c X 0 7) ⊢ iprop(homeX c X 0 ∗ homeX c X 1 ∗ homeX c X 2 ∗ homeX c X 3
    ∗ (homeX c X 0 -∗ flyX c X 1 1 -∗ flyX c X 2 2 -∗ flyX c X 3 3
      -∗ Xs c X 1 0 ∗ Xs c X 1 1 ∗ Xs c X 1 2 ∗ Xs c X 1 3 ∗ Xs c X 1 4 ∗ Xs c X 1 5 ∗ Xs c X 1 6 ∗ Xs c X 1 7))
  simp only [h0]
  rw [Xs_home c X (t := 1) (n := 0) (by decide), Xs_fly c X (t := 1) (n := 1) (by decide), Xs_fly c X (t := 1) (n := 2) (by decide), Xs_fly c X (t := 1) (n := 3) (by decide),
    Xs_home c X (t := 1) (n := 4) (by decide), Xs_home c X (t := 1) (n := 5) (by decide), Xs_home c X (t := 1) (n := 6) (by decide), Xs_home c X (t := 1) (n := 7) (by decide)]
  iintro ⟨H0, H1, H2, H3, H4, H5, H6, H7⟩
  isplitl [H0]; · iexact H0
  isplitl [H1]; · iexact H1
  isplitl [H2]; · iexact H2
  isplitl [H3]; · iexact H3
  iintro A0
  iintro A1
  iintro A2
  iintro A3
  isplitl [A0]; · iexact A0
  isplitl [A1]; · iexact A1
  isplitl [A2]; · iexact A2
  isplitl [A3]; · iexact A3
  isplitl [H4]; · iexact H4
  isplitl [H5]; · iexact H5
  isplitl [H6]; · iexact H6
  iexact H7

/-- and takes the four slots, leaving the first idle again. -/
theorem S_zero : bigSep Finset.univ (Ss (F := F) c 0) ⊢ (iprop(idleX c 0 ∗ idleX c 1 ∗ idleX c 2 ∗ idleX c 3
    ∗ (idleX c 0 -∗ bigSep Finset.univ (Ss (F := F) c 1))) : sProp 𝕄) := by
  rw [bigSep_univ_eq_bigSepL [0, 1, 2, 3] (by decide) (by decide), bigSep_univ_eq_bigSepL [0, 1, 2, 3] (by decide) (by decide)]
  show iprop(Ss (F := F) c 0 0 ∗ Ss c 0 1 ∗ Ss c 0 2 ∗ Ss c 0 3) ⊢ iprop(idleX c 0 ∗ idleX c 1 ∗ idleX c 2 ∗ idleX c 3
    ∗ (idleX c 0 -∗ Ss (F := F) c 1 0 ∗ Ss c 1 1 ∗ Ss c 1 2 ∗ Ss c 1 3))
  rw [Ss_idle c (t := 0) (s := 0) (by decide), Ss_idle c (t := 0) (s := 1) (by decide), Ss_idle c (t := 0) (s := 2) (by decide), Ss_idle c (t := 0) (s := 3) (by decide),
    Ss_idle c (t := 1) (s := 0) (by decide), Ss_busy c (t := 1) (s := 1) (by decide), Ss_busy c (t := 1) (s := 2) (by decide), Ss_busy c (t := 1) (s := 3) (by decide)]
  iintro ⟨H0, H1, H2, H3⟩
  isplitl [H0]; · iexact H0
  isplitl [H1]; · iexact H1
  isplitl [H2]; · iexact H2
  isplitl [H3]; · iexact H3
  iintro A0
  isplitl [A0]; · iexact A0
  isplitr; · iempintro
  isplitr; · iempintro
  iempintro

/-- The input's tiles from a middle point to the next. -/
theorem X_mid (t : ℕ) (h1 : 1 ≤ t) (h3 : t + 3 < 8) : bigSep Finset.univ (Xs c X t) ⊢ (iprop(flyX c X (Ring.bk 8 t) (Ring.sl 4 t) ∗ homeX c X (Ring.bk 8 (t + 3))
    ∗ (homeX c X (Ring.bk 8 t) -∗ flyX c X (Ring.bk 8 (t + 3)) (Ring.sl 4 (t + 3)) -∗ bigSep Finset.univ (Xs c X (t + 1)))) : sProp 𝕄) := by
  have e := Ring.bk_val (NB := 8) (by omega : t < 8)
  have e3 := Ring.bk_val (NB := 8) h3
  have hm := move2 (Xs c X t) (Xs c X (t + 1)) (Ring.bk 8 t) (Ring.bk 8 (t + 3)) (by intro h; have := congrArg Fin.val h; omega)
    (fun x ha hb => Xs_same c X (by
      have ha' : x.val ≠ t := fun h => ha (Fin.ext (h.trans e.symm))
      have hb' : x.val ≠ t + 3 := fun h => hb (Fin.ext (h.trans e3.symm))
      constructor <;> rintro ⟨_, _, _⟩ <;> refine ⟨?_, ?_, ?_⟩ <;> omega))
  rw [Xs_fly c X (t := t) (n := Ring.bk 8 t) (by rw [flyingX, e]; omega), Xs_home c X (t := t) (n := Ring.bk 8 (t + 3)) (by rw [flyingX, e3]; omega),
    Xs_home c X (t := t + 1) (n := Ring.bk 8 t) (by rw [flyingX, e]; omega), Xs_fly c X (t := t + 1) (n := Ring.bk 8 (t + 3)) (by rw [flyingX, e3]; omega), e, e3] at hm
  exact hm
theorem X_late (t : ℕ) (h8 : t < 8) (h3 : ¬ t + 3 < 8) : bigSep Finset.univ (Xs c X t) ⊢ (iprop(flyX c X (Ring.bk 8 t) (Ring.sl 4 t)
    ∗ (homeX c X (Ring.bk 8 t) -∗ bigSep Finset.univ (Xs c X (t + 1)))) : sProp 𝕄) := by
  have e := Ring.bk_val (NB := 8) h8
  have hm := move1 (Xs c X t) (Xs c X (t + 1)) (Ring.bk 8 t)
    (fun x ha => Xs_same c X (by
      have ha' : x.val ≠ t := fun h => ha (Fin.ext (h.trans e.symm))
      have := x.isLt
      constructor <;> rintro ⟨_, _, _⟩ <;> refine ⟨?_, ?_, ?_⟩ <;> omega))
  rw [Xs_fly c X (t := t) (n := Ring.bk 8 t) (by rw [flyingX, e]; omega),
    Xs_home c X (t := t + 1) (n := Ring.bk 8 t) (by rw [flyingX, e]; omega), e] at hm
  exact hm

theorem S_facts : ∀ t : Fin 8, 1 ≤ t.val → t.val + 3 < 8 → busyX t.val (Ring.sl 4 t.val) ∧ ¬ busyX t.val (Ring.sl 4 (t.val + 3))
    ∧ ¬ busyX (t.val + 1) (Ring.sl 4 t.val) ∧ busyX (t.val + 1) (Ring.sl 4 (t.val + 3)) ∧ Ring.sl 4 (t.val + 3) ≠ Ring.sl 4 t.val := by decide
theorem S_same : ∀ t : Fin 8, 1 ≤ t.val → t.val + 3 < 8 → ∀ x, x ≠ Ring.sl 4 t.val → x ≠ Ring.sl 4 (t.val + 3) → Iff (busyX t.val x) (busyX (t.val + 1) x) := by decide
theorem S_facts' : ∀ t : Fin 8, ¬ t.val + 3 < 8 → busyX t.val (Ring.sl 4 t.val)
    ∧ ¬ busyX (t.val + 1) (Ring.sl 4 t.val) := by decide
theorem S_same' : ∀ t : Fin 8, ¬ t.val + 3 < 8 → ∀ x, x ≠ Ring.sl 4 t.val → Iff (busyX t.val x) (busyX (t.val + 1) x) := by decide

/-- The input's slots. -/
theorem S_mid (t : ℕ) (h1 : 1 ≤ t) (h3 : t + 3 < 8) : bigSep Finset.univ (Ss (F := F) c t) ⊢ (iprop(idleX c (Ring.sl 4 (t + 3))
    ∗ (idleX c (Ring.sl 4 t) -∗ bigSep Finset.univ (Ss (F := F) c (t + 1)))) : sProp 𝕄) := by
  obtain ⟨a, b, a', b', n⟩ := S_facts ⟨t, by omega⟩ h1 h3
  have h := S_same ⟨t, by omega⟩ h1 h3
  have hm := move2 (Ss (F := F) c t) (Ss c (t + 1)) (Ring.sl 4 t) (Ring.sl 4 (t + 3)) n fun x ha hb => Ss_same c (h x ha hb)
  rw [Ss_busy c a, Ss_idle c b, Ss_idle c a', Ss_busy c b'] at hm
  refine hm.trans ?_
  iintro ⟨-, HI, Hk⟩
  isplitl [HI]; · iexact HI
  iintro HJ
  iapply Hk $$ HJ
  iempintro
theorem S_late (t : ℕ) (h8 : t < 8) (h3 : ¬ t + 3 < 8) : bigSep Finset.univ (Ss (F := F) c t) ⊢ (iprop((idleX c (Ring.sl 4 t) -∗ bigSep Finset.univ (Ss (F := F) c (t + 1)))) : sProp 𝕄) := by
  obtain ⟨a, a'⟩ := S_facts' ⟨t, h8⟩ h3
  have h := S_same' ⟨t, h8⟩ h3
  have hm := move1 (Ss (F := F) c t) (Ss c (t + 1)) (Ring.sl 4 t) fun x ha => Ss_same c (h x ha)
  rw [Ss_busy c a, Ss_idle c a'] at hm
  refine hm.trans ?_
  iintro ⟨-, Hk⟩
  iexact Hk

/-- The outputs' tiles: from the first two points to the next, -/
theorem O_early (t : ℕ) (h2 : t < 2) : bigSep Finset.univ (Os c Q E I t) ⊢ (iprop(rawO c (Ring.bk 8 t)
    ∗ (flyO c Q E I (Ring.bk 8 t) (Ring.sl 2 t) -∗ bigSep Finset.univ (Os c Q E I (t + 1)))) : sProp 𝕄) := by
  have e := Ring.bk_val (NB := 8) (by omega : t < 8)
  have hm := move1 (Os c Q E I t) (Os c Q E I (t + 1)) (Ring.bk 8 t)
    (fun x ha => by
      have ha' : x.val ≠ t := fun h => ha (Fin.ext (h.trans e.symm))
      refine Os_same c Q E I ?_ (by omega)
      constructor <;> rintro ⟨_, _, _⟩ <;> refine ⟨?_, ?_, ?_⟩ <;> omega)
  rw [Os_raw c Q E I (t := t) (n := Ring.bk 8 t) (by rw [flyingO, e]; omega) (by omega),
    Os_fly c Q E I (t := t + 1) (n := Ring.bk 8 t) (by rw [flyingO, e]; omega), e] at hm
  exact hm
/-- from a later one to the next, -/
theorem O_mid (t : ℕ) (h2 : 2 ≤ t) (h7 : t < 7) : bigSep Finset.univ (Os c Q E I t) ⊢ (iprop(rawO c (Ring.bk 8 t) ∗ flyO c Q E I (Ring.bk 8 (t - 2)) (Ring.sl 2 t)
    ∗ (flyO c Q E I (Ring.bk 8 t) (Ring.sl 2 t) -∗ homeO c Q E I (Ring.bk 8 (t - 2)) -∗ bigSep Finset.univ (Os c Q E I (t + 1)))) : sProp 𝕄) := by
  have e := Ring.bk_val (NB := 8) (by omega : t < 8)
  have e2 := Ring.bk_val (NB := 8) (by omega : t - 2 < 8)
  have es : Ring.sl 2 (t - 2) = Ring.sl 2 t := by
    conv_rhs => rw [show t = t - 2 + 2 by omega, Ring.sl_add]
  have hm := move2 (Os c Q E I t) (Os c Q E I (t + 1)) (Ring.bk 8 t) (Ring.bk 8 (t - 2)) (by intro h; have := congrArg Fin.val h; omega)
    (fun x ha hb => by
      have ha' : x.val ≠ t := fun h => ha (Fin.ext (h.trans e.symm))
      have hb' : x.val ≠ t - 2 := fun h => hb (Fin.ext (h.trans e2.symm))
      refine Os_same c Q E I ?_ (by omega)
      constructor <;> rintro ⟨_, _, _⟩ <;> refine ⟨?_, ?_, ?_⟩ <;> omega)
  rw [Os_raw c Q E I (t := t) (n := Ring.bk 8 t) (by rw [flyingO, e]; omega) (by omega), Os_fly c Q E I (t := t) (n := Ring.bk 8 (t - 2)) (by rw [flyingO, e2]; omega),
    Os_fly c Q E I (t := t + 1) (n := Ring.bk 8 t) (by rw [flyingO, e]; omega), Os_home c Q E I (t := t + 1) (n := Ring.bk 8 (t - 2)) (by rw [flyingO, e2]; omega) (by omega), e, e2, es] at hm
  exact hm
/-- and from the last to the end. -/
theorem O_last : bigSep Finset.univ (Os c Q E I 7) ⊢ (iprop(rawO c (Ring.bk 8 7) ∗ flyO c Q E I (Ring.bk 8 5) (Ring.sl 2 7) ∗ flyO c Q E I (Ring.bk 8 6) (Ring.sl 2 8)
    ∗ (homeO c Q E I (Ring.bk 8 7) -∗ homeO c Q E I (Ring.bk 8 5) -∗ homeO c Q E I (Ring.bk 8 6) -∗ bigSep Finset.univ (Os c Q E I 8))) : sProp 𝕄) := by
  rw [bigSep_univ_eq_bigSepL [0, 1, 2, 3, 4, 5, 6, 7] (by decide) (by decide), bigSep_univ_eq_bigSepL [0, 1, 2, 3, 4, 5, 6, 7] (by decide) (by decide)]
  show iprop(Os c Q E I 7 0 ∗ Os c Q E I 7 1 ∗ Os c Q E I 7 2 ∗ Os c Q E I 7 3 ∗ Os c Q E I 7 4 ∗ Os c Q E I 7 5 ∗ Os c Q E I 7 6 ∗ Os c Q E I 7 7)
    ⊢ iprop(rawO c (Ring.bk 8 7) ∗ flyO c Q E I (Ring.bk 8 5) (Ring.sl 2 7) ∗ flyO c Q E I (Ring.bk 8 6) (Ring.sl 2 8)
    ∗ (homeO c Q E I (Ring.bk 8 7) -∗ homeO c Q E I (Ring.bk 8 5) -∗ homeO c Q E I (Ring.bk 8 6)
      -∗ Os c Q E I 8 0 ∗ Os c Q E I 8 1 ∗ Os c Q E I 8 2 ∗ Os c Q E I 8 3 ∗ Os c Q E I 8 4 ∗ Os c Q E I 8 5 ∗ Os c Q E I 8 6 ∗ Os c Q E I 8 7))
  rw [Os_home c Q E I (t := 7) (n := 0) (by decide) (by decide), Os_home c Q E I (t := 7) (n := 1) (by decide) (by decide), Os_home c Q E I (t := 7) (n := 2) (by decide) (by decide), Os_home c Q E I (t := 7) (n := 3) (by decide) (by decide), Os_home c Q E I (t := 7) (n := 4) (by decide) (by decide), Os_fly c Q E I (t := 7) (n := 5) (by decide), Os_fly c Q E I (t := 7) (n := 6) (by decide), Os_raw c Q E I (t := 7) (n := 7) (by decide) (by decide), Os_home c Q E I (t := 8) (n := 0) (by decide) (by decide), Os_home c Q E I (t := 8) (n := 1) (by decide) (by decide), Os_home c Q E I (t := 8) (n := 2) (by decide) (by decide), Os_home c Q E I (t := 8) (n := 3) (by decide) (by decide), Os_home c Q E I (t := 8) (n := 4) (by decide) (by decide), Os_home c Q E I (t := 8) (n := 5) (by decide) (by decide), Os_home c Q E I (t := 8) (n := 6) (by decide) (by decide), Os_home c Q E I (t := 8) (n := 7) (by decide) (by decide)]
  iintro ⟨H0, H1, H2, H3, H4, H5, H6, H7⟩
  isplitl [H7]; · iexact H7
  isplitl [H5]; · iexact H5
  isplitl [H6]; · iexact H6
  iintro A7
  iintro A5
  iintro A6
  isplitl [H0]; · iexact H0
  isplitl [H1]; · iexact H1
  isplitl [H2]; · iexact H2
  isplitl [H3]; · iexact H3
  isplitl [H4]; · iexact H4
  isplitl [A5]; · iexact A5
  isplitl [A6]; · iexact A6
  iexact A7

/-- The outputs' slots. -/
theorem P_zero : bigSep Finset.univ (Ps (F := F) c 0) ⊢ (iprop(idleO c (Ring.sl 2 0) ∗ bigSep Finset.univ (Ps (F := F) c 1)) : sProp 𝕄) := by
  have hm := move1 (Ps (F := F) c 0) (Ps c 1) (Ring.sl 2 0) fun x hx => Ps_same c (by revert x; decide)
  rw [Ps_idle c (t := 0) (p := Ring.sl 2 0) (by decide), Ps_busy c (t := 1) (p := Ring.sl 2 0) (by decide)] at hm
  refine hm.trans ?_
  iintro ⟨HI, Hk⟩
  isplitl [HI]; · iexact HI
  iapply Hk; iempintro
theorem P_one : bigSep Finset.univ (Ps (F := F) c 1) ⊢ (iprop(idleO c (Ring.sl 2 1) ∗ bigSep Finset.univ (Ps (F := F) c 2)) : sProp 𝕄) := by
  have hm := move1 (Ps (F := F) c 1) (Ps c 2) (Ring.sl 2 1) fun x hx => Ps_same c (by revert x; decide)
  rw [Ps_idle c (t := 1) (p := Ring.sl 2 1) (by decide), Ps_busy c (t := 2) (p := Ring.sl 2 1) (by decide)] at hm
  refine hm.trans ?_
  iintro ⟨HI, Hk⟩
  isplitl [HI]; · iexact HI
  iapply Hk; iempintro
theorem P_facts : ∀ t : Fin 7, 2 ≤ t.val → ∀ x, Iff (busyO t.val x) (busyO (t.val + 1) x) := by decide
theorem P_mid (t : ℕ) (h2 : 2 ≤ t) (h7 : t < 7) : bigSep Finset.univ (Ps (F := F) c t) ⊢ (bigSep Finset.univ (Ps (F := F) c (t + 1)) : sProp 𝕄) :=
  ent (bigSep_congr fun x _ => Ps_same c (P_facts ⟨t, h7⟩ h2 x))
theorem P_last : bigSep Finset.univ (Ps (F := F) c 7) ⊢ (iprop((idleO c (Ring.sl 2 8) -∗ idleO c (Ring.sl 2 7) -∗ bigSep Finset.univ (Ps (F := F) c 8))) : sProp 𝕄) := by
  have hm := move2 (Ps (F := F) c 7) (Ps c 8) (Ring.sl 2 8) (Ring.sl 2 7) (by decide) fun x ha hb => absurd hb (by revert x; decide)
  rw [Ps_busy c (t := 7) (p := Ring.sl 2 7) (by decide), Ps_busy c (t := 7) (p := Ring.sl 2 8) (by decide), Ps_idle c (t := 8) (p := Ring.sl 2 7) (by decide), Ps_idle c (t := 8) (p := Ring.sl 2 8) (by decide)] at hm
  refine hm.trans ?_
  iintro ⟨-, -, Hk⟩
  iexact Hk
end

end Cert.Proof.Ideal
-- ==== Proof.Ideal.State.lean ====
/-
  The state of the first kernel between two grid points, and the step from one to the next.
-/
module

public import proofs.«01_k».proof.Proof.Ideal.Inv

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## What the accumulators hold after so many tiles -/

section
variable (W : Vec F S256x256 .f32) (X : Vec F S32768x256 .f32)

/-- The histogram after `n` tiles. -/
def histAt : ℕ → Vec F S1x256 .f32
  | 0 => k0_pay1
  | n + 1 => histStep (k0_pay3 W) (k0_pay4 W) (rowsOf X n 2048) (histStep (k0_pay3 W) (k0_pay4 W) (rowsOf X n 0) (histAt n))
/-- The error sum after `n` tiles. -/
def sseAt : ℕ → Vec F S1x128 .f32
  | 0 => k0_pay2
  | n + 1 => sseStep (k0_pay3 W) (k0_pay4 W) (rowsOf X n 2048) (sseStep (k0_pay3 W) (k0_pay4 W) (rowsOf X n 0) (sseAt n))
end

section
variable (c : Dev nD) (W T : Vec F S256x256 .f32) (X : Vec F S32768x256 .f32) (Q E : Vec F S32768x256 .f32) (I : Vec F S32768x1 .i32)

/-- The two accumulators before point `t`; the two arrays they are copied to. -/
def accH (t : ℕ) : sProp 𝕄 := if t = 0 then iprop(∃ f : Vec F S1x256 .f32, pP c bH f) else pP c bH (histAt W X t)
def accS (t : ℕ) : sProp 𝕄 := if t = 0 then iprop(∃ f : Vec F S1x128 .f32, pP c bS f) else pP c bS (sseAt W X t)
def outH (t : ℕ) : sProp 𝕄 := if t = 8 then pP c hH (histAt W X 8) else iprop(∃ f : Vec F S1x256 .f32, pP c hH f)
def outS (t : ℕ) : sProp 𝕄 := if t = 8 then pP c hS (sseAt W X 8) else iprop(∃ f : Vec F S1x128 .f32, pP c hS f)

theorem accH_zero : accH c W X 0 = iprop(∃ f : Vec F S1x256 .f32, pP c bH f) := if_pos rfl
theorem accS_zero : accS c W X 0 = iprop(∃ f : Vec F S1x128 .f32, pP c bS f) := if_pos rfl
theorem accH_pos {t : ℕ} (h : t ≠ 0) : accH c W X t = pP c bH (histAt W X t) := if_neg h
theorem accS_pos {t : ℕ} (h : t ≠ 0) : accS c W X t = pP c bS (sseAt W X t) := if_neg h
theorem outH_end : outH c W X 8 = pP c hH (histAt W X 8) := if_pos rfl
theorem outS_end : outS c W X 8 = pP c hS (sseAt W X 8) := if_pos rfl
theorem outH_any {t : ℕ} (h : t ≠ 8) : outH c W X t = iprop(∃ f : Vec F S1x256 .f32, pP c hH f) := if_neg h
theorem outS_any {t : ℕ} (h : t ≠ 8) : outS c W X t = iprop(∃ f : Vec F S1x128 .f32, pP c hS f) := if_neg h

/-! The steps at a point known by its number. -/

theorem accH_at0 (t : ℕ) (h : t = 0) : accH c W X t = iprop(∃ f : Vec F S1x256 .f32, pP c bH f) := if_pos h
theorem accS_at0 (t : ℕ) (h : t = 0) : accS c W X t = iprop(∃ f : Vec F S1x128 .f32, pP c bS f) := if_pos h
theorem X_zero' (t : ℕ) (h : t = 0) : bigSep Finset.univ (Xs c X t) ⊢ (iprop(homeX c X 0 ∗ homeX c X 1 ∗ homeX c X 2 ∗ homeX c X 3
    ∗ (homeX c X 0 -∗ flyX c X 1 1 -∗ flyX c X 2 2 -∗ flyX c X 3 3 -∗ bigSep Finset.univ (Xs c X (t + 1)))) : sProp 𝕄) := by
  subst h; exact X_zero c X
theorem S_zero' (t : ℕ) (h : t = 0) : bigSep Finset.univ (Ss (F := F) c t) ⊢ (iprop(idleX c 0 ∗ idleX c 1 ∗ idleX c 2 ∗ idleX c 3
    ∗ (idleX c 0 -∗ bigSep Finset.univ (Ss (F := F) c (t + 1)))) : sProp 𝕄) := by
  subst h; exact S_zero c
theorem P_zero' (t : ℕ) (h : t = 0) : bigSep Finset.univ (Ps (F := F) c t) ⊢ (iprop(idleO c (Ring.sl 2 t) ∗ bigSep Finset.univ (Ps (F := F) c (t + 1))) : sProp 𝕄) := by
  subst h; exact P_zero c
theorem P_one' (t : ℕ) (h : t = 1) : bigSep Finset.univ (Ps (F := F) c t) ⊢ (iprop(idleO c (Ring.sl 2 t) ∗ bigSep Finset.univ (Ps (F := F) c (t + 1))) : sProp 𝕄) := by
  subst h; exact P_one c
theorem O_last' (t : ℕ) (h : t = 7) : bigSep Finset.univ (Os c Q E I t) ⊢ (iprop(rawO c (Ring.bk 8 t) ∗ flyO c Q E I (Ring.bk 8 (t - 2)) (Ring.sl 2 t)
    ∗ flyO c Q E I (Ring.bk 8 (t - 1)) (Ring.sl 2 (t + 1))
    ∗ (homeO c Q E I (Ring.bk 8 t) -∗ homeO c Q E I (Ring.bk 8 (t - 2)) -∗ homeO c Q E I (Ring.bk 8 (t - 1)) -∗ bigSep Finset.univ (Os c Q E I (t + 1)))) : sProp 𝕄) := by
  subst h; exact O_last c Q E I
theorem P_last' (t : ℕ) (h : t = 7) : bigSep Finset.univ (Ps (F := F) c t) ⊢ (iprop((idleO c (Ring.sl 2 (t + 1)) -∗ idleO c (Ring.sl 2 t) -∗ bigSep Finset.univ (Ps (F := F) c (t + 1)))) : sProp 𝕄) := by
  subst h; exact P_last c
theorem outH_step (t : ℕ) (h : t ≠ 8) (h' : t + 1 ≠ 8) : outH c W X t = outH c W X (t + 1) := (outH_any c W X h).trans (outH_any c W X h').symm
theorem outS_step (t : ℕ) (h : t ≠ 8) (h' : t + 1 ≠ 8) : outS c W X t = outS c W X (t + 1) := (outS_any c W X h).trans (outS_any c W X h').symm
theorem outH_last (t : ℕ) (h : t = 7) : pP c hH (histAt W X (t + 1)) = outH c W X (t + 1) := by subst h; rfl
theorem outS_last (t : ℕ) (h : t = 7) : pP c hS (sseAt W X (t + 1)) = outS c W X (t + 1) := by subst h; rfl

/-- The state before point `t`. -/
def st (t : ℕ) : sProp 𝕄 :=
  iprop(bigSep Finset.univ (Xs c X t) ∗ bigSep Finset.univ (Ss (F := F) c t) ∗ bigSep Finset.univ (Os c Q E I t) ∗ bigSep Finset.univ (Ps (F := F) c t)
    ∗ accH c W X t ∗ accS c W X t ∗ outH c W X t ∗ outS c W X t ∗ cP c (fsem 0) ∗ cP c (fsem 1))
end

section
variable (c : Dev nD) (W T : Vec F S256x256 .f32) (X : Vec F S32768x256 .f32) (Q E : Vec F S32768x256 .f32) (I : Vec F S32768x1 .i32)
  (aW aT : Memref sig .tc .vmem S256x256 .f32) (hW : aW.IsWhole) (hT : aT.IsWhole)
  (gW : Buf (Elt F) (aW.view.loc (c : Thread nD τ))) (gT : Buf (Elt F) (aT.view.loc (c : Thread nD τ)))
  (t : Fin grid0.N)

theorem histTile_eq (hw : wRead c aW gW = W) (h8 : t.val < 8) : histTile c X aW gW t (histAt W X t.val) = histAt W X (t.val + 1) := by
  subst hw
  show histStep _ _ (rowsOf X (Ring.bk 8 t.val).val 2048) (histStep _ _ (rowsOf X (Ring.bk 8 t.val).val 0) _) = _
  rw [Ring.bk_val h8]; rfl
theorem sseTile_eq (hw : wRead c aW gW = W) (h8 : t.val < 8) : sseTile c X aW gW t (sseAt W X t.val) = sseAt W X (t.val + 1) := by
  subst hw
  show sseStep _ _ (rowsOf X (Ring.bk 8 t.val).val 2048) (sseStep _ _ (rowsOf X (Ring.bk 8 t.val).val 0) _) = _
  rw [Ring.bk_val h8]; rfl

/-- The step at point `t`. -/
theorem step (hw : wRead c aW gW = W) (ht : wRead c aT gT = T)
    (fits : ∀ n : Fin 8, Fits (k0_pay3 W) (k0_pay4 W) (k0_pay5 T) X Q E I n) :
    iprop((∃ W, owes (c : Thread nD τ) 0 W) ∗ pP c aW gW ∗ pP c aT gT ∗ st c W X Q E I t.val)
      ⊢ wp frame (wpE (defs₀ (F := F)) 𝒱₀ (c : Thread nD τ) none) Set.univ (prog aW aT hW hT t)
        (fun _ => iprop((∃ W, owes (c : Thread nD τ) 0 W) ∗ pP c aW gW ∗ pP c aT gT ∗ st c W X Q E I (t.val + 1))) := by
  have h8 : t.val < 8 := t.isLt
  have hf : Fits (wA c aW gW) (wN c aW gW) (wB c aT gT) X Q E I (Ring.bk 8 t.val) := by
    subst hw ht; exact fits _
  have eH := histTile_eq c W X aW gW t hw h8
  have eS := sseTile_eq c W X aW gW t hw h8
  unfold st
  iintro ⟨HO, HW, HT, HX, HS, HY, HP, AH, AS, OH, OS, C0, C1⟩
  by_cases h0 : t.val = 0
  · -- point zero
    have hb : Ring.bk 8 t.val = 0 := by rw [h0]; rfl
    have hs : Ring.sl 4 t.val = 0 := by rw [h0]; rfl
    have hb3 : Ring.bk 8 (t.val + 3) = 3 := by rw [h0]; rfl
    have hs3 : Ring.sl 4 (t.val + 3) = 3 := by rw [h0]; rfl
    have eH0 : histAt W X t.val = k0_pay1 (F := F) := by rw [h0]; rfl
    have eS0 : sseAt W X t.val = k0_pay2 (F := F) := by rw [h0]; rfl
    rw [eH0] at eH
    rw [eS0] at eS
    have hz := body_zero c X Q E I aW aT hW hT gW gT t h0
    rw [hb3, hs3, hs] at hz
    ihave AH := (ent (accH_at0 c W X t.val h0)) $$ AH
    ihave AS := (ent (accS_at0 c W X t.val h0)) $$ AS
    icases AH with ⟨%fH, AH⟩
    icases AS with ⟨%fS, AS⟩
    ihave HX := (X_zero' c X t.val h0) $$ HX
    icases HX with ⟨x0, x1, x2, x3, kX⟩
    ihave HS := (S_zero' c t.val h0) $$ HS
    icases HS with ⟨i0, i1, i2, i3, kS⟩
    ihave HY := (O_early c Q E I t.val (by omega)) $$ HY
    icases HY with ⟨HR, kO⟩
    ihave HP := (P_zero' c t.val h0) $$ HP
    icases HP with ⟨HD, HP⟩
    iapply (wp_wand_r Idealize.ShloMosaic.frame (wpE (defs₀ (F := F)) 𝒱₀ (c : Thread nD τ) none) Set.univ)
    isplitl [HO HW HT x0 i0 x1 i1 x2 i2 x3 i3 AH AS HD HR]
    · iapply (hz fH fS hf)
      isplitl [HO]; · iexact HO
      isplitl [HW]; · iexact HW
      isplitl [HT]; · iexact HT
      isplitl [x0 i0]
      · isplitl [x0]; · iexact x0
        iexact i0
      isplitl [x1 i1]
      · isplitl [x1]; · iexact x1
        iexact i1
      isplitl [x2 i2]
      · isplitl [x2]; · iexact x2
        iexact i2
      isplitl [x3]; · iexact x3
      isplitl [i3]; · iexact i3
      isplitl [AH]; · iexact AH
      isplitl [AS]; · iexact AS
      isplitl [HD]; · iexact HD
      iexact HR
    iintro %r ⟨HO, HW, HT, HH, HZ, X0, I0, HF, F1, F2, F3⟩
    ihave HX := kX $$ [X0] [F1] [F2] [F3]
    · rw [← hb]; iexact X0
    · iexact F1
    · iexact F2
    · iexact F3
    ihave HS := kS $$ I0
    ihave HY := kO $$ [HF]
    · iexact HF
    isplitl [HO]; · iexact HO
    isplitl [HW]; · iexact HW
    isplitl [HT]; · iexact HT
    isplitl [HX]; · iexact HX
    isplitl [HS]; · iexact HS
    isplitl [HY]; · iexact HY
    isplitl [HP]; · iexact HP
    isplitl [HH]; · rw [accH_pos c W X (Nat.succ_ne_zero _), ← eH]; iexact HH
    isplitl [HZ]; · rw [accS_pos c W X (Nat.succ_ne_zero _), ← eS]; iexact HZ
    isplitl [OH]; · iapply (ent (outH_step c W X t.val (by omega) (by omega))); iexact OH
    isplitl [OS]; · iapply (ent (outS_step c W X t.val (by omega) (by omega))); iexact OS
    isplitl [C0]; · iexact C0
    iexact C1
  by_cases h1 : t.val = 1
  · -- point one
    ihave AH := (ent (accH_pos c W X (t := t.val) (by omega))) $$ AH
    ihave AS := (ent (accS_pos c W X (t := t.val) (by omega))) $$ AS
    ihave HX := (X_mid c X t.val (by omega) (by omega)) $$ HX
    icases HX with ⟨x0, x3, kX⟩
    ihave HS := (S_mid c t.val (by omega) (by omega)) $$ HS
    icases HS with ⟨i3, kS⟩
    ihave HY := (O_early c Q E I t.val (by omega)) $$ HY
    icases HY with ⟨HR, kO⟩
    ihave HP := (P_one' c t.val h1) $$ HP
    icases HP with ⟨HD, HP⟩
    iapply (wp_wand_r Idealize.ShloMosaic.frame (wpE (defs₀ (F := F)) 𝒱₀ (c : Thread nD τ) none) Set.univ)
    isplitl [HO HW HT x3 i3 AH AS x0 HD HR]
    · iapply (body_one c X Q E I aW aT hW hT gW gT t h1 _ _ hf)
      isplitl [HO]; · iexact HO
      isplitl [HW]; · iexact HW
      isplitl [HT]; · iexact HT
      isplitl [x3]; · iexact x3
      isplitl [i3]; · iexact i3
      isplitl [AH]; · iexact AH
      isplitl [AS]; · iexact AS
      isplitl [x0]; · iexact x0
      isplitl [HD]; · iexact HD
      iexact HR
    iintro %r ⟨HO, HW, HT, HH, HZ, X0, I0, HF, F3⟩
    ihave HX := kX $$ [X0] [F3]
    · iexact X0
    · iexact F3
    ihave HS := kS $$ I0
    ihave HY := kO $$ HF
    isplitl [HO]; · iexact HO
    isplitl [HW]; · iexact HW
    isplitl [HT]; · iexact HT
    isplitl [HX]; · iexact HX
    isplitl [HS]; · iexact HS
    isplitl [HY]; · iexact HY
    isplitl [HP]; · iexact HP
    isplitl [HH]; · rw [accH_pos c W X (Nat.succ_ne_zero _), ← eH]; iexact HH
    isplitl [HZ]; · rw [accS_pos c W X (Nat.succ_ne_zero _), ← eS]; iexact HZ
    isplitl [OH]; · iapply (ent (outH_step c W X t.val (by omega) (by omega))); iexact OH
    isplitl [OS]; · iapply (ent (outS_step c W X t.val (by omega) (by omega))); iexact OS
    isplitl [C0]; · iexact C0
    iexact C1
  by_cases h3 : t.val + 3 < 8
  · -- a middle point
    ihave AH := (ent (accH_pos c W X (t := t.val) (by omega))) $$ AH
    ihave AS := (ent (accS_pos c W X (t := t.val) (by omega))) $$ AS
    ihave HX := (X_mid c X t.val (by omega) (by omega)) $$ HX
    icases HX with ⟨x0, x3, kX⟩
    ihave HS := (S_mid c t.val (by omega) (by omega)) $$ HS
    icases HS with ⟨i3, kS⟩
    ihave HY := (O_mid c Q E I t.val (by omega) (by omega)) $$ HY
    icases HY with ⟨HR, o2, kO⟩
    ihave HP := (P_mid c t.val (by omega) (by omega)) $$ HP
    iapply (wp_wand_r Idealize.ShloMosaic.frame (wpE (defs₀ (F := F)) 𝒱₀ (c : Thread nD τ) none) Set.univ)
    isplitl [HO HW HT x3 i3 o2 AH AS x0 HR]
    · iapply (body_mid c X Q E I aW aT hW hT gW gT t (by omega) h3 _ _ hf)
      isplitl [HO]; · iexact HO
      isplitl [HW]; · iexact HW
      isplitl [HT]; · iexact HT
      isplitl [x3]; · iexact x3
      isplitl [i3]; · iexact i3
      isplitl [o2]; · iexact o2
      isplitl [AH]; · iexact AH
      isplitl [AS]; · iexact AS
      isplitl [x0]; · iexact x0
      iexact HR
    iintro %r ⟨HO, HW, HT, HH, HZ, X0, I0, HF, F3, G2⟩
    ihave HX := kX $$ [X0] [F3]
    · iexact X0
    · iexact F3
    ihave HS := kS $$ I0
    ihave HY := kO $$ [HF] [G2]
    · iexact HF
    · iexact G2
    isplitl [HO]; · iexact HO
    isplitl [HW]; · iexact HW
    isplitl [HT]; · iexact HT
    isplitl [HX]; · iexact HX
    isplitl [HS]; · iexact HS
    isplitl [HY]; · iexact HY
    isplitl [HP]; · iexact HP
    isplitl [HH]; · rw [accH_pos c W X (Nat.succ_ne_zero _), ← eH]; iexact HH
    isplitl [HZ]; · rw [accS_pos c W X (Nat.succ_ne_zero _), ← eS]; iexact HZ
    isplitl [OH]; · iapply (ent (outH_step c W X t.val (by omega) (by omega))); iexact OH
    isplitl [OS]; · iapply (ent (outS_step c W X t.val (by omega) (by omega))); iexact OS
    isplitl [C0]; · iexact C0
    iexact C1
  by_cases h7 : t.val = 7
  · -- the last point
    ihave AH := (ent (accH_pos c W X (t := t.val) (by omega))) $$ AH
    ihave AS := (ent (accS_pos c W X (t := t.val) (by omega))) $$ AS
    ihave OH := (ent (outH_any c W X (t := t.val) (by omega))) $$ OH
    ihave OS := (ent (outS_any c W X (t := t.val) (by omega))) $$ OS
    ihave HX := (X_late c X t.val h8 h3) $$ HX
    icases HX with ⟨x0, kX⟩
    ihave kS := (S_late c t.val h8 h3) $$ HS
    ihave HY := (O_last' c Q E I t.val h7) $$ HY
    icases HY with ⟨HR, o2, o1, kO⟩
    ihave kP := (P_last' c t.val h7) $$ HP
    iapply (wp_wand_r Idealize.ShloMosaic.frame (wpE (defs₀ (F := F)) 𝒱₀ (c : Thread nD τ) none) Set.univ)
    isplitl [HO HW HT o2 AH AS x0 HR o1 OH OS C0 C1]
    · iapply (body_last c X Q E I aW aT hW hT gW gT t h7 _ _ hf)
      isplitl [HO]; · iexact HO
      isplitl [HW]; · iexact HW
      isplitl [HT]; · iexact HT
      isplitl [o2]; · iexact o2
      isplitl [AH]; · iexact AH
      isplitl [AS]; · iexact AS
      isplitl [x0]; · iexact x0
      isplitl [HR]; · iexact HR
      isplitl [o1]; · iexact o1
      isplitl [OH]; · iexact OH
      isplitl [OS]; · iexact OS
      isplitl [C0]; · iexact C0
      iexact C1
    iintro %r ⟨HO, HW, HT, HH, HZ, X0, I0, G2, G1, J1, G0, J0, OH, OS, C0, C1⟩
    ihave HX := kX $$ X0
    ihave HS := kS $$ I0
    ihave HY := kO $$ [G0] [G2] [G1]
    · iexact G0
    · iexact G2
    · iexact G1
    ihave HP := kP $$ [J1] [J0]
    · iexact J1
    · iexact J0
    isplitl [HO]; · iexact HO
    isplitl [HW]; · iexact HW
    isplitl [HT]; · iexact HT
    isplitl [HX]; · iexact HX
    isplitl [HS]; · iexact HS
    isplitl [HY]; · iexact HY
    isplitl [HP]; · iexact HP
    isplitl [HH]; · rw [accH_pos c W X (Nat.succ_ne_zero _), ← eH]; iexact HH
    isplitl [HZ]; · rw [accS_pos c W X (Nat.succ_ne_zero _), ← eS]; iexact HZ
    isplitl [OH]; · iapply (ent (outH_last c W X t.val h7)); rw [← eH]; iexact OH
    isplitl [OS]; · iapply (ent (outS_last c W X t.val h7)); rw [← eS]; iexact OS
    isplitl [C0]; · iexact C0
    iexact C1
  · -- a late point
    ihave AH := (ent (accH_pos c W X (t := t.val) (by omega))) $$ AH
    ihave AS := (ent (accS_pos c W X (t := t.val) (by omega))) $$ AS
    ihave HX := (X_late c X t.val h8 h3) $$ HX
    icases HX with ⟨x0, kX⟩
    ihave kS := (S_late c t.val h8 h3) $$ HS
    ihave HY := (O_mid c Q E I t.val (by omega) (by omega)) $$ HY
    icases HY with ⟨HR, o2, kO⟩
    ihave HP := (P_mid c t.val (by omega) (by omega)) $$ HP
    iapply (wp_wand_r Idealize.ShloMosaic.frame (wpE (defs₀ (F := F)) 𝒱₀ (c : Thread nD τ) none) Set.univ)
    isplitl [HO HW HT o2 AH AS x0 HR]
    · iapply (body_late c X Q E I aW aT hW hT gW gT t h3 h7 _ _ hf)
      isplitl [HO]; · iexact HO
      isplitl [HW]; · iexact HW
      isplitl [HT]; · iexact HT
      isplitl [o2]; · iexact o2
      isplitl [AH]; · iexact AH
      isplitl [AS]; · iexact AS
      isplitl [x0]; · iexact x0
      iexact HR
    iintro %r ⟨HO, HW, HT, HH, HZ, X0, I0, HF, G2⟩
    ihave HX := kX $$ X0
    ihave HS := kS $$ I0
    ihave HY := kO $$ [HF] [G2]
    · iexact HF
    · iexact G2
    isplitl [HO]; · iexact HO
    isplitl [HW]; · iexact HW
    isplitl [HT]; · iexact HT
    isplitl [HX]; · iexact HX
    isplitl [HS]; · iexact HS
    isplitl [HY]; · iexact HY
    isplitl [HP]; · iexact HP
    isplitl [HH]; · rw [accH_pos c W X (Nat.succ_ne_zero _), ← eH]; iexact HH
    isplitl [HZ]; · rw [accS_pos c W X (Nat.succ_ne_zero _), ← eS]; iexact HZ
    isplitl [OH]; · iapply (ent (outH_step c W X t.val (by omega) (by omega))); iexact OH
    isplitl [OS]; · iapply (ent (outS_step c W X t.val (by omega) (by omega))); iexact OS
    isplitl [C0]; · iexact C0
    iexact C1
end

end Cert.Proof.Ideal
-- ==== Proof.Ideal.Split.lean ====
/-
  The first kernel's arrays and buffers, whole, as their chunks; and back.
-/
module

public import proofs.«01_k».proof.Proof.Ideal.State

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## A buffer as a family of pieces told apart by a key -/

section
variable {ℓ : Loc nD τ sig} {B : ℕ}

/-- One level. -/
theorem whole_one (p : Idx ℓ → Fin B) (K : Fin B → Finset (Idx ℓ)) (h : ∀ n i, Iff (i ∈ K n) (p i = n)) (f : Buf (Elt F) ℓ) :
    (ℓ ↦{fullShare} f : sProp 𝕄) = bigSep Finset.univ fun n => ℓ ↦[K n]{fullShare} f := by
  refine Ring.pointsTo_blocks K (fun b b' hb => ?_) ?_ f
  · rw [Finset.disjoint_left]; intro i hi hi'; exact hb (((h b i).mp hi).symm.trans ((h b' i).mp hi'))
  · ext i; simp only [Finset.mem_biUnion, Finset.mem_univ, true_and, iff_true]; exact ⟨p i, (h _ i).mpr rfl⟩

theorem join_one (p : Idx ℓ → Fin B) (K : Fin B → Finset (Idx ℓ)) (h : ∀ n i, Iff (i ∈ K n) (p i = n)) (f₀ : Buf (Elt F) ℓ) :
    bigSep Finset.univ (fun n => iprop(∃ f, ℓ ↦[K n]{fullShare} f)) ⊢ (iprop(∃ g, ℓ ↦{fullShare} g) : sProp 𝕄) := by
  refine Ring.pointsTo_blocks_join_exists K (fun b b' hb => ?_) ?_ f₀
  · rw [Finset.disjoint_left]; intro i hi hi'; exact hb (((h b i).mp hi).symm.trans ((h b' i).mp hi'))
  · ext i; simp only [Finset.mem_biUnion, Finset.mem_univ, true_and, iff_true]; exact ⟨p i, (h _ i).mpr rfl⟩

/-- A set of elements as four pieces. -/
theorem four_eq (q : Idx ℓ → Fin 4) (S : Finset (Idx ℓ)) (K : Fin 4 → Finset (Idx ℓ)) (h : ∀ k i, Iff (i ∈ K k) (i ∈ S ∧ q i = k)) (f : Buf (Elt F) ℓ) :
    (ℓ ↦[S]{fullShare} f : sProp 𝕄) = four fun k => ℓ ↦[K k]{fullShare} f := by
  have e : S = Finset.univ.biUnion K := by
    ext i; simp only [Finset.mem_biUnion, Finset.mem_univ, true_and]
    exact ⟨fun hi => ⟨q i, (h _ i).mpr ⟨hi, rfl⟩⟩, fun ⟨k, hk⟩ => ((h k i).mp hk).1⟩
  rw [e, pointsTo_biUnion Finset.univ K (fun b _ b' _ hb => by
    rw [Finset.disjoint_left]; intro i hi hi'; exact hb (((h b i).mp hi).2.symm.trans ((h b' i).mp hi').2)),
    bigSep_univ_eq_bigSepL [0, 1, 2, 3] (by decide) (by decide)]
  rfl

/-- Two levels. -/
theorem whole_two (p : Idx ℓ → Fin B) (q : Idx ℓ → Fin 4) (K : Fin B → Fin 4 → Finset (Idx ℓ))
    (h : ∀ n k i, Iff (i ∈ K n k) (p i = n ∧ q i = k)) (f : Buf (Elt F) ℓ) :
    (ℓ ↦{fullShare} f : sProp 𝕄) = bigSep Finset.univ fun n => four fun k => ℓ ↦[K n k]{fullShare} f := by
  rw [whole_one p (fun n => Finset.univ.filter fun i => p i = n) (fun n i => by simp) f]
  exact bigSep_congr fun n _ => four_eq q _ (K n) (fun k i => (h n k i).trans (by simp)) f

theorem join_two (p : Idx ℓ → Fin B) (q : Idx ℓ → Fin 4) (K : Fin B → Fin 4 → Finset (Idx ℓ))
    (h : ∀ n k i, Iff (i ∈ K n k) (p i = n ∧ q i = k)) (f₀ : Buf (Elt F) ℓ) :
    bigSep Finset.univ (fun n => iprop(∃ f, four fun k => ℓ ↦[K n k]{fullShare} f)) ⊢ (iprop(∃ g, ℓ ↦{fullShare} g) : sProp 𝕄) := by
  have e : ∀ n f, (four fun k => (ℓ ↦[K n k]{fullShare} f : sProp 𝕄)) = (ℓ ↦[Finset.univ.filter fun i => p i = n]{fullShare} f) := fun n f =>
    (four_eq q (Finset.univ.filter fun i => p i = n) (K n) (fun k i => (h n k i).trans (by simp)) f).symm
  simp only [e]
  exact join_one p (fun n => Finset.univ.filter fun i => p i = n) (fun n i => by simp) f₀
end

/-! ## The keys -/

theorem key_rows {W : ℕ} (n : Fin 8) (k : Fin 4) (inb : ∀ a, chOff n k a + (![1024, W] : Fin 2 → ℕ) a ≤ (⟨2, ![32768, W]⟩ : Shape).size a) (i : (⟨2, ![32768, W]⟩ : Shape).Idx) :
    Iff (i ∈ (Rect.unit (s := ⟨2, ![32768, W]⟩) (chOff n k) ![1024, W] inb).set)
      ((⟨(i 0).val / 4096, by have : (i 0).val < 32768 := (i 0).isLt; omega⟩ : Fin 8) = n ∧ (⟨(i 0).val % 4096 / 1024, by omega⟩ : Fin 4) = k) := by
  rw [Rect.mem_set_unit, Fin.ext_iff, Fin.ext_iff]
  have hi : (i 0).val < 32768 := (i 0).isLt
  have hn := n.isLt
  have hk := k.isLt
  have hj : (i 1).val < W := (i 1).isLt
  constructor
  · intro h
    have h0 : 4096 * n.val + 1024 * k.val ≤ (i 0).val ∧ (i 0).val < 4096 * n.val + 1024 * k.val + 1024 := h 0
    constructor
    · show (i 0).val / 4096 = n.val; omega
    · show (i 0).val % 4096 / 1024 = k.val; omega
  · rintro ⟨h1, h2⟩ a
    have h1' : (i 0).val / 4096 = n.val := h1
    have h2' : (i 0).val % 4096 / 1024 = k.val := h2
    match a with
    | ⟨0, _⟩ => show 4096 * n.val + 1024 * k.val ≤ (i 0).val ∧ (i 0).val < 4096 * n.val + 1024 * k.val + 1024; omega
    | ⟨1, _⟩ => show 0 ≤ (i 1).val ∧ (i 1).val < 0 + W; omega

theorem key_tile {W : ℕ} (n : Fin 8) (inb : ∀ a, chOff n 0 a + (![4096, W] : Fin 2 → ℕ) a ≤ (⟨2, ![32768, W]⟩ : Shape).size a) (i : (⟨2, ![32768, W]⟩ : Shape).Idx) :
    Iff (i ∈ (Rect.unit (s := ⟨2, ![32768, W]⟩) (chOff n 0) ![4096, W] inb).set)
      ((⟨(i 0).val / 4096, by have : (i 0).val < 32768 := (i 0).isLt; omega⟩ : Fin 8) = n) := by
  rw [Rect.mem_set_unit, Fin.ext_iff]
  have hi : (i 0).val < 32768 := (i 0).isLt
  have hn := n.isLt
  have hj : (i 1).val < W := (i 1).isLt
  constructor
  · intro h
    have h0 : 4096 * n.val + 1024 * 0 ≤ (i 0).val ∧ (i 0).val < 4096 * n.val + 1024 * 0 + 4096 := h 0
    show (i 0).val / 4096 = n.val; omega
  · intro h1 a
    have h1' : (i 0).val / 4096 = n.val := h1
    match a with
    | ⟨0, _⟩ => show 4096 * n.val + 1024 * 0 ≤ (i 0).val ∧ (i 0).val < 4096 * n.val + 1024 * 0 + 4096; omega
    | ⟨1, _⟩ => show 0 ≤ (i 1).val ∧ (i 1).val < 0 + W; omega

theorem key_slot {B W : ℕ} (s : Fin B) (k : Fin 4) (inb : ∀ a, slOff s k a + (![1, 1024, W] : Fin 3 → ℕ) a ≤ (⟨3, ![B, 4096, W]⟩ : Shape).size a) (i : (⟨3, ![B, 4096, W]⟩ : Shape).Idx) :
    Iff (i ∈ (Rect.unit (s := ⟨3, ![B, 4096, W]⟩) (slOff s k) ![1, 1024, W] inb).set)
      ((⟨(i 0).val, (i 0).isLt⟩ : Fin B) = s ∧ (⟨(i 1).val / 1024, by have : (i 1).val < 4096 := (i 1).isLt; omega⟩ : Fin 4) = k) := by
  rw [Rect.mem_set_unit, Fin.ext_iff, Fin.ext_iff]
  have hi : (i 1).val < 4096 := (i 1).isLt
  have hk := k.isLt
  have hj : (i 2).val < W := (i 2).isLt
  constructor
  · intro h
    have h0 : s.val ≤ (i 0).val ∧ (i 0).val < s.val + 1 := h 0
    have h1 : 1024 * k.val ≤ (i 1).val ∧ (i 1).val < 1024 * k.val + 1024 := h 1
    constructor
    · show (i 0).val = s.val; omega
    · show (i 1).val / 1024 = k.val; omega
  · rintro ⟨h1, h2⟩ a
    have h1' : (i 0).val = s.val := h1
    have h2' : (i 1).val / 1024 = k.val := h2
    match a with
    | ⟨0, _⟩ => show s.val ≤ (i 0).val ∧ (i 0).val < s.val + 1; omega
    | ⟨1, _⟩ => show 1024 * k.val ≤ (i 1).val ∧ (i 1).val < 1024 * k.val + 1024; omega
    | ⟨2, _⟩ => show 0 ≤ (i 2).val ∧ (i 2).val < 0 + W; omega

theorem key_whole_slot {B W : ℕ} (s : Fin B) (inb : ∀ a, slOff s 0 a + (![1, 4096, W] : Fin 3 → ℕ) a ≤ (⟨3, ![B, 4096, W]⟩ : Shape).size a) (i : (⟨3, ![B, 4096, W]⟩ : Shape).Idx) :
    Iff (i ∈ (Rect.unit (s := ⟨3, ![B, 4096, W]⟩) (slOff s 0) ![1, 4096, W] inb).set) ((⟨(i 0).val, (i 0).isLt⟩ : Fin B) = s) := by
  rw [Rect.mem_set_unit, Fin.ext_iff]
  have hi : (i 1).val < 4096 := (i 1).isLt
  have hj : (i 2).val < W := (i 2).isLt
  constructor
  · intro h
    have h0 : s.val ≤ (i 0).val ∧ (i 0).val < s.val + 1 := h 0
    show (i 0).val = s.val; omega
  · intro h1 a
    have h1' : (i 0).val = s.val := h1
    match a with
    | ⟨0, _⟩ => show s.val ≤ (i 0).val ∧ (i 0).val < s.val + 1; omega
    | ⟨1, _⟩ => show 1024 * 0 ≤ (i 1).val ∧ (i 1).val < 1024 * 0 + 4096; omega
    | ⟨2, _⟩ => show 0 ≤ (i 2).val ∧ (i 2).val < 0 + W; omega

/-! ## The arrays -/

section
variable (c : Dev nD)

theorem mem_xch (n : Fin 8) (k : Fin 4) (i : S32768x256.Idx) : Iff (i ∈ (xch n k).view.set)
    ((⟨(i 0).val / 4096, by have : (i 0).val < 32768 := (i 0).isLt; omega⟩ : Fin 8) = n ∧ (⟨(i 0).val % 4096 / 1024, by omega⟩ : Fin 4) = k) := by
  have e : (xch n k).view.set = (Rect.unit (s := S32768x256) (chOff n k) S1024x256.size (chOff_inb n k)).set := View.set_slice_whole _ _
  rw [e]; exact key_rows n k (chOff_inb n k) i
theorem wholeX (f : Vec F S32768x256 .f32) :
    (((c : Thread nD τ).loc main_v0) ↦{fullShare} f : sProp 𝕄) = bigSep Finset.univ fun n => four fun k => pP c (xch n k) f :=
  whole_two (ℓ := (c : Thread nD τ).loc main_v0) (fun i : S32768x256.Idx => (⟨(i 0).val / 4096, by have : (i 0).val < 32768 := (i 0).isLt; omega⟩ : Fin 8))
    (fun i : S32768x256.Idx => (⟨(i 0).val % 4096 / 1024, by omega⟩ : Fin 4)) (fun n k => (xch n k).view.set) (fun n k i => mem_xch n k i) f
theorem mem_qch (n : Fin 8) (k : Fin 4) (i : S32768x256.Idx) : Iff (i ∈ (qch n k).view.set)
    ((⟨(i 0).val / 4096, by have : (i 0).val < 32768 := (i 0).isLt; omega⟩ : Fin 8) = n ∧ (⟨(i 0).val % 4096 / 1024, by omega⟩ : Fin 4) = k) := by
  have e : (qch n k).view.set = (Rect.unit (s := S32768x256) (chOff n k) S1024x256.size (chOff_inb n k)).set := View.set_slice_whole _ _
  rw [e]; exact key_rows n k (chOff_inb n k) i
theorem wholeQ (f : Vec F S32768x256 .f32) :
    (((c : Thread nD τ).loc main_v2_0) ↦{fullShare} f : sProp 𝕄) = bigSep Finset.univ fun n => four fun k => pP c (qch n k) f :=
  whole_two (ℓ := (c : Thread nD τ).loc main_v2_0) (fun i : S32768x256.Idx => (⟨(i 0).val / 4096, by have : (i 0).val < 32768 := (i 0).isLt; omega⟩ : Fin 8))
    (fun i : S32768x256.Idx => (⟨(i 0).val % 4096 / 1024, by omega⟩ : Fin 4)) (fun n k => (qch n k).view.set) (fun n k i => mem_qch n k i) f
theorem mem_ech (n : Fin 8) (k : Fin 4) (i : S32768x256.Idx) : Iff (i ∈ (ech n k).view.set)
    ((⟨(i 0).val / 4096, by have : (i 0).val < 32768 := (i 0).isLt; omega⟩ : Fin 8) = n ∧ (⟨(i 0).val % 4096 / 1024, by omega⟩ : Fin 4) = k) := by
  have e : (ech n k).view.set = (Rect.unit (s := S32768x256) (chOff n k) S1024x256.size (chOff_inb n k)).set := View.set_slice_whole _ _
  rw [e]; exact key_rows n k (chOff_inb n k) i
theorem wholeE (f : Vec F S32768x256 .f32) :
    (((c : Thread nD τ).loc main_v2_1) ↦{fullShare} f : sProp 𝕄) = bigSep Finset.univ fun n => four fun k => pP c (ech n k) f :=
  whole_two (ℓ := (c : Thread nD τ).loc main_v2_1) (fun i : S32768x256.Idx => (⟨(i 0).val / 4096, by have : (i 0).val < 32768 := (i 0).isLt; omega⟩ : Fin 8))
    (fun i : S32768x256.Idx => (⟨(i 0).val % 4096 / 1024, by omega⟩ : Fin 4)) (fun n k => (ech n k).view.set) (fun n k i => mem_ech n k i) f
theorem mem_ich (n : Fin 8) (i : S32768x1.Idx) : Iff (i ∈ (ich n).view.set)
    ((⟨(i 0).val / 4096, by have : (i 0).val < 32768 := (i 0).isLt; omega⟩ : Fin 8) = n) := by
  have e : (ich n).view.set = (Rect.unit (s := S32768x1) (chOff n 0) S4096x1.size (ichOff_inb n)).set := View.set_slice_whole _ _
  rw [e]; exact key_tile n (ichOff_inb n) i
theorem wholeI (f : Vec F S32768x1 .i32) :
    (((c : Thread nD τ).loc main_v2_2) ↦{fullShare} f : sProp 𝕄) = bigSep Finset.univ fun n => pP c (ich n) f :=
  whole_one (ℓ := (c : Thread nD τ).loc main_v2_2) (fun i : S32768x1.Idx => (⟨(i 0).val / 4096, by have : (i 0).val < 32768 := (i 0).isLt; omega⟩ : Fin 8))
    (fun n => (ich n).view.set) (fun n i => mem_ich n i) f
theorem mem_xsl (s : Fin 4) (k : Fin 4) (i : S4x4096x256.Idx) : Iff (i ∈ (xsl s k).view.set)
    ((⟨(i 0).val, (i 0).isLt⟩ : Fin 4) = s ∧ (⟨(i 1).val / 1024, by have : (i 1).val < 4096 := (i 1).isLt; omega⟩ : Fin 4) = k) := by
  have e : (xsl s k).view.set = (Rect.unit (s := S4x4096x256) (slOff s k) S1x1024x256.size (xslOff_inb s k)).set :=
    (View.set_reshape _ _).trans (View.set_slice_whole _ _)
  rw [e]; exact key_slot s k (xslOff_inb s k) i
theorem whole_bX (f : Vec F S4x4096x256 .f32) :
    (((c : Thread nD τ).loc cc0_scratch0) ↦{fullShare} f : sProp 𝕄) = bigSep Finset.univ fun n => four fun k => pP c (xsl n k) f :=
  whole_two (ℓ := (c : Thread nD τ).loc cc0_scratch0) (fun i : S4x4096x256.Idx => (⟨(i 0).val, (i 0).isLt⟩ : Fin 4))
    (fun i : S4x4096x256.Idx => (⟨(i 1).val / 1024, by have : (i 1).val < 4096 := (i 1).isLt; omega⟩ : Fin 4)) (fun n k => (xsl n k).view.set) (fun n k i => mem_xsl n k i) f
theorem join_bX (f : Vec F S4x4096x256 .f32) :
    bigSep Finset.univ (fun n => iprop(∃ f : Vec F S4x4096x256 .f32, four fun k => pP c (xsl n k) f)) ⊢ (iprop(∃ f, ((c : Thread nD τ).loc cc0_scratch0) ↦{fullShare} f) : sProp 𝕄) :=
  join_two (ℓ := (c : Thread nD τ).loc cc0_scratch0) (fun i : S4x4096x256.Idx => (⟨(i 0).val, (i 0).isLt⟩ : Fin 4))
    (fun i : S4x4096x256.Idx => (⟨(i 1).val / 1024, by have : (i 1).val < 4096 := (i 1).isLt; omega⟩ : Fin 4)) (fun n k => (xsl n k).view.set) (fun n k i => mem_xsl n k i) f
theorem mem_qsl (s : Fin 2) (k : Fin 4) (i : S2x4096x256.Idx) : Iff (i ∈ (qsl s k).view.set)
    ((⟨(i 0).val, (i 0).isLt⟩ : Fin 2) = s ∧ (⟨(i 1).val / 1024, by have : (i 1).val < 4096 := (i 1).isLt; omega⟩ : Fin 4) = k) := by
  have e : (qsl s k).view.set = (Rect.unit (s := S2x4096x256) (slOff s k) S1x1024x256.size (oslOff_inb s k)).set :=
    (View.set_reshape _ _).trans (View.set_slice_whole _ _)
  rw [e]; exact key_slot s k (oslOff_inb s k) i
theorem whole_bQ (f : Vec F S2x4096x256 .f32) :
    (((c : Thread nD τ).loc cc0_scratch1) ↦{fullShare} f : sProp 𝕄) = bigSep Finset.univ fun n => four fun k => pP c (qsl n k) f :=
  whole_two (ℓ := (c : Thread nD τ).loc cc0_scratch1) (fun i : S2x4096x256.Idx => (⟨(i 0).val, (i 0).isLt⟩ : Fin 2))
    (fun i : S2x4096x256.Idx => (⟨(i 1).val / 1024, by have : (i 1).val < 4096 := (i 1).isLt; omega⟩ : Fin 4)) (fun n k => (qsl n k).view.set) (fun n k i => mem_qsl n k i) f
theorem join_bQ (f : Vec F S2x4096x256 .f32) :
    bigSep Finset.univ (fun n => iprop(∃ f : Vec F S2x4096x256 .f32, four fun k => pP c (qsl n k) f)) ⊢ (iprop(∃ f, ((c : Thread nD τ).loc cc0_scratch1) ↦{fullShare} f) : sProp 𝕄) :=
  join_two (ℓ := (c : Thread nD τ).loc cc0_scratch1) (fun i : S2x4096x256.Idx => (⟨(i 0).val, (i 0).isLt⟩ : Fin 2))
    (fun i : S2x4096x256.Idx => (⟨(i 1).val / 1024, by have : (i 1).val < 4096 := (i 1).isLt; omega⟩ : Fin 4)) (fun n k => (qsl n k).view.set) (fun n k i => mem_qsl n k i) f
theorem mem_esl (s : Fin 2) (k : Fin 4) (i : S2x4096x256.Idx) : Iff (i ∈ (esl s k).view.set)
    ((⟨(i 0).val, (i 0).isLt⟩ : Fin 2) = s ∧ (⟨(i 1).val / 1024, by have : (i 1).val < 4096 := (i 1).isLt; omega⟩ : Fin 4) = k) := by
  have e : (esl s k).view.set = (Rect.unit (s := S2x4096x256) (slOff s k) S1x1024x256.size (oslOff_inb s k)).set :=
    (View.set_reshape _ _).trans (View.set_slice_whole _ _)
  rw [e]; exact key_slot s k (oslOff_inb s k) i
theorem whole_bE (f : Vec F S2x4096x256 .f32) :
    (((c : Thread nD τ).loc cc0_scratch2) ↦{fullShare} f : sProp 𝕄) = bigSep Finset.univ fun n => four fun k => pP c (esl n k) f :=
  whole_two (ℓ := (c : Thread nD τ).loc cc0_scratch2) (fun i : S2x4096x256.Idx => (⟨(i 0).val, (i 0).isLt⟩ : Fin 2))
    (fun i : S2x4096x256.Idx => (⟨(i 1).val / 1024, by have : (i 1).val < 4096 := (i 1).isLt; omega⟩ : Fin 4)) (fun n k => (esl n k).view.set) (fun n k i => mem_esl n k i) f
theorem join_bE (f : Vec F S2x4096x256 .f32) :
    bigSep Finset.univ (fun n => iprop(∃ f : Vec F S2x4096x256 .f32, four fun k => pP c (esl n k) f)) ⊢ (iprop(∃ f, ((c : Thread nD τ).loc cc0_scratch2) ↦{fullShare} f) : sProp 𝕄) :=
  join_two (ℓ := (c : Thread nD τ).loc cc0_scratch2) (fun i : S2x4096x256.Idx => (⟨(i 0).val, (i 0).isLt⟩ : Fin 2))
    (fun i : S2x4096x256.Idx => (⟨(i 1).val / 1024, by have : (i 1).val < 4096 := (i 1).isLt; omega⟩ : Fin 4)) (fun n k => (esl n k).view.set) (fun n k i => mem_esl n k i) f
theorem mem_isl (s : Fin 2) (i : S2x4096x1.Idx) : Iff (i ∈ (isl s).view.set) ((⟨(i 0).val, (i 0).isLt⟩ : Fin 2) = s) := by
  have e : (isl s).view.set = (Rect.unit (s := S2x4096x1) (slOff s 0) S1x4096x1.size (islOff_inb s)).set :=
    (View.set_reshape _ _).trans (View.set_slice_whole _ _)
  rw [e]; exact key_whole_slot s (islOff_inb s) i
theorem whole_bI (f : Vec F S2x4096x1 .i32) :
    (((c : Thread nD τ).loc cc0_scratch3) ↦{fullShare} f : sProp 𝕄) = bigSep Finset.univ fun n => pP c (isl n) f :=
  whole_one (ℓ := (c : Thread nD τ).loc cc0_scratch3) (fun i : S2x4096x1.Idx => (⟨(i 0).val, (i 0).isLt⟩ : Fin 2)) (fun n => (isl n).view.set) (fun n i => mem_isl n i) f
theorem join_bI (f : Vec F S2x4096x1 .i32) :
    bigSep Finset.univ (fun n => iprop(∃ f, pP c (isl n) f)) ⊢ (iprop(∃ f, ((c : Thread nD τ).loc cc0_scratch3) ↦{fullShare} f) : sProp 𝕄) :=
  join_one (ℓ := (c : Thread nD τ).loc cc0_scratch3) (fun i : S2x4096x1.Idx => (⟨(i 0).val, (i 0).isLt⟩ : Fin 2)) (fun n => (isl n).view.set) (fun n i => mem_isl n i) f

end

end Cert.Proof.Ideal
-- ==== Proof.Ideal.Ends.lean ====
/-
  The state before the first grid point, taken from whole arrays, buffers and cells; the state after the last, given back.
-/
module

public import proofs.«01_k».proof.Proof.Ideal.Split

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The cells of the kernel's own copies. -/
def cells : Fin 36 → DmaSems sig S_ := ![csem 0 0, csem 0 1, csem 0 2, csem 0 3, csem 1 0, csem 1 1, csem 1 2, csem 1 3, csem 2 0, csem 2 1, csem 2 2, csem 2 3, csem 3 0, csem 3 1, csem 3 2, csem 3 3, qsem 0 0, qsem 0 1, qsem 0 2, qsem 0 3, qsem 1 0, qsem 1 1, qsem 1 2, qsem 1 3, esem 0 0, esem 0 1, esem 0 2, esem 0 3, esem 1 0, esem 1 1, esem 1 2, esem 1 3, isem 0, isem 1, fsem 0, fsem 1]
abbrev osem : Fin 36 → SemLoc sig := fun k => .dma (cells k).sem
theorem ownSemFacts : Pipeline.OwnSemFacts spec0 osem := by decide

section
variable (c : Dev nD)

abbrev ownC : sProp 𝕄 := Pipeline.ownSems0 (Ix := Unit) (Name := ℕ) (U := UU nD τ) (Lvl := ℕ) (Val := Elt F) (τ := τ) osem c
/-- The cells, grouped by slot. -/
abbrev allCells : sProp 𝕄 := iprop((cellX c 0 ∗ cellX c 1 ∗ cellX c 2 ∗ cellX c 3) ∗ (cellO c 0 ∗ cellO c 1) ∗ cP c (fsem 0) ∗ cP c (fsem 1))

theorem ownC_eq : (ownC c : sProp 𝕄) = iprop(cP c (csem 0 0) ∗ cP c (csem 0 1) ∗ cP c (csem 0 2) ∗ cP c (csem 0 3) ∗ cP c (csem 1 0) ∗ cP c (csem 1 1) ∗ cP c (csem 1 2) ∗ cP c (csem 1 3) ∗ cP c (csem 2 0) ∗ cP c (csem 2 1) ∗ cP c (csem 2 2) ∗ cP c (csem 2 3) ∗ cP c (csem 3 0) ∗ cP c (csem 3 1) ∗ cP c (csem 3 2) ∗ cP c (csem 3 3) ∗ cP c (qsem 0 0) ∗ cP c (qsem 0 1) ∗ cP c (qsem 0 2) ∗ cP c (qsem 0 3) ∗ cP c (qsem 1 0) ∗ cP c (qsem 1 1) ∗ cP c (qsem 1 2) ∗ cP c (qsem 1 3) ∗ cP c (esem 0 0) ∗ cP c (esem 0 1) ∗ cP c (esem 0 2) ∗ cP c (esem 0 3) ∗ cP c (esem 1 0) ∗ cP c (esem 1 1) ∗ cP c (esem 1 2) ∗ cP c (esem 1 3) ∗ cP c (isem 0) ∗ cP c (isem 1) ∗ cP c (fsem 0) ∗ cP c (fsem 1)) := by
  refine (Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35] (by decide) (by decide)).trans ?_
  rfl
theorem cells_in : (ownC c : sProp 𝕄) ⊢ allCells c := by
  rw [ownC_eq]
  iintro ⟨S0, S1, S2, S3, S4, S5, S6, S7, S8, S9, S10, S11, S12, S13, S14, S15, S16, S17, S18, S19, S20, S21, S22, S23, S24, S25, S26, S27, S28, S29, S30, S31, S32, S33, S34, S35⟩
  isplitl [S0 S1 S2 S3 S4 S5 S6 S7 S8 S9 S10 S11 S12 S13 S14 S15]
  · isplitl [S0 S1 S2 S3]
    · isplitl [S0]
      · iexact S0
      isplitl [S1]
      · iexact S1
      isplitl [S2]
      · iexact S2
      iexact S3
    isplitl [S4 S5 S6 S7]
    · isplitl [S4]
      · iexact S4
      isplitl [S5]
      · iexact S5
      isplitl [S6]
      · iexact S6
      iexact S7
    isplitl [S8 S9 S10 S11]
    · isplitl [S8]
      · iexact S8
      isplitl [S9]
      · iexact S9
      isplitl [S10]
      · iexact S10
      iexact S11
    isplitl [S12]
    · iexact S12
    isplitl [S13]
    · iexact S13
    isplitl [S14]
    · iexact S14
    iexact S15
  isplitl [S16 S17 S18 S19 S24 S25 S26 S27 S32 S20 S21 S22 S23 S28 S29 S30 S31 S33]
  · isplitl [S16 S17 S18 S19 S24 S25 S26 S27 S32]
    · isplitl [S16 S17 S18 S19]
      · isplitl [S16]
        · iexact S16
        isplitl [S17]
        · iexact S17
        isplitl [S18]
        · iexact S18
        iexact S19
      isplitl [S24 S25 S26 S27]
      · isplitl [S24]
        · iexact S24
        isplitl [S25]
        · iexact S25
        isplitl [S26]
        · iexact S26
        iexact S27
      iexact S32
    isplitl [S20 S21 S22 S23]
    · isplitl [S20]
      · iexact S20
      isplitl [S21]
      · iexact S21
      isplitl [S22]
      · iexact S22
      iexact S23
    isplitl [S28 S29 S30 S31]
    · isplitl [S28]
      · iexact S28
      isplitl [S29]
      · iexact S29
      isplitl [S30]
      · iexact S30
      iexact S31
    iexact S33
  isplitl [S34]
  · iexact S34
  iexact S35
theorem cells_out : allCells c ⊢ (ownC c : sProp 𝕄) := by
  rw [ownC_eq]
  iintro ⟨⟨⟨S0, S1, S2, S3⟩, ⟨S4, S5, S6, S7⟩, ⟨S8, S9, S10, S11⟩, ⟨S12, S13, S14, S15⟩⟩, ⟨⟨⟨S16, S17, S18, S19⟩, ⟨S24, S25, S26, S27⟩, S32⟩, ⟨⟨S20, S21, S22, S23⟩, ⟨S28, S29, S30, S31⟩, S33⟩⟩, S34, S35⟩
  isplitl [S0]
  · iexact S0
  isplitl [S1]
  · iexact S1
  isplitl [S2]
  · iexact S2
  isplitl [S3]
  · iexact S3
  isplitl [S4]
  · iexact S4
  isplitl [S5]
  · iexact S5
  isplitl [S6]
  · iexact S6
  isplitl [S7]
  · iexact S7
  isplitl [S8]
  · iexact S8
  isplitl [S9]
  · iexact S9
  isplitl [S10]
  · iexact S10
  isplitl [S11]
  · iexact S11
  isplitl [S12]
  · iexact S12
  isplitl [S13]
  · iexact S13
  isplitl [S14]
  · iexact S14
  isplitl [S15]
  · iexact S15
  isplitl [S16]
  · iexact S16
  isplitl [S17]
  · iexact S17
  isplitl [S18]
  · iexact S18
  isplitl [S19]
  · iexact S19
  isplitl [S20]
  · iexact S20
  isplitl [S21]
  · iexact S21
  isplitl [S22]
  · iexact S22
  isplitl [S23]
  · iexact S23
  isplitl [S24]
  · iexact S24
  isplitl [S25]
  · iexact S25
  isplitl [S26]
  · iexact S26
  isplitl [S27]
  · iexact S27
  isplitl [S28]
  · iexact S28
  isplitl [S29]
  · iexact S29
  isplitl [S30]
  · iexact S30
  isplitl [S31]
  · iexact S31
  isplitl [S32]
  · iexact S32
  isplitl [S33]
  · iexact S33
  isplitl [S34]
  · iexact S34
  iexact S35

/-! ## Eight tiles, four slots, two slots, listed -/

theorem big8 (P : Fin 8 → sProp 𝕄) : bigSep Finset.univ P = iprop(P 0 ∗ P 1 ∗ P 2 ∗ P 3 ∗ P 4 ∗ P 5 ∗ P 6 ∗ P 7) :=
  bigSep_univ_eq_bigSepL [0, 1, 2, 3, 4, 5, 6, 7] (by decide) (by decide) P
theorem big4 (P : Fin 4 → sProp 𝕄) : bigSep Finset.univ P = iprop(P 0 ∗ P 1 ∗ P 2 ∗ P 3) :=
  bigSep_univ_eq_bigSepL [0, 1, 2, 3] (by decide) (by decide) P
theorem big2 (P : Fin 2 → sProp 𝕄) : bigSep Finset.univ P = iprop(P 0 ∗ P 1) :=
  bigSep_univ_eq_bigSepL [0, 1] (by decide) (by decide) P

/-! ## The kernel's own buffers and cells: idle slots -/

abbrev bufs : sProp 𝕄 := iprop((∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f)
  ∗ (∃ f : Buf (Elt F) ((c : Thread nD τ).loc cc0_scratch2), ((c : Thread nD τ).loc cc0_scratch2) ↦{fullShare} f)
  ∗ (∃ f : Buf (Elt F) ((c : Thread nD τ).loc cc0_scratch3), ((c : Thread nD τ).loc cc0_scratch3) ↦{fullShare} f))

/-- All slots idle. -/
def slots : sProp 𝕄 := iprop((idleX c 0 ∗ idleX c 1 ∗ idleX c 2 ∗ idleX c 3) ∗ idleO c 0 ∗ idleO c 1)

theorem slots_in : iprop(bufs c ∗ (cellX c 0 ∗ cellX c 1 ∗ cellX c 2 ∗ cellX c 3) ∗ (cellO c 0 ∗ cellO c 1)) ⊢ (slots c : sProp 𝕄) := by
  unfold slots idleX idleO
  iintro ⟨⟨⟨%fx, X⟩, ⟨%fq, Q⟩, ⟨%fe, E⟩, ⟨%fi, I⟩⟩, ⟨C0, C1, C2, C3⟩, O0, O1⟩
  ihave X := (ent ((whole_bX c fx).trans (big4 _))) $$ X
  ihave Q := (ent ((whole_bQ c fq).trans (big2 _))) $$ Q
  ihave E := (ent ((whole_bE c fe).trans (big2 _))) $$ E
  ihave I := (ent ((whole_bI c fi).trans (big2 _))) $$ I
  icases X with ⟨X0, X1, X2, X3⟩
  icases Q with ⟨Q0, Q1⟩
  icases E with ⟨E0, E1⟩
  icases I with ⟨I0, I1⟩
  isplitl [X0 X1 X2 X3 C0 C1 C2 C3]
  · isplitl [X0 C0]
    · isplitl [X0]
      · iexists fx; iexact X0
      · iexact C0
    isplitl [X1 C1]
    · isplitl [X1]
      · iexists fx; iexact X1
      · iexact C1
    isplitl [X2 C2]
    · isplitl [X2]
      · iexists fx; iexact X2
      · iexact C2
    isplitl [X3]
    · iexists fx; iexact X3
    · iexact C3
  isplitl [Q0 E0 I0 O0]
  · isplitl [Q0]
    · iexists fq; iexact Q0
    isplitl [E0]
    · iexists fe; iexact E0
    isplitl [I0]
    · iexists fi; iexact I0
    · iexact O0
  · isplitl [Q1]
    · iexists fq; iexact Q1
    isplitl [E1]
    · iexists fe; iexact E1
    isplitl [I1]
    · iexists fi; iexact I1
    · iexact O1

theorem slots_out : (slots c : sProp 𝕄) ⊢ iprop(bufs c ∗ (cellX c 0 ∗ cellX c 1 ∗ cellX c 2 ∗ cellX c 3) ∗ (cellO c 0 ∗ cellO c 1)) := by
  unfold slots idleX idleO
  iintro ⟨⟨⟨⟨%f0, X0⟩, C0⟩, ⟨⟨%f1, X1⟩, C1⟩, ⟨⟨%f2, X2⟩, C2⟩, ⟨%f3, X3⟩, C3⟩, ⟨⟨%q0, Q0⟩, ⟨%e0, E0⟩, ⟨%i0, I0⟩, O0⟩, ⟨%q1, Q1⟩, ⟨%e1, E1⟩, ⟨%i1, I1⟩, O1⟩
  isplitl [X0 X1 X2 X3 Q0 E0 I0 Q1 E1 I1]
  · isplitl [X0 X1 X2 X3]
    · iapply (join_bX c f0)
      iapply (ent (big4 (fun n => iprop(∃ f : Vec F S4x4096x256 .f32, four fun k => pP c (xsl n k) f))).symm)
      isplitl [X0]
      · iexists f0; iexact X0
      isplitl [X1]
      · iexists f1; iexact X1
      isplitl [X2]
      · iexists f2; iexact X2
      · iexists f3; iexact X3
    isplitl [Q0 Q1]
    · iapply (join_bQ c q0)
      iapply (ent (big2 (fun n => iprop(∃ f : Vec F S2x4096x256 .f32, four fun k => pP c (qsl n k) f))).symm)
      isplitl [Q0]
      · iexists q0; iexact Q0
      · iexists q1; iexact Q1
    isplitl [E0 E1]
    · iapply (join_bE c e0)
      iapply (ent (big2 (fun n => iprop(∃ f : Vec F S2x4096x256 .f32, four fun k => pP c (esl n k) f))).symm)
      isplitl [E0]
      · iexists e0; iexact E0
      · iexists e1; iexact E1
    · iapply (join_bI c i0)
      iapply (ent (big2 (fun n => iprop(∃ f, pP c (isl n) f))).symm)
      isplitl [I0]
      · iexists i0; iexact I0
      · iexists i1; iexact I1
  isplitl [C0 C1 C2 C3]
  · isplitl [C0]
    · iexact C0
    isplitl [C1]
    · iexact C1
    isplitl [C2]
    · iexact C2
    · iexact C3
  isplitl [O0]
  · iexact O0
  · iexact O1

/-! ## The two ends -/

variable (W : Vec F S256x256 .f32) (X Q E : Vec F S32768x256 .f32) (I : Vec F S32768x1 .i32)

theorem Xs_all {t : ℕ} (h : ∀ n : Fin 8, ¬ flyingX t n) : bigSep Finset.univ (Xs c X t) = ((((c : Thread nD τ).loc main_v0) ↦{fullShare} X : sProp 𝕄)) :=
  (bigSep_congr fun n _ => (Xs_home c X (h n)).trans rfl).trans (wholeX c X).symm

theorem Ss_all {t : ℕ} (h : ∀ s : Fin 4, ¬ busyX t s) : bigSep Finset.univ (Ss (F := F) c t) = iprop(idleX c 0 ∗ idleX c 1 ∗ idleX c 2 ∗ idleX c 3) :=
  (bigSep_congr fun s _ => Ss_idle c (h s)).trans (big4 _)
theorem Ps_all {t : ℕ} (h : ∀ s : Fin 2, ¬ busyO t s) : bigSep Finset.univ (Ps (F := F) c t) = iprop(idleO c 0 ∗ idleO c 1) :=
  (bigSep_congr fun s _ => Ps_idle c (h s)).trans (big2 _)

theorem noX0 : ∀ n : Fin 8, ¬ flyingX 0 n := by decide
theorem noX8 : ∀ n : Fin 8, ¬ flyingX 8 n := by decide
theorem noS0 : ∀ n : Fin 4, ¬ busyX 0 n := by decide
theorem noS8 : ∀ n : Fin 4, ¬ busyX 8 n := by decide
theorem noO0 : ∀ n : Fin 8, ¬ flyingO 0 n := by decide
theorem noO8 : ∀ n : Fin 8, ¬ flyingO 8 n := by decide
theorem noP0 : ∀ n : Fin 2, ¬ busyO 0 n := by decide
theorem noP8 : ∀ n : Fin 2, ¬ busyO 8 n := by decide

theorem Os_first (q e : Vec F S32768x256 .f32) (i : Vec F S32768x1 .i32) :
    iprop(((((c : Thread nD τ).loc main_v2_0) ↦{fullShare} q : sProp 𝕄)) ∗ (((c : Thread nD τ).loc main_v2_1) ↦{fullShare} e) ∗ (((c : Thread nD τ).loc main_v2_2) ↦{fullShare} i))
      ⊢ bigSep Finset.univ (Os c Q E I 0) := by
  refine (ent ((congrArg₂ BI.sep (wholeQ c q) (congrArg₂ BI.sep (wholeE c e) (wholeI c i))).trans
    ((congrArg (BI.sep _) (bigSep_sep Finset.univ _ _).symm).trans (bigSep_sep Finset.univ _ _).symm))).trans (bigSep_mono fun n _ => ?_)
  rw [Os_raw c Q E I (noO0 n) (Nat.not_lt_zero _)]
  have h : iprop((four fun k => pP c (qch n k) q) ∗ (four fun k => pP c (ech n k) e) ∗ pP c (ich n) i) ⊢ rawO c n := by
    unfold rawO
    iintro ⟨⟨Q0, Q1, Q2, Q3⟩, ⟨E0, E1, E2, E3⟩, J⟩
    isplitl [Q0 Q1 Q2 Q3]
    · isplitl [Q0]
      · iexists q; iexact Q0
      isplitl [Q1]
      · iexists q; iexact Q1
      isplitl [Q2]
      · iexists q; iexact Q2
      · iexists q; iexact Q3
    isplitl [E0 E1 E2 E3]
    · isplitl [E0]
      · iexists e; iexact E0
      isplitl [E1]
      · iexists e; iexact E1
      isplitl [E2]
      · iexists e; iexact E2
      · iexists e; iexact E3
    · iexists i; iexact J
  exact h

theorem Os_last :
    bigSep Finset.univ (Os c Q E I 8)
      = iprop(((((c : Thread nD τ).loc main_v2_0) ↦{fullShare} Q : sProp 𝕄)) ∗ (((c : Thread nD τ).loc main_v2_1) ↦{fullShare} E) ∗ (((c : Thread nD τ).loc main_v2_2) ↦{fullShare} I)) := by
  refine Eq.trans ?_ ((congrArg₂ BI.sep (wholeQ c Q) (congrArg₂ BI.sep (wholeE c E) (wholeI c I))).trans
    ((congrArg (BI.sep _) (bigSep_sep Finset.univ _ _).symm).trans (bigSep_sep Finset.univ _ _).symm)).symm
  exact bigSep_congr fun n _ => (Os_home c Q E I (noO8 n) n.isLt).trans rfl

end

end Cert.Proof.Ideal
-- ==== Proof.Ideal.Values.lean ====
/-
  What the first kernel leaves in its three large outputs: each half tile of 2048 rows is computed from the same rows of
  the input, and the outputs are those half tiles laid one after the other.
-/
module

public import proofs.«01_k».proof.Proof.Ideal.Ends
public import Idealize.ShloMosaic.Lib.Pipeline.ValueKit

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- Half tiles, laid one after the other. -/
def glue {α : Type} {W : ℕ} [NeZero W] (P : ℕ → ℕ → (⟨3, ![1, 2048, W]⟩ : Shape).Idx → α) : (⟨2, ![32768, W]⟩ : Shape).Idx → α :=
  fun i => P ((i 0).val / 4096) ((i 0).val % 4096 / 2048 * 2048) (ValueIdx.ix3 (0 : Fin 1) (Fin.ofNat 2048 ((i 0).val % 2048)) (Fin.ofNat W (i 1).val))

theorem rowsOf_glue {α : Type} {W : ℕ} [NeZero W] (P : ℕ → ℕ → (⟨3, ![1, 2048, W]⟩ : Shape).Idx → α) (n : Fin 8) (o : ℕ) (ho : o = 0 ∨ o = 2048) :
    rowsOf (glue P) n.val o = P n.val o := by
  funext j
  have hn := n.isLt
  have h0 : (j 0).val < 1 := (j 0).isLt
  have h1 : (j 1).val < 2048 := (j 1).isLt
  have h2 : (j 2).val < W := (j 2).isLt
  have e1 : (4096 * n.val + o + (j 1).val) % 32768 / 4096 = n.val := by rcases ho with rfl | rfl <;> omega
  have e2 : (4096 * n.val + o + (j 1).val) % 32768 % 4096 / 2048 * 2048 = o := by rcases ho with rfl | rfl <;> omega
  have e3 : (4096 * n.val + o + (j 1).val) % 32768 % 2048 % 2048 = (j 1).val := by rcases ho with rfl | rfl <;> omega
  have e4 : (j 2).val % W % W = (j 2).val := by rw [Nat.mod_eq_of_lt h2, Nat.mod_eq_of_lt h2]
  show P ((4096 * n.val + o + (j 1).val) % 32768 / 4096) ((4096 * n.val + o + (j 1).val) % 32768 % 4096 / 2048 * 2048)
    (ValueIdx.ix3 (0 : Fin 1) (Fin.ofNat 2048 ((4096 * n.val + o + (j 1).val) % 32768 % 2048)) (Fin.ofNat W ((j 2).val % W))) = P n.val o j
  rw [e1, e2]
  congr 1
  funext a
  match a with
  | ⟨0, _⟩ => exact Fin.ext (by show 0 = (j 0).val; omega)
  | ⟨1, _⟩ => exact Fin.ext e3
  | ⟨2, _⟩ => exact Fin.ext e4

section
variable (W T : Vec F S256x256 .f32) (X : Vec F S32768x256 .f32)

/-- The quantised rows, -/
def qAll : Vec F S32768x256 .f32 := glue fun n o => k0_pay13 (k0_pay12 (k0_pay3 W) (k0_pay4 W) (k0_pay5 T) (rowsOf X n o))
/-- the encodings -/
def eAll : Vec F S32768x256 .f32 := glue fun n o => k0_pay14 (k0_pay10 (k0_pay3 W) (k0_pay4 W) (rowsOf X n o))
/-- and the indices. -/
def iAll : Vec F S32768x1 .i32 := glue fun n o => k0_pay15 (k0_pay9 (k0_pay3 W) (k0_pay4 W) (rowsOf X n o))

theorem fits (n : Fin 8) : Fits (k0_pay3 W) (k0_pay4 W) (k0_pay5 T) X (qAll W T X) (eAll W X) (iAll W X) n where
  q0 := (rowsOf_glue (fun n o => k0_pay13 (k0_pay12 (k0_pay3 W) (k0_pay4 W) (k0_pay5 T) (rowsOf X n o))) n 0 (.inl rfl)).symm
  q1 := (rowsOf_glue (fun n o => k0_pay13 (k0_pay12 (k0_pay3 W) (k0_pay4 W) (k0_pay5 T) (rowsOf X n o))) n 2048 (.inr rfl)).symm
  e0 := (rowsOf_glue (fun n o => k0_pay14 (k0_pay10 (k0_pay3 W) (k0_pay4 W) (rowsOf X n o))) n 0 (.inl rfl)).symm
  e1 := (rowsOf_glue (fun n o => k0_pay14 (k0_pay10 (k0_pay3 W) (k0_pay4 W) (rowsOf X n o))) n 2048 (.inr rfl)).symm
  i0 := (rowsOf_glue (fun n o => k0_pay15 (k0_pay9 (k0_pay3 W) (k0_pay4 W) (rowsOf X n o))) n 0 (.inl rfl)).symm
  i1 := (rowsOf_glue (fun n o => k0_pay15 (k0_pay9 (k0_pay3 W) (k0_pay4 W) (rowsOf X n o))) n 2048 (.inr rfl)).symm

/-! ## The two staged operands -/

variable (c : Dev nD) (t : Fin cfg0.N)

abbrev blkW : Vec F S256x256 .f32 := ((cfg0.win 0).blk t).view.read (Elt F) W
abbrev blkT : Vec F S256x256 .f32 := ((cfg0.win 1).blk t).view.read (Elt F) T

theorem blkW_eq : blkW W t = W := by
  funext i
  refine (View.read_apply _ _).trans (congrArg W ?_)
  funext a
  refine Fin.ext ?_
  match a with
  | ⟨0, _⟩ => blk_simp; exact Nat.zero_add _
  | ⟨1, _⟩ => blk_simp; exact Nat.zero_add _
theorem blkT_eq : blkT T t = T := by
  funext i
  refine (View.read_apply _ _).trans (congrArg T ?_)
  funext a
  refine Fin.ext ?_
  match a with
  | ⟨0, _⟩ => blk_simp; exact Nat.zero_add _
  | ⟨1, _⟩ => blk_simp; exact Nat.zero_add _

theorem wRead_W : wRead c (st0_0 t) ((st0_0 t).view.rep (blkW W t)) = W :=
  (View.readAt_full (st0_0 t).view _ inb_S256x256_S256x256_0_0).trans ((View.read_rep _ _).trans (blkW_eq W t))
theorem wRead_T : wRead c (st0_1 t) ((st0_1 t).view.rep (blkT T t)) = T :=
  (View.readAt_full (st0_1 t).view _ inb_S256x256_S256x256_0_0).trans ((View.read_rep _ _).trans (blkT_eq T t))
end

end Cert.Proof.Ideal
-- ==== Proof.Ideal.Region0.lean ====
/-
  The proof data of the two kernel calls and the body obligation of the first.
-/
module

public import proofs.«01_k».proof.Proof.Ideal.Values
public import proofs.«01_k».proof.Proof.Gen.KernelIdeal.Regions

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (V : Dev nD → Valuation τ sig (Elt F)) (c : Dev nD)

/-! ## The first call's operands and results at the contents `V` -/

abbrev opX : Vec F S32768x256 .f32 := V c main_v0
abbrev opW : Vec F S256x256 .f32 := V c main_arg1
abbrev opT : Vec F S256x256 .f32 := V c main_v1
abbrev outQ : Vec F S32768x256 .f32 := qAll (opW V c) (opT V c) (opX V c)
abbrev outE : Vec F S32768x256 .f32 := eAll (opW V c) (opX V c)
abbrev outI : Vec F S32768x1 .i32 := iAll (opW V c) (opX V c)
abbrev outHist : Vec F S1x256 .f32 := histAt (opW V c) (opX V c) 8
abbrev outSse : Vec F S1x128 .f32 := sseAt (opW V c) (opX V c) 8

/-- The second call's staging buffers, which the first does not touch. -/
def rest : sProp 𝕄 := iprop((∃ f : Buf (Elt F) ((c : Thread nD τ).loc cc1_stg0_0), ((c : Thread nD τ).loc cc1_stg0_0) ↦{fullShare} f)
  ∗ (∃ f : Buf (Elt F) ((c : Thread nD τ).loc cc1_stg1_0), ((c : Thread nD τ).loc cc1_stg1_0) ↦{fullShare} f)
  ∗ (∃ f : Buf (Elt F) ((c : Thread nD τ).loc cc1_stg2_0), ((c : Thread nD τ).loc cc1_stg2_0) ↦{fullShare} f)
  ∗ (∃ f : Buf (Elt F) ((c : Thread nD τ).loc cc1_stg3_0), ((c : Thread nD τ).loc cc1_stg3_0) ↦{fullShare} f))

/-- The state before point `n`. -/
def inv (n : ℕ) : sProp 𝕄 := iprop(st c (opW V c) (opX V c) (outQ V c) (outE V c) (outI V c) n ∗ rest c ∗ (∃ r, prngReg c r))

def dat0 : Dat τ (Elt F) Unit ℕ (UU nD τ) ℕ cfg0 c where
  A w := V c (Pipeline.arrRef spec0 w)
  after w t := match w with
    | ⟨0, _⟩ => blkW (opW V c) t
    | ⟨1, _⟩ => blkT (opT V c) t
  Φ t := inv V c t.val
  q _ := fullShare
  owed _ := 0

theorem before0_0 (t : Fin cfg0.N) (d) : (dat0 V c).before 0 t d = blkW (opW V c) t :=
  (Dat.before_in_eq_fetched (dat0 V c) 0 rfl (fun _ => rfl) (fun _ _ _ => rfl) (fun _ => rfl) t d).trans rfl
theorem before0_1 (t : Fin cfg0.N) (d) : (dat0 V c).before 1 t d = blkT (opT V c) t :=
  (Dat.before_in_eq_fetched (dat0 V c) 1 rfl (fun _ => rfl) (fun _ _ _ => rfl) (fun _ => rfl) t d).trans rfl
theorem after0_0 (t : Fin cfg0.N) : (dat0 V c).after 0 t = blkW (opW V c) t := by dsimp only [dat0]
theorem after0_1 (t : Fin cfg0.N) : (dat0 V c).after 1 t = blkT (opT V c) t := by dsimp only [dat0]

/-- The table's entry is the kernel. -/
theorem defs_tc0 : (defs₀ (F := F)) .tc cfg0.body
    = fun a => prog (win0_0.stage (a.2 0)) (win0_1.stage (a.2 1)) (hstage0_0 ((a.2 0).cast nbuf0_0)) (hstage0_1 ((a.2 1).cast nbuf0_1)) a.1 := rfl
theorem prog_eq0 (t : Fin cfg0.N) : (defs₀ (F := F)) .tc cfg0.body (cfg0.bodyArgs t (cfg0.slots t))
    = prog (st0_0 t) (st0_1 t) (hstage0_0 ((cfg0.slots t 0).cast nbuf0_0)) (hstage0_1 ((cfg0.slots t 1).cast nbuf0_1)) t :=
  (congrFun defs_tc0 _).trans rfl

set_option backward.isDefEq.respectTransparency.types false in
theorem body_obligation0 : BodyObligation (dat0 V c) (defs₀ (F := F)) 𝒱₀ () Set.univ := fun t => by
  rw [bigSep_W0, bigSep_W0]
  dsimp only
  simp only [before0_0, before0_1, after0_0, after0_1]
  rw [show (dat0 V c).Φ t.castSucc = inv V c t.val from rfl, show (dat0 V c).Φ t.succ = inv V c (t.val + 1) from rfl]
  unfold Dat.owesAt Pipeline.owesWithin
  rw [show (dat0 V c).owed t.castSucc = 0 from rfl, show (dat0 V c).owed t.succ = 0 from rfl]
  unfold owns inv
  iintro ⟨⟨HS, HR, HP⟩, ⟨%O, -, HO⟩, ⟨%d0, %g0, %hg0, H0⟩, ⟨%d1, %g1, %hg1, H1⟩⟩
  ihave H0' := (pointsTo_rep_entails (c : Thread nD τ) (st0_0 t) g0 fullShare) $$ H0
  ihave H1' := (pointsTo_rep_entails (c : Thread nD τ) (st0_1 t) g1 fullShare) $$ H1
  rw [hg0, hg1]
  sl_rw [prog_eq0 t]
  iapply (wp_wand_r Idealize.ShloMosaic.frame (wpE (defs₀ (F := F)) 𝒱₀ (c : Thread nD τ) none) Set.univ)
  isplitl [HS HO H0' H1']
  · iapply (step c (opW V c) (opT V c) (opX V c) (outQ V c) (outE V c) (outI V c) (st0_0 t) (st0_1 t) _ _ _ _ t
      (wRead_W (opW V c) c t) (wRead_T (opT V c) c t) (fun n => fits (opW V c) (opT V c) (opX V c) n))
    isplitl [HO]; · iexists O; iexact HO
    isplitl [H0']; · iexact H0'
    isplitl [H1']; · iexact H1'
    iexact HS
  · iintro %r ⟨⟨%O', HO⟩, H0, H1, HS⟩
    isplitl [HS HR HP]
    · isplitl [HS]; · iexact HS
      isplitl [HR]; · iexact HR
      iexact HP
    isplitl [HO]
    · iexists O'; isplitr; · ipureintro; exact fun _ _ => Or.inl trivial
      iexact HO
    isplitl [H0]
    · iexists _; isplitr; · ipureintro; exact View.read_rep _ _
      iexact H0
    · iexists _; isplitr; · ipureintro; exact View.read_rep _ _
      iexact H1

end

end Cert.Proof.Ideal
-- ==== Proof.Ideal.Region1.lean ====
/-
  The second call's body: it turns the histogram and the error sum into the loss and the perplexity.
-/
module

public import proofs.«01_k».proof.Proof.Ideal.Region0

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (c : Dev nD)

abbrev sH : Memref sig .tc .vmem S1x256 .f32 := Memref.whole cc1_stg0_0
abbrev sS : Memref sig .tc .vmem S1x128 .f32 := Memref.whole cc1_stg1_0
abbrev sL : Memref sig .tc .vmem S1x1 .f32 := Memref.whole cc1_stg2_0
abbrev sP : Memref sig .tc .vmem S1x1 .f32 := Memref.whole cc1_stg3_0

/-- The first entry of the error sum. -/
abbrev first1 (s : Vec F S1x128 .f32) : Vec F S1x1 .f32 :=
  sS.view.readAt (Elt F) (Rect.unit (s := S1x128) ![0, 0] S1x1.size inb_S1x128_S1x1_0_0).toLoadRect s
/-- The loss from the error sum; -/
def lossOf (s : Vec F S1x128 .f32) : Vec F S1x1 .f32 := k1_pay1 (first1 s)
/-- the perplexity from the histogram. -/
def perpOf (h : Vec F S1x256 .f32) : Vec F S1x1 .f32 := k1_pay2 h

theorem readHist (f : Vec F S1x256 .f32) :
    sH.view.readAt (Elt F) (Rect.unit (s := S1x256) ![0, 0] S1x256.size inb_S1x256_S1x256_0_0).toLoadRect f = f :=
  View.readAt_full sH.view f inb_S1x256_S1x256_0_0

abbrev wP {sp : Space} {s : Shape} {e : EltTy} (M : Memref sig .tc sp s e) (f : Buf (Elt F) (M.view.loc (c : Thread nD τ))) : sProp 𝕄 :=
  M.view.loc (c : Thread nD τ) ↦{fullShare} f

theorem storedL (f v : Vec F S1x1 .f32) :
    wP c sL (sL.view.writes (Elt F) f [⟨Rect.unit (s := S1x1) ![0, 0] S1x1.size inb_S1x1_S1x1_0_0, v⟩]) ⊢ (wP c sL v : sProp 𝕄) :=
  ent (pointsTo_congr fun i _ => congrFun (View.read_writes_full sL.view f inb_S1x1_S1x1_0_0 v []) i)
theorem storedP (f v : Vec F S1x1 .f32) :
    wP c sP (sP.view.writes (Elt F) f [⟨Rect.unit (s := S1x1) ![0, 0] S1x1.size inb_S1x1_S1x1_0_0, v⟩]) ⊢ (wP c sP v : sProp 𝕄) :=
  ent (pointsTo_congr fun i _ => congrFun (View.read_writes_full sP.view f inb_S1x1_S1x1_0_0 v []) i)

theorem finRun (h : Vec F S1x256 .f32) (s : Vec F S1x128 .f32) (l p : Vec F S1x1 .f32) :
    iprop(wP c sH h ∗ wP c sS s ∗ wP c sL l ∗ wP c sP p)
      ⊢ wp frame (wpE (defs₀ (F := F)) 𝒱₀ (c : Thread nD τ) none) Set.univ
        (cc1__vq_finalize sH (Memref.isWhole_whole _) sS (Memref.isWhole_whole _) sL (Memref.isWhole_whole _) sP (Memref.isWhole_whole _))
        (fun _ => iprop(wP c sH h ∗ wP c sS s ∗ wP c sL (lossOf s) ∗ wP c sP (perpOf h))) := by
  rw [cc1__vq_finalize_eq_skeleton]
  iintro ⟨H0, H1, H2, H3⟩
  sl_unfold [cc1__vq_finalize_skel]
  sl_exec
  sl_step
  ihave H2' := (storedL c l _) $$ H2
  ihave H3' := (storedP c p _) $$ H3
  isplitl [H0]; · iexact H0
  isplitl [H1]; · iexact H1
  isplitl [H2']; · iexact H2'
  iapply (ent (congrArg (fun v => wP c sP (k1_pay2 v)) (readHist h))) $$ H3'
end

/-! ## The proof data -/

section
variable (V : Dev nD → Valuation τ sig (Elt F)) (c : Dev nD)

abbrev inHist : Vec F S1x256 .f32 := V c main_v2_3
abbrev inSse : Vec F S1x128 .f32 := V c main_v2_4

abbrev inv1 : sProp 𝕄 := iprop(Pipeline.scopedRest (Ix := Unit) (Name := ℕ) (U := UU nD τ) (Lvl := ℕ) (Val := Elt F) spec1 c ∗ ∃ r, prngReg c r)

def dat1 : Dat τ (Elt F) Unit ℕ (UU nD τ) ℕ cfg1 c where
  A w := V c (Pipeline.arrRef spec1 w)
  after w _ := match w with
    | ⟨0, _⟩ => inHist V c
    | ⟨1, _⟩ => inSse V c
    | ⟨2, _⟩ => lossOf (inSse V c)
    | ⟨3, _⟩ => perpOf (inHist V c)
  Φ _ := inv1 c
  q _ := fullShare
  owed _ := 0

abbrev blkH (f : Vec F S1x256 .f32) : Vec F S1x256 .f32 := ((cfg1.win 0).blk t1_0).view.read (Elt F) f
abbrev blkS (f : Vec F S1x128 .f32) : Vec F S1x128 .f32 := ((cfg1.win 1).blk t1_0).view.read (Elt F) f
theorem blkH_eq (f : Vec F S1x256 .f32) : blkH f = f := by
  funext i
  refine (View.read_apply _ _).trans (congrArg f ?_)
  funext a
  refine Fin.ext ?_
  match a with
  | ⟨0, _⟩ => blk_simp; rfl
  | ⟨1, _⟩ => blk_simp; exact Nat.zero_add _
theorem blkS_eq (f : Vec F S1x128 .f32) : blkS f = f := by
  funext i
  refine (View.read_apply _ _).trans (congrArg f ?_)
  funext a
  refine Fin.ext ?_
  match a with
  | ⟨0, _⟩ => blk_simp; rfl
  | ⟨1, _⟩ => blk_simp; exact Nat.zero_add _
theorem before1_0 (d) : (dat1 V c).before 0 t1_0 d = inHist V c :=
  ((Dat.before_fetched (dat1 V c) 0 t1_0 (fetch1_0 _) d).trans rfl : _ = blkH (inHist V c)).trans (blkH_eq _)
theorem before1_1 (d) : (dat1 V c).before 1 t1_0 d = inSse V c :=
  ((Dat.before_fetched (dat1 V c) 1 t1_0 (fetch1_1 _) d).trans rfl : _ = blkS (inSse V c)).trans (blkS_eq _)

theorem body_obligation1 : BodyObligation (dat1 V c) (defs₀ (F := F)) 𝒱₀ () Set.univ := fun t => by
  obtain rfl := fin_N1 t
  rw [bigSep_W1, bigSep_W1]
  simp only [owns_whole_eq]
  rw [show (dat1 V c).Φ t1_0.castSucc = inv1 c from rfl, show (dat1 V c).Φ t1_0.succ = inv1 c from rfl,
    show (dat1 V c).owesAt () t1_0.succ = (dat1 V c).owesAt () t1_0.castSucc from rfl]
  iintro ⟨HΦ, Howes, ⟨%d0, %f0, %hf0, H0⟩, ⟨%d1, %f1, %hf1, H1⟩, ⟨%d2, %f2, -, H2⟩, ⟨%d3, %f3, -, H3⟩⟩
  rw [before1_0] at hf0
  rw [before1_1] at hf1
  subst hf0 hf1
  iapply (wp_wand_r Idealize.ShloMosaic.frame (wpE (defs₀ (F := F)) 𝒱₀ (c : Thread nD τ) none) Set.univ)
  isplitl [H0 H1 H2 H3]
  · iapply (finRun c (inHist V c) (inSse V c) f2 f3)
    isplitl [H0]; · iexact H0
    isplitl [H1]; · iexact H1
    isplitl [H2]; · iexact H2
    iexact H3
  iintro %r ⟨H0, H1, H2, H3⟩
  isplitl [HΦ]; · iexact HΦ
  isplitl [Howes]; · iexact Howes
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  iexists _; isplitr; swap; (· iexact H3); ipureintro; dsimp only [dat1]

/-- What the call leaves in its results. -/
theorem arr1_2 : (dat1 V c).arrAt 2 cfg1.N = lossOf (inSse V c) := by
  refine (dat1 V c).arrAt_eq_of_after_last 2 t1_0 (by decide +kernel) _ fun j => ?_
  blk_simp
  rfl
theorem arr1_3 : (dat1 V c).arrAt 3 cfg1.N = perpOf (inHist V c) := by
  refine (dat1 V c).arrAt_eq_of_after_last 3 t1_0 (by decide +kernel) _ fun j => ?_
  blk_simp
  rfl
end

end Cert.Proof.Ideal
-- ==== Proof.Ideal.Enter.lean ====
/-
  Entering and leaving the first call: the buffers and cells as the state before the first grid point and after
  the last.
-/
module

public import proofs.«01_k».proof.Proof.Ideal.Region1

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (c : Dev nD)

/-! ## Whole buffers -/

theorem eq_bH (f : Vec F S1x256 .f32) : (pP c bH f : sProp 𝕄) = (((c : Thread nD τ).loc cc0_scratch4) ↦{fullShare} f) := by
  show ((((c : Thread nD τ).loc cc0_scratch4) ↦[(View.whole cc0_scratch4).set]{fullShare} f : sProp 𝕄)) = _
  rw [View.set_whole]
theorem eq_bS (f : Vec F S1x128 .f32) : (pP c bS f : sProp 𝕄) = (((c : Thread nD τ).loc cc0_scratch5) ↦{fullShare} f) := by
  show ((((c : Thread nD τ).loc cc0_scratch5) ↦[(View.whole cc0_scratch5).set]{fullShare} f : sProp 𝕄)) = _
  rw [View.set_whole]
theorem eq_hH (f : Vec F S1x256 .f32) : (pP c hH f : sProp 𝕄) = (((c : Thread nD τ).loc main_v2_3) ↦{fullShare} f) := by
  show ((((c : Thread nD τ).loc main_v2_3) ↦[(View.whole main_v2_3).set]{fullShare} f : sProp 𝕄)) = _
  rw [View.set_whole]
theorem eq_hS (f : Vec F S1x128 .f32) : (pP c hS f : sProp 𝕄) = (((c : Thread nD τ).loc main_v2_4) ↦{fullShare} f) := by
  show ((((c : Thread nD τ).loc main_v2_4) ↦[(View.whole main_v2_4).set]{fullShare} f : sProp 𝕄)) = _
  rw [View.set_whole]

variable (W : Vec F S256x256 .f32) (X Q E : Vec F S32768x256 .f32) (I : Vec F S32768x1 .i32)

/-- The state before the first grid point. -/
theorem st_in (q e : Vec F S32768x256 .f32) (i : Vec F S32768x1 .i32) (h : Vec F S1x256 .f32) (s : Vec F S1x128 .f32) :
    iprop(bufs c ∗ ((∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) ∗ ownC c ∗ (((c : Thread nD τ).loc main_v0) ↦{fullShare} X)
        ∗ ((((c : Thread nD τ).loc main_v2_0) ↦{fullShare} q) ∗ (((c : Thread nD τ).loc main_v2_1) ↦{fullShare} e) ∗ (((c : Thread nD τ).loc main_v2_2) ↦{fullShare} i))
        ∗ (((c : Thread nD τ).loc main_v2_3) ↦{fullShare} h) ∗ (((c : Thread nD τ).loc main_v2_4) ↦{fullShare} s))
      ⊢ (st c W X Q E I 0 : sProp 𝕄) := by
  unfold st
  rw [Xs_all c X noX0, accH_zero, accS_zero, outH_any c W X (by decide : (0 : ℕ) ≠ 8), outS_any c W X (by decide : (0 : ℕ) ≠ 8)]
  iintro ⟨HB, ⟨⟨%f4, H4⟩, ⟨%f5, H5⟩⟩, HC, HX, HO, HH, HS⟩
  ihave HC := (cells_in c) $$ HC
  icases HC with ⟨CX, CO, F0, F1⟩
  have hs := slots_in (F := F) c
  unfold slots at hs
  ihave HL := hs $$ [HB CX CO]
  · isplitl [HB]; · iexact HB
    isplitl [CX]; · iexact CX
    iexact CO
  icases HL with ⟨SX, SO⟩
  ihave HO := (Os_first c Q E I q e i) $$ HO
  isplitl [HX]; · iexact HX
  isplitl [SX]; · iapply (ent (Ss_all c noS0).symm); iexact SX
  isplitl [HO]; · iexact HO
  isplitl [SO]; · iapply (ent (Ps_all c noP0).symm); iexact SO
  isplitl [H4]; · iexists f4; iapply (ent (eq_bH c f4).symm); iexact H4
  isplitl [H5]; · iexists f5; iapply (ent (eq_bS c f5).symm); iexact H5
  isplitl [HH]; · iexists h; iapply (ent (eq_hH c h).symm); iexact HH
  isplitl [HS]; · iexists s; iapply (ent (eq_hS c s).symm); iexact HS
  isplitl [F0]; · iexact F0
  iexact F1

/-- The state after the last. -/
theorem st_out :
    (st c W X Q E I 8 : sProp 𝕄) ⊢
    iprop(bufs c ∗ ((∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) ∗ ownC c ∗ (((c : Thread nD τ).loc main_v0) ↦{fullShare} X)
        ∗ ((((c : Thread nD τ).loc main_v2_0) ↦{fullShare} Q) ∗ (((c : Thread nD τ).loc main_v2_1) ↦{fullShare} E) ∗ (((c : Thread nD τ).loc main_v2_2) ↦{fullShare} I))
        ∗ (((c : Thread nD τ).loc main_v2_3) ↦{fullShare} histAt W X 8) ∗ (((c : Thread nD τ).loc main_v2_4) ↦{fullShare} sseAt W X 8)) := by
  unfold st
  rw [Xs_all c X noX8, accH_pos c W X (by decide : (8 : ℕ) ≠ 0), accS_pos c W X (by decide : (8 : ℕ) ≠ 0), outH_end, outS_end]
  iintro ⟨HX, SX, HO, SO, H4, H5, HH, HS, F0, F1⟩
  ihave SX := (ent (Ss_all c noS8)) $$ SX
  ihave SO := (ent (Ps_all c noP8)) $$ SO
  ihave HO := (ent (Os_last c Q E I)) $$ HO
  have hs := slots_out (F := F) c
  unfold slots at hs
  ihave HL := hs $$ [SX SO]
  · isplitl [SX]; · iexact SX
    iexact SO
  icases HL with ⟨HB, CX, CO⟩
  isplitl [HB]; · iexact HB
  isplitl [H4 H5]
  · isplitl [H4]
    · iexists (histAt W X 8); iapply (ent (eq_bH c (histAt W X 8))); iexact H4
    · iexists (sseAt W X 8); iapply (ent (eq_bS c (sseAt W X 8))); iexact H5
  isplitl [CX CO F0 F1]
  · iapply (cells_out c)
    isplitl [CX]; · iexact CX
    isplitl [CO]; · iexact CO
    isplitl [F0]; · iexact F0
    iexact F1
  isplitl [HX]; · iexact HX
  isplitl [HO]; · iexact HO
  isplitl [HH]; · iapply (ent (eq_hH c (histAt W X 8))); iexact HH
  iapply (ent (eq_hS c (sseAt W X 8))); iexact HS
end

section
variable (V V' : Dev nD → Valuation τ sig (Elt F)) (c : Dev nD)

/-- The operands left in place and the results, as sets. -/
abbrev inRefs : Finset (Ref sig .tc) := {main_v0}
abbrev outRefs : Finset (Ref sig .tc) := {main_v2_0, main_v2_1, main_v2_2, main_v2_3, main_v2_4}
theorem big_in (P : Ref sig .tc → sProp 𝕄) : bigSep inRefs P = P main_v0 := bigSep_eq_bigSepL_of_eq [main_v0] (by decide) (by decide) P
theorem big_out (P : Ref sig .tc → sProp 𝕄) : bigSep outRefs P = iprop(P main_v2_0 ∗ P main_v2_1 ∗ P main_v2_2 ∗ P main_v2_3 ∗ P main_v2_4) :=
  bigSep_eq_bigSepL_of_eq [main_v2_0, main_v2_1, main_v2_2, main_v2_3, main_v2_4] (by decide) (by decide) P

abbrev opsIn (V : Dev nD → Valuation τ sig (Elt F)) : sProp 𝕄 := bigSep inRefs fun b => ((c : Thread nD τ).loc b) ↦{fullShare} V c (Proc.devRef .tc b)
abbrev opsOut (V : Dev nD → Valuation τ sig (Elt F)) : sProp 𝕄 := bigSep outRefs fun b => ((c : Thread nD τ).loc b) ↦{fullShare} V c (Proc.devRef .tc b)
abbrev rest0 : sProp 𝕄 := Pipeline.scopedRest (Ix := Unit) (Name := ℕ) (U := UU nD τ) (Lvl := ℕ) (Val := Elt F) spec0 c

theorem enter0 : iprop(rest0 c ∗ (∃ r, prngReg c r) ∗ ownC c ∗ opsIn c V ∗ opsOut c V) ⊢ (inv V c 0 : sProp 𝕄) := by
  unfold inv rest
  dsimp only [rest0, opsIn, opsOut]
  rw [scopedRest0_eq, big_in, big_out]
  iintro ⟨⟨B0, B1, B2, B3, B4, B5, G0, G1, G2, G3⟩, HP, HC, HX, ⟨Q, E, I, H, S⟩⟩
  isplitr [G0 G1 G2 G3 HP]
  · iapply (st_in c (opW V c) (opX V c) (outQ V c) (outE V c) (outI V c) (V c main_v2_0) (V c main_v2_1) (V c main_v2_2) (V c main_v2_3) (V c main_v2_4))
    isplitl [B0 B1 B2 B3]
    · isplitl [B0]; · iexact B0
      isplitl [B1]; · iexact B1
      isplitl [B2]; · iexact B2
      iexact B3
    isplitl [B4 B5]
    · isplitl [B4]; · iexact B4
      iexact B5
    isplitl [HC]; · iexact HC
    isplitl [HX]; · iexact HX
    isplitl [Q E I]
    · isplitl [Q]; · iexact Q
      isplitl [E]; · iexact E
      iexact I
    isplitl [H]; · iexact H
    iexact S
  isplitl [G0 G1 G2 G3]
  · isplitl [G0]; · iexact G0
    isplitl [G1]; · iexact G1
    isplitl [G2]; · iexact G2
    iexact G3
  iexact HP

theorem leave0 (hQ : V' c main_v2_0 = outQ V c) (hE : V' c main_v2_1 = outE V c) (hI : V' c main_v2_2 = outI V c)
    (hH : V' c main_v2_3 = outHist V c) (hS : V' c main_v2_4 = outSse V c) :
    (inv V c 8 : sProp 𝕄) ⊢ iprop(rest0 c ∗ (∃ r, prngReg c r) ∗ ownC c ∗ opsIn c V ∗ opsOut c V') := by
  unfold inv rest
  dsimp only [rest0, opsIn, opsOut]
  rw [scopedRest0_eq, big_in, big_out, hQ, hE, hI, hH, hS]
  iintro ⟨HT, ⟨G0, G1, G2, G3⟩, HP⟩
  ihave HT := (st_out c (opW V c) (opX V c) (outQ V c) (outE V c) (outI V c)) $$ HT
  icases HT with ⟨⟨B0, B1, B2, B3⟩, ⟨B4, B5⟩, HC, HX, ⟨Q, E, I⟩, H, S⟩
  isplitl [B0 B1 B2 B3 B4 B5 G0 G1 G2 G3]
  · isplitl [B0]; · iexact B0
    isplitl [B1]; · iexact B1
    isplitl [B2]; · iexact B2
    isplitl [B3]; · iexact B3
    isplitl [B4]; · iexact B4
    isplitl [B5]; · iexact B5
    isplitl [G0]; · iexact G0
    isplitl [G1]; · iexact G1
    isplitl [G2]; · iexact G2
    iexact G3
  isplitl [HP]; · iexact HP
  isplitl [HC]; · iexact HC
  isplitl [HX]; · iexact HX
  isplitl [Q]; · iexact Q
  isplitl [E]; · iexact E
  isplitl [I]; · iexact I
  isplitl [H]; · iexact H
  iexact S
end

end Cert.Proof.Ideal
-- ==== Proof.Ideal.Launch.lean ====
/-
  The launch: the two calls between the host's reshapes, from any memory. Every weakly fair execution terminates, the
  arguments are unchanged, every counter is zero, and each result holds the values named here.
-/
module

public import proofs.«01_k».proof.Proof.Ideal.Enter
public import Idealize.ShloMosaic.Lib.Pipeline.RegionArraysD
public import proofs.«01_k».proof.Proof.Gen.KernelIdeal.Regions

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]
local notation "𝕄" => MT nD τ sig Unit (Elt F) ℕ (UU nD τ) ℕ

/-! ## The contents of the buffers between the calls -/

section
variable (m : (ℓ : Loc nD τ sig) → Buf (Elt F) ℓ)

/-- Before the first call. -/
abbrev W1 (c : Dev nD) : Valuation τ sig (Elt F) := V1 m c
/-- After the first call. -/
def U2 (c : Dev nD) : Valuation τ sig (Elt F) :=
  Function.update (Function.update (Function.update (Function.update (Function.update (W1 m c) main_v2_0 (outQ (W1 m) c)) main_v2_1 (outE (W1 m) c)) main_v2_2 (outI (W1 m) c)) main_v2_3 (outHist (W1 m) c)) main_v2_4 (outSse (W1 m) c)
/-- After the second. -/
def U3 (c : Dev nD) : Valuation τ sig (Elt F) :=
  Function.update (Function.update (U2 m c) main_v3_0 (lossOf (outSse (W1 m) c))) main_v3_1 (perpOf (outHist (W1 m) c))
def outs : Outs (F := F) := fun k r c => if k = 2 then U2 m c r else U3 m c r

theorem U2_v2_0 (c : Dev nD) : U2 m c main_v2_0 = outQ (W1 m) c := by
  unfold U2
  rw [Function.update_of_ne (StableHlo.devRef_ne_of_ne (by decide) : (Proc.devRef .tc main_v2_0 : DevRef τ sig) ≠ Proc.devRef .tc main_v2_4)]
  rw [Function.update_of_ne (StableHlo.devRef_ne_of_ne (by decide) : (Proc.devRef .tc main_v2_0 : DevRef τ sig) ≠ Proc.devRef .tc main_v2_3)]
  rw [Function.update_of_ne (StableHlo.devRef_ne_of_ne (by decide) : (Proc.devRef .tc main_v2_0 : DevRef τ sig) ≠ Proc.devRef .tc main_v2_2)]
  rw [Function.update_of_ne (StableHlo.devRef_ne_of_ne (by decide) : (Proc.devRef .tc main_v2_0 : DevRef τ sig) ≠ Proc.devRef .tc main_v2_1)]
  rw [Function.update_self]
theorem U2_v2_1 (c : Dev nD) : U2 m c main_v2_1 = outE (W1 m) c := by
  unfold U2
  rw [Function.update_of_ne (StableHlo.devRef_ne_of_ne (by decide) : (Proc.devRef .tc main_v2_1 : DevRef τ sig) ≠ Proc.devRef .tc main_v2_4)]
  rw [Function.update_of_ne (StableHlo.devRef_ne_of_ne (by decide) : (Proc.devRef .tc main_v2_1 : DevRef τ sig) ≠ Proc.devRef .tc main_v2_3)]
  rw [Function.update_of_ne (StableHlo.devRef_ne_of_ne (by decide) : (Proc.devRef .tc main_v2_1 : DevRef τ sig) ≠ Proc.devRef .tc main_v2_2)]
  rw [Function.update_self]
theorem U2_v2_2 (c : Dev nD) : U2 m c main_v2_2 = outI (W1 m) c := by
  unfold U2
  rw [Function.update_of_ne (StableHlo.devRef_ne_of_ne (by decide) : (Proc.devRef .tc main_v2_2 : DevRef τ sig) ≠ Proc.devRef .tc main_v2_4)]
  rw [Function.update_of_ne (StableHlo.devRef_ne_of_ne (by decide) : (Proc.devRef .tc main_v2_2 : DevRef τ sig) ≠ Proc.devRef .tc main_v2_3)]
  rw [Function.update_self]
theorem U2_v2_3 (c : Dev nD) : U2 m c main_v2_3 = outHist (W1 m) c := by
  unfold U2
  rw [Function.update_of_ne (StableHlo.devRef_ne_of_ne (by decide) : (Proc.devRef .tc main_v2_3 : DevRef τ sig) ≠ Proc.devRef .tc main_v2_4)]
  rw [Function.update_self]
theorem U2_v2_4 (c : Dev nD) : U2 m c main_v2_4 = outSse (W1 m) c := by
  unfold U2
  rw [Function.update_self]
theorem U2_v0 (c : Dev nD) : U2 m c main_v0 = W1 m c main_v0 := by
  unfold U2
  rw [Function.update_of_ne (StableHlo.devRef_ne_of_ne (by decide) : (Proc.devRef .tc main_v0 : DevRef τ sig) ≠ Proc.devRef .tc main_v2_4)]
  rw [Function.update_of_ne (StableHlo.devRef_ne_of_ne (by decide) : (Proc.devRef .tc main_v0 : DevRef τ sig) ≠ Proc.devRef .tc main_v2_3)]
  rw [Function.update_of_ne (StableHlo.devRef_ne_of_ne (by decide) : (Proc.devRef .tc main_v0 : DevRef τ sig) ≠ Proc.devRef .tc main_v2_2)]
  rw [Function.update_of_ne (StableHlo.devRef_ne_of_ne (by decide) : (Proc.devRef .tc main_v0 : DevRef τ sig) ≠ Proc.devRef .tc main_v2_1)]
  rw [Function.update_of_ne (StableHlo.devRef_ne_of_ne (by decide) : (Proc.devRef .tc main_v0 : DevRef τ sig) ≠ Proc.devRef .tc main_v2_0)]
theorem U3_v3_1 (c : Dev nD) : U3 m c main_v3_1 = perpOf (outHist (W1 m) c) := by
  unfold U3
  rw [Function.update_self]
theorem U3_v3_0 (c : Dev nD) : U3 m c main_v3_0 = lossOf (outSse (W1 m) c) := by
  unfold U3
  rw [Function.update_of_ne (StableHlo.devRef_ne_of_ne (by decide) : (Proc.devRef .tc main_v3_0 : DevRef τ sig) ≠ Proc.devRef .tc main_v3_1), Function.update_self]

abbrev W2 (c : Dev nD) : Valuation τ sig (Elt F) := V2 m (outs m) c
abbrev W3 (c : Dev nD) : Valuation τ sig (Elt F) := V3 m (outs m) c
abbrev W4 (c : Dev nD) : Valuation τ sig (Elt F) := V4 m (outs m) c

theorem W2_v0 (c : Dev nD) : W2 m c main_v0 = W1 m c main_v0 := by
  show V2 m (outs m) c main_v0 = _
  unfold V2
  rw [Function.update_of_ne (StableHlo.devRef_ne_of_ne (by decide) : (Proc.devRef .tc main_v0 : DevRef τ sig) ≠ Proc.devRef .tc main_v2_4)]
  rw [Function.update_of_ne (StableHlo.devRef_ne_of_ne (by decide) : (Proc.devRef .tc main_v0 : DevRef τ sig) ≠ Proc.devRef .tc main_v2_3)]
  rw [Function.update_of_ne (StableHlo.devRef_ne_of_ne (by decide) : (Proc.devRef .tc main_v0 : DevRef τ sig) ≠ Proc.devRef .tc main_v2_2)]
  rw [Function.update_of_ne (StableHlo.devRef_ne_of_ne (by decide) : (Proc.devRef .tc main_v0 : DevRef τ sig) ≠ Proc.devRef .tc main_v2_1)]
  rw [Function.update_of_ne (StableHlo.devRef_ne_of_ne (by decide) : (Proc.devRef .tc main_v0 : DevRef τ sig) ≠ Proc.devRef .tc main_v2_0)]
  rw [Function.update_self]
  exact U2_v0 m c
theorem W2_v2_0 (c : Dev nD) : W2 m c main_v2_0 = outQ (W1 m) c := by
  show V2 m (outs m) c main_v2_0 = _
  unfold V2
  rw [Function.update_of_ne (StableHlo.devRef_ne_of_ne (by decide) : (Proc.devRef .tc main_v2_0 : DevRef τ sig) ≠ Proc.devRef .tc main_v2_4)]
  rw [Function.update_of_ne (StableHlo.devRef_ne_of_ne (by decide) : (Proc.devRef .tc main_v2_0 : DevRef τ sig) ≠ Proc.devRef .tc main_v2_3)]
  rw [Function.update_of_ne (StableHlo.devRef_ne_of_ne (by decide) : (Proc.devRef .tc main_v2_0 : DevRef τ sig) ≠ Proc.devRef .tc main_v2_2)]
  rw [Function.update_of_ne (StableHlo.devRef_ne_of_ne (by decide) : (Proc.devRef .tc main_v2_0 : DevRef τ sig) ≠ Proc.devRef .tc main_v2_1)]
  rw [Function.update_self]
  exact U2_v2_0 m c
theorem W2_v2_1 (c : Dev nD) : W2 m c main_v2_1 = outE (W1 m) c := by
  show V2 m (outs m) c main_v2_1 = _
  unfold V2
  rw [Function.update_of_ne (StableHlo.devRef_ne_of_ne (by decide) : (Proc.devRef .tc main_v2_1 : DevRef τ sig) ≠ Proc.devRef .tc main_v2_4)]
  rw [Function.update_of_ne (StableHlo.devRef_ne_of_ne (by decide) : (Proc.devRef .tc main_v2_1 : DevRef τ sig) ≠ Proc.devRef .tc main_v2_3)]
  rw [Function.update_of_ne (StableHlo.devRef_ne_of_ne (by decide) : (Proc.devRef .tc main_v2_1 : DevRef τ sig) ≠ Proc.devRef .tc main_v2_2)]
  rw [Function.update_self]
  exact U2_v2_1 m c
theorem W2_v2_2 (c : Dev nD) : W2 m c main_v2_2 = outI (W1 m) c := by
  show V2 m (outs m) c main_v2_2 = _
  unfold V2
  rw [Function.update_of_ne (StableHlo.devRef_ne_of_ne (by decide) : (Proc.devRef .tc main_v2_2 : DevRef τ sig) ≠ Proc.devRef .tc main_v2_4)]
  rw [Function.update_of_ne (StableHlo.devRef_ne_of_ne (by decide) : (Proc.devRef .tc main_v2_2 : DevRef τ sig) ≠ Proc.devRef .tc main_v2_3)]
  rw [Function.update_self]
  exact U2_v2_2 m c
theorem W2_v2_3 (c : Dev nD) : W2 m c main_v2_3 = outHist (W1 m) c := by
  show V2 m (outs m) c main_v2_3 = _
  unfold V2
  rw [Function.update_of_ne (StableHlo.devRef_ne_of_ne (by decide) : (Proc.devRef .tc main_v2_3 : DevRef τ sig) ≠ Proc.devRef .tc main_v2_4)]
  rw [Function.update_self]
  exact U2_v2_3 m c
theorem W2_v2_4 (c : Dev nD) : W2 m c main_v2_4 = outSse (W1 m) c := by
  show V2 m (outs m) c main_v2_4 = _
  unfold V2
  rw [Function.update_self]
  exact U2_v2_4 m c
theorem W3_v3_1 (c : Dev nD) : W3 m c main_v3_1 = perpOf (outHist (W1 m) c) := by
  show V3 m (outs m) c main_v3_1 = _
  unfold V3
  rw [Function.update_self]
  exact U3_v3_1 m c
theorem W3_v3_0 (c : Dev nD) : W3 m c main_v3_0 = lossOf (outSse (W1 m) c) := by
  show V3 m (outs m) c main_v3_0 = _
  unfold V3
  rw [Function.update_of_ne (StableHlo.devRef_ne_of_ne (by decide) : (Proc.devRef .tc main_v3_0 : DevRef τ sig) ≠ Proc.devRef .tc main_v3_1), Function.update_self]
  exact U3_v3_0 m c
theorem W3_of (c : Dev nD) (r : Ref sig .tc) (h : r ∉ ([main_v3_0, main_v3_1] : List (Ref sig .tc))) : W3 m c r = W2 m c r := V3_of m (outs m) c r h
theorem W4_of (c : Dev nD) (r : Ref sig .tc) (h : r ∉ hostOps2_W) : W4 m c r = W3 m c r := V4_of m (outs m) c r h

/-! ## The regions' records -/

def dats : (p : Fin 2) → (c : Dev nD) → Dat τ (Elt F) Unit ℕ (UU nD τ) ℕ (cfgs p) c
  | ⟨0, _⟩ => dat0 (W1 m)
  | ⟨1, _⟩ => dat1 (W2 m)

/-- Each TensorCore cell has the one index; nothing is owed. -/
def LL (g : GSem nD τ sig) : Finset Unit := if g.1.2 = .tc then {()} else ∅
abbrev lv (_ : GSem nD τ sig) (_ : Unit) : ℕ := 0

theorem cut (p : Fin 2) : Pipeline.LevelCut (pcfgs (F := F)) adm () LL lv p (fun _ => 0) (fun _ => 0) where
  hι c w s := by unfold LL; rw [if_pos rfl]; exact Finset.mem_singleton_self _
  hιb c w s := le_refl _
  hD c g i h := absurd h (lt_irrefl _)

abbrev sr0 : Finset (DevRef τ sig) := Pipeline.ucRefs τ sig \ Pipeline.arrRefs spec0
abbrev sr1 : Finset (DevRef τ sig) := Pipeline.ucRefs τ sig \ Pipeline.arrRefs spec1

theorem in_sub : Pipeline.hbmRefs (τ := τ) inRefs ⊆ sr0 := by decide
theorem out_sub : Pipeline.hbmRefs (τ := τ) outRefs ⊆ sr0 \ Pipeline.hbmRefs inRefs := by decide

theorem off0 (c : Dev nD) : ∀ b ∈ sr0 \ Pipeline.hbmRefs (τ := τ) outRefs, W2 m c b = W1 m c b := by
  intro b hb
  obtain ⟨h1, h2⟩ := Finset.mem_sdiff.mp hb
  obtain ⟨h3, h4⟩ := Finset.mem_sdiff.mp h1
  obtain ⟨h5, -⟩ := Finset.mem_filter.mp h3
  obtain ⟨r, -, rfl⟩ := Finset.mem_map.mp h5
  by_cases h0 : r = main_v0
  · subst h0; exact W2_v0 m c
  · refine V2_of m (outs m) c r fun hr => ?_
    rcases List.mem_cons.mp hr with hr | hr
    · exact h0 hr
    · exact h2 (Finset.mem_map.mpr ⟨r, by simpa using hr, rfl⟩)

set_option backward.isDefEq.respectTransparency.types false in
def R0 : RegionSeg (pcfgs (F := F)) adm (dats m) () (defs₀ (F := F)) 𝒱₀ LL lv 0 :=
  RegionSeg.ofHeldDW (pcfgs (F := F)) adm (dats m) () (defs₀ (F := F)) 𝒱₀ LL lv 0 (fun _ => 0) () osem ownSemFacts inRefs outRefs sr0 in_sub out_sub
    launch0.toP rfl (fun c => (body_obligation0 (W1 m) c).loose) (fun _ _ => rfl) (fun _ => rfl)
    (fun c => (dat0 (W1 m) c).share_full fun _ => rfl) (fun c => by iintro -; iapply (Transfers.MayWaits.zero (c : Thread nD τ) ()); iempintro) (W1 m) (W2 m) (off0 m)
    (fun c => by
      refine BIBase.Entails.trans ?_ (enter0 (W1 m) c)
      iintro ⟨A, B, C, D, E, -⟩
      isplitl [A]; · iexact A
      isplitl [B]; · iexact B
      isplitl [C]; · iexact C
      isplitl [D]; · iexact D
      iexact E)
    (fun c => leave0 (W1 m) (W2 m) c (W2_v2_0 m c) (W2_v2_1 m c) (W2_v2_2 m c) (W2_v2_3 m c) (W2_v2_4 m c))
    (fun _ => 0) (cut 0) (fun _ => iprop(emp))
    (fun c w => rfl)
    (fun c w => by
      match w with
      | ⟨0, _⟩ => exact (Dat.arrAt_in (dat0 (W1 m) c) 0 rfl _).trans (V2_of m (outs m) c main_arg1 (by decide)).symm
      | ⟨1, _⟩ => exact (Dat.arrAt_in (dat0 (W1 m) c) 1 rfl _).trans (V2_of m (outs m) c main_v1 (by decide)).symm)

set_option backward.isDefEq.respectTransparency.types false in
def R1 : RegionSeg (pcfgs (F := F)) adm (dats m) () (defs₀ (F := F)) 𝒱₀ LL lv 1 :=
  RegionSeg.ofHeld (pcfgs (F := F)) adm (dats m) () (defs₀ (F := F)) 𝒱₀ LL lv 1 (fun _ => 0) (fun c => iprop(∃ r, prngReg c r)) (fun c => iprop(∃ r, prngReg c r))
    launch1.toP rfl (fun c => (body_obligation1 (W2 m) c).loose) (fun _ _ => rfl) (fun _ => rfl)
    (fun c => (dat1 (W2 m) c).share_full fun _ => rfl)
    (fun c => .rfl) (fun c => .rfl) (fun _ => 0) (cut 1) (fun c => StableHlo.held (c : Thread nD τ) sr1 (W2 m c)) (W2 m) (W3 m)
    (fun c w => rfl)
    (fun c w => by
      match w with
      | ⟨0, _⟩ => exact (Dat.arrAt_in (dat1 (W2 m) c) 0 rfl _).trans (W3_of m c main_v2_3 (by decide)).symm
      | ⟨1, _⟩ => exact (Dat.arrAt_in (dat1 (W2 m) c) 1 rfl _).trans (W3_of m c main_v2_4 (by decide)).symm
      | ⟨2, _⟩ => exact (arr1_2 (W2 m) c).trans ((congrArg lossOf (W2_v2_4 m c)).trans (W3_v3_0 m c).symm)
      | ⟨3, _⟩ => exact (arr1_3 (W2 m) c).trans ((congrArg perpOf (W2_v2_3 m c)).trans (W3_v3_1 m c).symm))

/-- What rides along between the calls. -/
abbrev EE (_ : Fin 3) (c : Dev nD) : sProp 𝕄 := iprop((∃ r, prngReg c r) ∗ ∃ W, owes (c : Thread nD τ) (0 : CellTallies nD τ sig Unit) W)

theorem sub0 : Pipeline.arrRefs spec0 ⊆ Pipeline.ucRefs τ sig := by decide
theorem sub1 : Pipeline.arrRefs spec1 ⊆ Pipeline.ucRefs τ sig := by decide

theorem off1 (c : Dev nD) : ∀ b ∈ sr1, W3 m c b = W2 m c b := by
  intro b hb
  obtain ⟨h3, h4⟩ := Finset.mem_sdiff.mp hb
  obtain ⟨h5, -⟩ := Finset.mem_filter.mp h3
  obtain ⟨r, -, rfl⟩ := Finset.mem_map.mp h5
  refine W3_of m c r fun hr => h4 ?_
  rcases List.mem_cons.mp hr with hr | hr
  · subst hr; decide
  · rw [List.mem_singleton.mp hr]; decide

theorem pre0 (c : Dev nD) : iprop(StableHlo.held (c : Thread nD τ) (Pipeline.ucRefs τ sig) (V1 m c) ∗ EE 0 c) ⊢ (R0 m).pre c := by
  show _ ⊢ iprop(StableHlo.held (c.tc : Thread nD τ) (Pipeline.arrRefs spec0) (W1 m c) ∗ (∃ r, prngReg c r)
      ∗ (StableHlo.held (c.tc : Thread nD τ) sr0 (W1 m c) ∗ emp) ∗ ∃ Wd, owes (c : Thread nD τ) 0 Wd)
  rw [StableHlo.held_sub_split (c.tc : Thread nD τ) sub0 (V1 m c)]
  iintro ⟨⟨A, B⟩, P, O⟩
  isplitl [A]; · iexact A
  isplitl [P]; · iexact P
  isplitl [B]
  · isplitl [B]; · iexact B
    iempintro
  iexact O
theorem post0 (c : Dev nD) : (R0 m).post c ⊢ iprop(StableHlo.held (c : Thread nD τ) (Pipeline.ucRefs τ sig) (V2 m (outs m) c) ∗ EE 1 c) := by
  show iprop(StableHlo.held (c.tc : Thread nD τ) (Pipeline.arrRefs spec0) (W2 m c) ∗ (∃ r, prngReg c r)
      ∗ (StableHlo.held (c.tc : Thread nD τ) sr0 (W2 m c) ∗ emp) ∗ ∃ Wd, owes (c : Thread nD τ) 0 Wd) ⊢ _
  rw [StableHlo.held_sub_split (c.tc : Thread nD τ) sub0 (V2 m (outs m) c)]
  iintro ⟨A, P, ⟨B, -⟩, O⟩
  isplitl [A B]
  · isplitl [A]; · iexact A
    iexact B
  isplitl [P]; · iexact P
  iexact O
theorem pre1 (c : Dev nD) : iprop(StableHlo.held (c : Thread nD τ) (Pipeline.ucRefs τ sig) (V2 m (outs m) c) ∗ EE 1 c) ⊢ (R1 m).pre c := by
  show _ ⊢ iprop(StableHlo.held (c.tc : Thread nD τ) (Pipeline.arrRefs spec1) (W2 m c) ∗ (∃ r, prngReg c r)
      ∗ StableHlo.held (c.tc : Thread nD τ) sr1 (W2 m c) ∗ ∃ Wd, owes (c : Thread nD τ) 0 Wd)
  rw [StableHlo.held_sub_split (c.tc : Thread nD τ) sub1 (V2 m (outs m) c)]
  iintro ⟨⟨A, B⟩, P, O⟩
  isplitl [A]; · iexact A
  isplitl [P]; · iexact P
  isplitl [B]; · iexact B
  iexact O
theorem post1 (c : Dev nD) : (R1 m).post c ⊢ iprop(StableHlo.held (c : Thread nD τ) (Pipeline.ucRefs τ sig) (V3 m (outs m) c) ∗ EE 2 c) := by
  show iprop(StableHlo.held (c.tc : Thread nD τ) (Pipeline.arrRefs spec1) (W3 m c) ∗ (∃ r, prngReg c r)
      ∗ StableHlo.held (c.tc : Thread nD τ) sr1 (W2 m c) ∗ ∃ Wd, owes (c : Thread nD τ) 0 Wd) ⊢ _
  rw [StableHlo.held_sub_split (c.tc : Thread nD τ) sub1 (V3 m (outs m) c), StableHlo.held_congr (c.tc : Thread nD τ) (S := sr1) (off1 m c)]
  iintro ⟨A, P, B, O⟩
  isplitl [A B]
  · isplitl [A]; · iexact A
    iexact B
  isplitl [P]; · iexact P
  iexact O

/-! ## The run -/

variable (ρ : Dev nD → PrngReg)

def u₀ : UU nD τ := (initOf (Pipeline.cells cfgs cellOf_inj) (Pipeline.launchToks cfgs cellOf_inj), 1)

theorem launch_own : (ownU u₀ : sProp 𝕄) ⊢ |={Set.univ}=> iprop(BI.own (EP (initOf (Pipeline.cells cfgs cellOf_inj) (Pipeline.launchToks cfgs cellOf_inj)))
    ∗ bigSep Finset.univ (fun _ : Dev nD => (iprop(emp) : sProp 𝕄))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem launch_rest : iprop((bigSep Finset.univ fun c : Dev nD => iprop(unscopedSems0 c ∗ owes (c : Thread nD τ) (0 : CellTallies nD τ sig Unit) ∅
      ∗ Pipeline.launchCred (fun _ => 0) c ∗ prngReg c (ρ c) ∗ emp)) ∗ levAts LL lv)
    ⊢ (|={Set.univ}=> bigSep Finset.univ (EE (F := F) 0) : sProp 𝕄) := by
  have h : (bigSep Finset.univ fun c : Dev nD => iprop(unscopedSems0 c ∗ owes (c : Thread nD τ) (0 : CellTallies nD τ sig Unit) ∅
      ∗ Pipeline.launchCred (fun _ => 0) c ∗ prngReg c (ρ c) ∗ emp)) ⊢ (bigSep Finset.univ (EE (F := F) 0) : sProp 𝕄) :=
    bigSep_mono fun c _ => by
      have h : iprop(unscopedSems0 c ∗ owes (c : Thread nD τ) (0 : CellTallies nD τ sig Unit) ∅
        ∗ Pipeline.launchCred (fun _ => 0) c ∗ prngReg c (ρ c) ∗ emp) ⊢ (EE (F := F) 0 c : sProp 𝕄) := by
        iintro ⟨-, O, -, P, -⟩
        isplitl [P]; · iexists (ρ c); iexact P
        iexists ∅; iexact O
      exact h
  iintro ⟨H, -⟩
  imodintro
  iapply h
  iexact H

theorem off_tc (g : GSem nD τ sig) (h : g.1.2 ≠ .tc) : LL g = ∅ := if_neg h

set_option backward.isDefEq.respectTransparency.types false in
/-- Every weakly fair execution terminates with the arguments unchanged and every counter at zero. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame_cond m EP () 𝒱₀ LL lv off_tc ρ (outs m) (dats m) (fun _ => 0) (fun _ => iprop(emp)) u₀ launch_own EE (launch_rest ρ)
    (fun c => by iintro ⟨-, O⟩; iexact O) (R0 m) (pre0 m) (post0 m) (R1 m) (pre1 m) (post1 m)
end

end Cert.Proof.Ideal
-- ==== Proof.Best.lean ====
/-
  The least of 256 extended reals, and the first place where it is: as a fold of minima, as the least index that attains
  it, and as the reference's comparison of value and index in turn.
-/
module

public import proofs.«01_k».proof.Proof.Gen.ReferenceIdeal
public import Idealize.ShloMosaic.PureOps.Ideal.Laws

@[expose] public section

noncomputable section

namespace Cert.Proof

open Idealize.ShloMosaic

section
variable (f : Fin 256 → EReal)

theorem exists_best : ∃ k, (∀ l, f k ≤ f l) ∧ ∀ l, f l = f k → k ≤ l := by
  obtain ⟨m, -, hm⟩ := Finset.exists_min_image Finset.univ f ⟨0, Finset.mem_univ _⟩
  obtain ⟨k, hk, hk'⟩ := Finset.exists_min_image (Finset.univ.filter fun l => f l = f m) id ⟨m, by simp⟩
  have e : f k = f m := (Finset.mem_filter.mp hk).2
  exact ⟨k, fun l => e ▸ hm l (Finset.mem_univ _), fun l hl => hk' l (Finset.mem_filter.mpr ⟨Finset.mem_univ _, hl.trans e⟩)⟩

/-- The first index of the least value. -/
def best : Fin 256 := (exists_best f).choose
theorem best_le (l : Fin 256) : f (best f) ≤ f l := (exists_best f).choose_spec.1 l
theorem best_first (l : Fin 256) (h : f l = f (best f)) : best f ≤ l := (exists_best f).choose_spec.2 l h

theorem best_unique (k : Fin 256) (h : ∀ l, f k < f l ∨ (f k = f l ∧ k ≤ l)) : best f = k := by
  have e : f k = f (best f) := le_antisymm ((h _).elim le_of_lt fun h => h.1.le) (best_le f k)
  refine le_antisymm (best_first f k e) ?_
  rcases h (best f) with h | h
  · exact absurd h (by rw [e]; exact lt_irrefl _)
  · exact h.2

/-- The fold of minima is the least value. -/
theorem fold_min : (Finset.univ.fold min ⊤ f : EReal) = f (best f) :=
  le_antisymm ((Finset.fold_min_le _).mpr (.inr ⟨best f, Finset.mem_univ _, le_rfl⟩))
    ((Finset.le_fold_min _).mpr ⟨le_top, fun l _ => best_le f l⟩)

/-- The least of the indices that attain the least value is the first. -/
theorem fold_min_index : (Finset.univ.fold min ⊤ (fun k : Fin 256 => if f k = f (best f) then (((k.val : ℕ) : ℝ) : EReal) else ((256 : ℝ) : EReal)) : EReal)
    = (((best f).val : ℝ) : EReal) := by
  refine le_antisymm ((Finset.fold_min_le _).mpr (.inr ⟨best f, Finset.mem_univ _, by rw [if_pos rfl]⟩))
    ((Finset.le_fold_min _).mpr ⟨le_top, fun l _ => ?_⟩)
  split
  · rename_i h
    exact EReal.coe_le_coe_iff.mpr (by exact_mod_cast best_first f l h)
  · exact EReal.coe_le_coe_iff.mpr (by exact_mod_cast (best f).isLt.le)

end

/-! ## The reference's comparison -/

/-- One pair comes before another: a smaller value, or the same value and no larger index. -/
def Before (a b : EReal × BitVec 32) : Prop := a.1 < b.1 ∨ (a.1 = b.1 ∧ a.2.toInt ≤ b.2.toInt)

theorem Before.refl (a : EReal × BitVec 32) : Before a a := .inr ⟨rfl, le_rfl⟩
theorem Before.trans {a b c : EReal × BitVec 32} : Before a b → Before b c → Before a c := by
  rintro (h | ⟨h, h'⟩) (k | ⟨k, k'⟩)
  · exact .inl (h.trans k)
  · exact .inl (k ▸ h)
  · exact .inl (h ▸ k)
  · exact .inr ⟨h.trans k, h'.trans k'⟩

theorem ofBool_eq_one (b : Bool) : (BitVec.ofBool b = 1#1) ↔ b = true := by cases b <;> decide
theorem ori_ofBool (a b : Bool) : IntOp.ori (BitVec.ofBool a) (BitVec.ofBool b) = BitVec.ofBool (a || b) := by cases a <;> cases b <;> rfl
theorem andi_ofBool (a b : Bool) : IntOp.andi (BitVec.ofBool a) (BitVec.ofBool b) = BitVec.ofBool (a && b) := by cases a <;> cases b <;> rfl

/-- The reference's comparison takes the pair that comes before. -/
theorem reducer_spec (a b : EReal × BitVec 32) :
    (Cert.ReferenceIdeal.reducer_argmin_f32_i32 (F := Ideal) a b = a ∨ Cert.ReferenceIdeal.reducer_argmin_f32_i32 (F := Ideal) a b = b)
      ∧ Before (Cert.ReferenceIdeal.reducer_argmin_f32_i32 (F := Ideal) a b) a ∧ Before (Cert.ReferenceIdeal.reducer_argmin_f32_i32 (F := Ideal) a b) b := by
  have key : Cert.ReferenceIdeal.reducer_argmin_f32_i32 (F := Ideal) a b = if a.1 < b.1 ∨ (a.1 = b.1 ∧ a.2.toInt < b.2.toInt) then a else b := by
    obtain ⟨x, i⟩ := a
    obtain ⟨y, j⟩ := b
    show (Scalar.select (IntOp.ori (BitVec.ofBool (decide (x < y))) (BitVec.ofBool (decide (x ≠ x)))) x y,
      Scalar.select (IntOp.ori (IntOp.ori (BitVec.ofBool (decide (x < y))) (BitVec.ofBool (decide (x ≠ x))))
        (IntOp.andi (BitVec.ofBool (decide (x = y))) (BitVec.ofBool (i.slt j)))) i j) = _
    rw [andi_ofBool, ori_ofBool, ori_ofBool]
    unfold Scalar.select
    simp only [ofBool_eq_one, BitVec.slt, Bool.or_eq_true, Bool.and_eq_true, decide_eq_true_eq, ne_eq, not_true_eq_false, or_false, decide_false]
    by_cases h : x < y
    · simp [h]
    · by_cases h' : x = y
      · subst h'
        by_cases h'' : i.toInt < j.toInt <;> simp [h'']
      · simp [h, h']
  rw [key]
  split
  · rename_i h
    exact ⟨.inl rfl, Before.refl a, h.imp id fun h => ⟨h.1, h.2.le⟩⟩
  · rename_i h
    push Not at h
    refine ⟨.inr rfl, ?_, Before.refl b⟩
    rcases h.1.lt_or_eq with h' | h'
    · exact .inl h'
    · exact .inr ⟨h', h.2 h'.symm⟩

/-- Folding it over a list gives a member that comes before all. -/
theorem foldl_reducer (l : List (EReal × BitVec 32)) : ∀ a : EReal × BitVec 32,
    (l.foldl (Cert.ReferenceIdeal.reducer_argmin_f32_i32 (F := Ideal)) a ∈ a :: l)
      ∧ ∀ p ∈ a :: l, Before (l.foldl (Cert.ReferenceIdeal.reducer_argmin_f32_i32 (F := Ideal)) a) p := by
  induction l with
  | nil => intro a; exact ⟨by simp, fun p hp => by rw [List.mem_singleton.mp hp]; exact Before.refl a⟩
  | cons b l ih =>
    intro a
    obtain ⟨h1, h2, h3⟩ := reducer_spec a b
    obtain ⟨i1, i2⟩ := ih (Cert.ReferenceIdeal.reducer_argmin_f32_i32 (F := Ideal) a b)
    rw [List.foldl_cons]
    refine ⟨?_, fun p hp => ?_⟩
    · rcases List.mem_cons.mp i1 with e | e
      · rw [e]; rcases h1 with h | h <;> rw [h] <;> simp
      · exact List.mem_cons_of_mem _ (List.mem_cons_of_mem _ e)
    · have h0 := i2 _ (List.mem_cons_self ..)
      rcases List.mem_cons.mp hp with rfl | hp
      · exact h0.trans h2
      rcases List.mem_cons.mp hp with rfl | hp
      · exact h0.trans h3
      · exact i2 p (List.mem_cons_of_mem _ hp)

theorem toInt_ofNat_fin (k : Fin 256) : (BitVec.ofNat 32 k.val).toInt = (k.val : Int) := by
  revert k; decide +kernel

/-- Folded over the pairs of values and indices, from infinity, it gives the first index of the least. -/
theorem foldl_argmin (f : Fin 256 → EReal) (l : List (EReal × BitVec 32)) (h1 : ∀ p ∈ l, ∃ k : Fin 256, p = (f k, BitVec.ofNat 32 k.val))
    (h2 : ∀ k : Fin 256, (f k, BitVec.ofNat 32 k.val) ∈ l) :
    (l.foldl (Cert.ReferenceIdeal.reducer_argmin_f32_i32 (F := Ideal)) ((⊤ : EReal), 0#32)).2 = BitVec.ofNat 32 (best f).val := by
  obtain ⟨i1, i2⟩ := foldl_reducer l ((⊤ : EReal), 0#32)
  have hk : ∃ k : Fin 256, l.foldl (Cert.ReferenceIdeal.reducer_argmin_f32_i32 (F := Ideal)) ((⊤ : EReal), 0#32) = (f k, BitVec.ofNat 32 k.val) := by
    rcases List.mem_cons.mp i1 with e | e
    · refine ⟨0, ?_⟩
      rw [e]
      rcases e ▸ i2 _ (List.mem_cons_of_mem _ (h2 0)) with h | h
      · exact absurd h (not_lt.mpr le_top)
      · exact Prod.ext h.1 rfl
    · exact h1 _ e
  obtain ⟨k, e⟩ := hk
  rw [e]
  have : best f = k := best_unique f k fun m => by
    rcases e ▸ i2 _ (List.mem_cons_of_mem _ (h2 m)) with h | h
    · exact .inl h
    · refine .inr ⟨h.1, ?_⟩
      have := h.2
      simp only [toInt_ofNat_fin] at this
      exact_mod_cast this
  rw [this]

end Cert.Proof
-- ==== Proof.Code.lean ====
/-
  The code of a row: the first of the 256 whose squared distance to the row, in the expanded form that both programs
  compute, is least.
-/
module

public import proofs.«01_k».proof.Proof.Best
public import Idealize.ShloMosaic.Lib.Pointwise

@[expose] public section

noncomputable section

namespace Cert.Proof

open Idealize.ShloMosaic

/-- The literal two. -/
abbrev two : EReal := Ideal.ofBits .f32 0x40000000#32
theorem two_eq : two = ((2 : ℝ) : EReal) := by
  simp [two, Ideal.ofBits, Ideal.ieee, -EReal.coe_mul]; norm_num
theorem ofBits_inf : Ideal.ofBits .f32 0x7F800000#32 = (⊤ : EReal) := by
  simp [Ideal.ofBits, Ideal.ieee]

section
variable (W : (⟨2, ![256, 256]⟩ : Shape).Idx → EReal) (x : Fin 256 → EReal)

/-- The expanded squared distance of a row to a code (a column of the codebook). -/
def distTo (c : Fin 256) : EReal := ∑ k, x k * x k - two * ∑ k, x k * W (ix2 k c) + ∑ k, W (ix2 k c) * W (ix2 k c)
/-- The code of a row. -/
def codeOf : Fin 256 := best (distTo W x)
/-- Its one-hot encoding. -/
def oneHot (c : Fin 256) : EReal := if c = codeOf W x then 1 else 0

/-- The one-hot encoding picks the row of a table. -/
theorem sum_oneHot (t : Fin 256 → EReal) : ∑ k, oneHot W x k * t k = t (codeOf W x) := by
  rw [Finset.sum_eq_single (codeOf W x)]
  · rw [oneHot, if_pos rfl, one_mul]
  · intro k _ hk; rw [oneHot, if_neg hk, zero_mul]
  · intro h; exact absurd (Finset.mem_univ _) h
end

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- At finite values the expanded squared distance is the squared distance. -/
theorem distTo_real (w : (⟨2, ![256, 256]⟩ : Shape).Idx → ℝ) (x : Fin 256 → ℝ) (c : Fin 256) :
    distTo (fun i => (w i : EReal)) (fun k => (x k : EReal)) c
      = ∑ k, ((w (ix2 k c) : EReal) - (x k : EReal)) * ((w (ix2 k c) : EReal) - (x k : EReal)) := by
  have e : ∑ k, x k * x k - 2 * ∑ k, x k * w (ix2 k c) + ∑ k, w (ix2 k c) * w (ix2 k c) = ∑ k, (w (ix2 k c) - x k) * (w (ix2 k c) - x k) := by
    rw [Finset.mul_sum, ← Finset.sum_sub_distrib, ← Finset.sum_add_distrib]
    exact Finset.sum_congr rfl fun k _ => by ring
  unfold distTo
  rw [two_eq]
  simp only [← EReal.coe_mul, ← EReal.coe_sub, ← coe_sum, ← EReal.coe_add]
  rw [e]

/-- The same of any values none of which is infinite. -/
theorem distTo_finite (W : (⟨2, ![256, 256]⟩ : Shape).Idx → EReal) (x : Fin 256 → EReal) (hW : ∀ i, W i ≠ ⊤ ∧ W i ≠ ⊥) (hx : ∀ k, x k ≠ ⊤ ∧ x k ≠ ⊥)
    (c : Fin 256) : distTo W x c = ∑ k, (W (ix2 k c) - x k) * (W (ix2 k c) - x k) := by
  obtain ⟨w, rfl⟩ : ∃ w : (⟨2, ![256, 256]⟩ : Shape).Idx → ℝ, W = fun i => (w i : EReal) :=
    ⟨fun i => (W i).toReal, funext fun i => (EReal.coe_toReal (hW i).1 (hW i).2).symm⟩
  obtain ⟨y, rfl⟩ : ∃ y : Fin 256 → ℝ, x = fun k => (y k : EReal) :=
    ⟨fun k => (x k).toReal, funext fun k => (EReal.coe_toReal (hx k).1 (hx k).2).symm⟩
  exact distTo_real w y c

/-- A finite value and the difference to it add up. -/
theorem add_sub_self (a b : EReal) (h : a ≠ ⊤) (h' : a ≠ ⊥) : a + (b - a) = b := by
  rw [← EReal.coe_toReal h h']
  generalize a.toReal = r
  induction b using EReal.rec with
  | bot => simp
  | top => simp
  | coe s => rw [← EReal.coe_sub, ← EReal.coe_add]; congr 1; ring

/-- The loss of a sum of squares -/
def lossFrom (s : EReal) : EReal :=
  Ideal.div s (Ideal.ofBits .f32 0x4B000000#32) + Ideal.ofBits .f32 0x3E800000#32 * Ideal.div s (Ideal.ofBits .f32 0x4B000000#32)
/-- and the perplexity of a histogram. -/
def perpFrom (h : Fin 256 → EReal) : EReal :=
  Ideal.exp (-∑ k, Ideal.div (h k) (Ideal.ofBits .f32 0x47000000#32)
    * Ideal.log (Ideal.div (h k) (Ideal.ofBits .f32 0x47000000#32) + Ideal.ofBits .f32 0x2EDBE6FF#32))

/-- The flat number of a row. -/
def rowNumber (a : Fin 32) (b : Fin 1024) : Fin 32768 := ⟨a.val * 1024 + b.val, by have := a.isLt; have := b.isLt; omega⟩

/-- A sum over the flat rows is a sum over both coordinates. -/
theorem sum_rows (g : Fin 32768 → EReal) : ∑ R, g R = ∑ a : Fin 32, ∑ b : Fin 1024, g (rowNumber a b) := by
  rw [← Fintype.sum_prod_type', ← Equiv.sum_comp (finProdFinEquiv (m := 32) (n := 1024)) g]
  exact Finset.sum_congr rfl fun p _ => congrArg g (Fin.ext (by show p.2.val + 1024 * p.1.val = p.1.val * 1024 + p.2.val; omega))

end Cert.Proof
-- ==== Proof.Pre.lean ====
/-
  The precondition: its side conditions, and what it says of the two inputs — that no element is infinite.
-/
module

public import proofs.«01_k».proof.Pre_finite
public import proofs.«01_k».proof.Proof.Code
public import Idealize.ShloMosaic.Lib.ReduceAll
public import Idealize.ShloMosaic.PureOps.Ideal.Laws

@[expose] public section

set_option maxRecDepth 16384

noncomputable section

namespace Cert.Proof.Pre

open Idealize.ShloMosaic Cert.Pre_finite

theorem bcastX : S_.BroadcastsInDim S32x1024x256 (![] : Fin 0 → Fin S32x1024x256.rank) := by decide
theorem reduceX : S32x1024x256.ReducesTo [0, 1, 2] S_ := by decide
theorem one : 0 < S_.numel := by decide
theorem bcastW : S_.BroadcastsInDim S256x256 (![] : Fin 0 → Fin S256x256.rank) := by decide
theorem reduceW : S256x256.ReducesTo [0, 1] S_ := by decide

instance facts : Cert.Pre_finite.Facts where
  bcast_S_S32x1024x256 := bcastX
  reducesTo_S32x1024x256_S_d0_1_2 := reduceX
  h_S_ := one
  bcast_S_S256x256 := bcastW
  reducesTo_S256x256_S_d0_1 := reduceW

/-- An absolute value below infinity is of a finite value. -/
theorem finite_of (a : EReal) (h : BitVec.ofBool (decide (max a (-a) < Ideal.ofBits .f32 0x7F800000#32)) = 1#1) : a ≠ ⊤ ∧ a ≠ ⊥ := by
  have h := of_decide_eq_true ((ofBool_eq_one _).mp h)
  rw [ofBits_inf] at h
  constructor
  · rintro rfl; simp at h
  · rintro rfl; simp at h

instance : Subsingleton S_.Idx := ⟨fun a b => funext fun i => i.elim0⟩

theorem all_finite {s : Shape} {axes : List (Fin s.rank)} (x : FVec Ideal s .f32) (hb : S_.BroadcastsInDim s (![] : Fin 0 → Fin s.rank)) (h : s.ReducesTo axes S_) (j : S_.Idx)
    (e : Host.reduce IntOp.andi (cmpf .olt (Host.absf x) (broadcastInDim s ![] hb (constant S_ .f32 0x7F800000#32))) (constantI S_ 1 1#1) h one j = 1#1)
    (i : s.Idx) : x i ≠ (⊤ : EReal) ∧ x i ≠ (⊥ : EReal) :=
  finite_of (x i) (Host.reduce_andi_all _ _ h one j e i)

/-- The precondition says that every element of both inputs is finite. -/
theorem decode (x : FVec Ideal S32x1024x256 .f32) (w : FVec Ideal S256x256 .f32) (t : IVec S_ 32) (h : fn (F := Ideal) x w t = fun _ => 1#1) :
    (∀ i, x i ≠ (⊤ : EReal) ∧ x i ≠ (⊥ : EReal)) ∧ ∀ i, w i ≠ (⊤ : EReal) ∧ w i ≠ (⊥ : EReal) := by
  have h0 := congrFun h ix0
  obtain ⟨hx, hw⟩ := IntOp.andi_eq_one.1 h0
  exact ⟨all_finite x bcastX reduceX ix0 hx, all_finite w bcastW reduceW ix0 hw⟩

end Cert.Proof.Pre
-- ==== Proof.Frames.lean ====
/-
  The frame claims: each program terminates, leaves its arguments unchanged and every counter at zero.
-/
module

public import proofs.«01_k».proof.Defs
public import proofs.«01_k».proof.Proof.Ideal.Launch
public import proofs.«01_k».proof.Proof.Bits.Launch
public import proofs.«01_k».proof.Proof.Gen.ReferenceIdeal
public import proofs.«01_k».proof.Proof.Pre
public import Idealize.ShloMosaic.Lib.Claim

@[expose] public section

set_option maxRecDepth 16384

noncomputable section

namespace Cert.Proof

open Idealize.ShloMosaic Idealize.SL.Sem Cert

theorem frame_Kernel : Cert.quiescent_Kernel := fun m g _ => Bits.frame_run m g

theorem frame_KernelIdeal : Cert.quiescent_KernelIdeal := fun m g _ => Ideal.frame_run m g

/-- The reference's arguments are unchanged; -/
theorem args_ReferenceIdeal (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)) := by
  hlo_run

/-- and it has no semaphore. -/
theorem frame_ReferenceIdeal : Cert.quiescent_ReferenceIdeal := fun m g _ =>
  (θ_run ReferenceIdeal.defs _ _).mono (fun r h => ⟨h, sem_eq_zero_of_no_sems (by decide) r.2⟩) (args_ReferenceIdeal m g)

/-- With the precondition of the value claim they hold as they do without it. -/
theorem frame_KernelIdeal_pre : Cert.quiescent_KernelIdeal_pre_finite := fun m g _ => frame_KernelIdeal m g trivial

theorem frame_ReferenceIdeal_pre : Cert.quiescent_ReferenceIdeal_pre_finite := fun m g _ => frame_ReferenceIdeal m g trivial

end Cert.Proof
-- ==== Proof.Ideal.Rows.lean ====
/-
  The first kernel's half tiles at an index: each row's distances, its code, the encoding and the row of the code.
-/
module

public import proofs.«01_k».proof.Proof.Ideal.Values
public import proofs.«01_k».proof.Proof.Ideal.Region1
public import proofs.«01_k».proof.Proof.Code
public import Idealize.ShloMosaic.PureOps.Ideal.Laws
public import Idealize.ShloMosaic.Lib.Pointwise

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (W T : Vec Ideal S256x256 .f32) (X : Vec Ideal S32768x256 .f32) (x : Vec Ideal S1x2048x256 .f32) (r : Fin 2048)

/-- A row of a half tile. -/
abbrev rowIn (k : Fin 256) : EReal := x (ix3 0 r k)

theorem pay6_at (c : Fin 256) : k0_pay6 (k0_pay3 W) (k0_pay4 W) x (ix2 r c) = distTo W (rowIn x r) c := by
  pointwise [k0_pay6, k0_pay3, k0_pay4]
  rfl

theorem pay7_at : k0_pay7 (k0_pay3 W) (k0_pay4 W) x (ix2 r 0) = distTo W (rowIn x r) (codeOf W (rowIn x r)) := by
  pointwise [k0_pay7]
  rw [ofBits_inf]
  simp only [pay6_at]
  exact fold_min _

theorem word_toInt (k : Fin 256) : (FloatOps.sitofp (F := Ideal) .f32 (BitVec.ofNat 32 k.val) : EReal) = (((k.val : ℕ) : ℝ) : EReal) := by
  show (((BitVec.ofNat 32 k.val).toInt : ℝ) : EReal) = _
  rw [toInt_ofNat_fin]
  norm_cast

theorem pay9_at : k0_pay9 (k0_pay3 W) (k0_pay4 W) x (ix2 r 0) = (((codeOf W (rowIn x r)).val : ℝ) : EReal) := by
  pointwise [k0_pay9, k0_pay8]
  rw [ofBits_inf]
  simp only [pay6_at, pay7_at, word_toInt]
  refine Eq.trans ?_ (fold_min_index (distTo W (rowIn x r)))
  refine congrArg (fun g => Finset.univ.fold min ⊤ g) (funext fun k => ?_)
  refine if_congr Iff.rfl rfl ?_
  show (((256#32).toInt : ℝ) : EReal) = _
  rw [show (256#32).toInt = 256 from rfl]
  norm_num

theorem val_inj (k l : Fin 256) : ((((k.val : ℕ) : ℝ) : EReal) = (((l.val : ℕ) : ℝ) : EReal)) ↔ k = l := by
  rw [EReal.coe_eq_coe_iff, Nat.cast_inj, Fin.val_inj]

theorem pay10_at (c : Fin 256) : k0_pay10 (k0_pay3 W) (k0_pay4 W) x (ix2 r c) = oneHot W (rowIn x r) c := by
  pointwise [k0_pay10, k0_pay8]
  simp only [pay9_at, word_toInt, val_inj]
  rfl

theorem pay11_at (c : Fin 256) : k0_pay11 (k0_pay3 W) (k0_pay4 W) x (ix2 r c) = oneHot W (rowIn x r) c := by
  have h := pay10_at W x r c
  unfold k0_pay11
  generalize k0_pay10 (k0_pay3 W) (k0_pay4 W) x = z at h ⊢
  exact h

/-- The product of an encoding and a table. -/
theorem product_at (v : FVec Ideal S2048x256 .bf16) (c : Fin 256) :
    k0_pay13 (matmul dot_S2048x256_S256x256_S2048x256_1_0_0_1_n_n none v (k0_pay5 T) (constant S2048x256 .f32 0x00000000#32)) (ix3 0 r c)
      = (∑ k : Fin 256, v (ix2 r k) * T (ix2 k c) : EReal) := by
  pointwise [k0_pay13, k0_pay5]

theorem pay13_at (c : Fin 256) :
    k0_pay13 (k0_pay12 (k0_pay3 W) (k0_pay4 W) (k0_pay5 T) x) (ix3 0 r c) = T (ix2 (codeOf W (rowIn x r)) c) := by
  refine (product_at T r _ c).trans ((Finset.sum_congr rfl fun k _ => ?_).trans (sum_oneHot W (rowIn x r) fun k => T (ix2 k c)))
  exact congrArg (fun y : EReal => (y * T (ix2 k c) : EReal)) (pay11_at W x r k)

theorem pay14_at (c : Fin 256) : k0_pay14 (k0_pay10 (k0_pay3 W) (k0_pay4 W) x) (ix3 0 r c) = oneHot W (rowIn x r) c := by
  pointwise [k0_pay14]
  exact pay10_at W x r c

theorem pay15_at : k0_pay15 (k0_pay9 (k0_pay3 W) (k0_pay4 W) x) (ix3 0 r 0) = BitVec.ofNat 32 (codeOf W (rowIn x r)).val := by
  pointwise [k0_pay15]
  rw [pay9_at]
  generalize codeOf W (rowIn x r) = k
  show BitVec.ofInt 32 (Ideal.toIntClamped (-(2 ^ (32 - 1) : Nat)) ((2 ^ (32 - 1) : Nat) - 1) (((k.val : ℕ) : ℝ) : EReal)) = _
  rw [Ideal.toIntClamped_coe, if_pos (Nat.cast_nonneg _), Int.floor_natCast]
  have h := k.isLt
  rw [min_eq_right (by norm_num; omega), max_eq_right (by norm_num)]
  exact BitVec.ofInt_natCast ..

theorem pay17_at (v : FVec Ideal S2048x1 .f32) (s : Vec Ideal S1x128 .f32) (c : Fin 128) :
    k0_pay17 v s (ix2 0 c) = (s (ix2 0 c) + ∑ r : Fin 2048, v (ix2 r 0) : EReal) := by
  pointwise [k0_pay17]
  exact congrArg (fun y : EReal => (s (ix2 0 c) + y : EReal)) (Finset.sum_congr rfl fun r _ => Fin.sum_univ_one _)
theorem pay16_at (v : FVec Ideal S2048x256 .bf16) (h : Vec Ideal S1x256 .f32) (c : Fin 256) :
    k0_pay16 v h (ix2 0 c) = (h (ix2 0 c) + ∑ r : Fin 2048, v (ix2 r c) : EReal) := by
  pointwise [k0_pay16]

/-- The histogram's step adds the encodings of the half tile's rows, -/
theorem histStep_at (h : Vec Ideal S1x256 .f32) (c : Fin 256) :
    histStep (k0_pay3 W) (k0_pay4 W) x h (ix2 0 c) = (h (ix2 0 c) + ∑ r : Fin 2048, oneHot W (rowIn x r) c : EReal) :=
  (pay16_at _ h c).trans (congrArg (fun y : EReal => (h (ix2 0 c) + y : EReal)) (Finset.sum_congr rfl fun r _ => pay11_at W x r c))
/-- and the error sum's step their least distances. -/
theorem sseStep_at (s : Vec Ideal S1x128 .f32) (c : Fin 128) :
    sseStep (k0_pay3 W) (k0_pay4 W) x s (ix2 0 c) = (s (ix2 0 c) + ∑ r : Fin 2048, distTo W (rowIn x r) (codeOf W (rowIn x r)) : EReal) :=
  (pay17_at _ s c).trans (congrArg (fun y : EReal => (s (ix2 0 c) + y : EReal)) (Finset.sum_congr rfl fun r _ => pay7_at W x r))
end

/-! ## The whole arrays -/

section
variable (W T : Vec Ideal S256x256 .f32) (X : Vec Ideal S32768x256 .f32)

/-- A row of the input. -/
abbrev rowAt (R : Fin 32768) (k : Fin 256) : EReal := X (ix2 R k)

theorem glue_at {α : Type} {V : ℕ} [NeZero V] (P : ℕ → ℕ → (⟨3, ![1, 2048, V]⟩ : Shape).Idx → α) (R : Fin 32768) (c : Fin V) :
    glue P (ix2 R c) = P (R.val / 4096) (R.val % 4096 / 2048 * 2048) (ix3 0 (Fin.ofNat 2048 (R.val % 2048)) c) := by
  show P _ _ _ = _
  congr 1
  funext a
  match a with
  | ⟨0, _⟩ => rfl
  | ⟨1, _⟩ => rfl
  | ⟨2, _⟩ => exact Fin.ext (Nat.mod_eq_of_lt c.isLt)

/-- A row of a half tile is a row of the input. -/
theorem rowIn_rowsOf (n o : ℕ) (r : Fin 2048) : rowIn (rowsOf X n o) r = rowAt X (Fin.ofNat 32768 (4096 * n + o + r.val)) := by
  funext k
  show X _ = X _
  congr 1
  funext a
  match a with
  | ⟨0, _⟩ => rfl
  | ⟨1, _⟩ => exact Fin.ext (Nat.mod_eq_of_lt k.isLt)

theorem rowIn_half (R : Fin 32768) :
    rowIn (rowsOf X (R.val / 4096) (R.val % 4096 / 2048 * 2048)) (Fin.ofNat 2048 (R.val % 2048)) = rowAt X R := by
  rw [rowIn_rowsOf]
  congr 1
  have h := R.isLt
  exact Fin.ext (by show (4096 * (R.val / 4096) + R.val % 4096 / 2048 * 2048 + R.val % 2048 % 2048) % 32768 = R.val; omega)

theorem qAll_at (R : Fin 32768) (c : Fin 256) : qAll W T X (ix2 R c) = T (ix2 (codeOf W (rowAt X R)) c) := by
  unfold qAll
  rw [glue_at, pay13_at, rowIn_half]
theorem eAll_at (R : Fin 32768) (c : Fin 256) : eAll W X (ix2 R c) = oneHot W (rowAt X R) c := by
  unfold eAll
  rw [glue_at, pay14_at, rowIn_half]
theorem iAll_at (R : Fin 32768) : iAll W X (ix2 R 0) = BitVec.ofNat 32 (codeOf W (rowAt X R)).val := by
  unfold iAll
  rw [glue_at, pay15_at, rowIn_half]

/-- The rows by number. -/
abbrev rowNo (n : ℕ) : Fin 256 → EReal := rowAt X (Fin.ofNat 32768 n)

theorem histHalf (h : Vec Ideal S1x256 .f32) (n o : ℕ) (c : Fin 256) : histStep (k0_pay3 W) (k0_pay4 W) (rowsOf X n o) h (ix2 0 c)
    = (h (ix2 0 c) + ∑ r : Fin 2048, oneHot W (rowNo X (4096 * n + o + r.val)) c : EReal) :=
  (histStep_at W _ h c).trans (congrArg (fun y : EReal => (h (ix2 0 c) + y : EReal)) (Finset.sum_congr rfl fun r _ => congrArg (oneHot W · c) (rowIn_rowsOf X n o r)))
theorem sseHalf (s : Vec Ideal S1x128 .f32) (n o : ℕ) (c : Fin 128) : sseStep (k0_pay3 W) (k0_pay4 W) (rowsOf X n o) s (ix2 0 c)
    = (s (ix2 0 c) + ∑ r : Fin 2048, distTo W (rowNo X (4096 * n + o + r.val)) (codeOf W (rowNo X (4096 * n + o + r.val))) : EReal) :=
  (sseStep_at W _ s c).trans (congrArg (fun y : EReal => (s (ix2 0 c) + y : EReal)) (Finset.sum_congr rfl fun r _ => congrArg (fun y => distTo W y (codeOf W y)) (rowIn_rowsOf X n o r)))

/-- A sum over the rows of one more tile is the sum so far and the sums over its two halves. -/
theorem sum_tile (g : ℕ → EReal) (n : ℕ) : ∑ R ∈ Finset.range (4096 * (n + 1)), g R
    = ((∑ R ∈ Finset.range (4096 * n), g R) + ∑ r : Fin 2048, g (4096 * n + 0 + r.val)) + ∑ r : Fin 2048, g (4096 * n + 2048 + r.val) := by
  rw [show 4096 * (n + 1) = 4096 * n + 2048 + 2048 from by omega, Finset.sum_range_add, Finset.sum_range_add,
    Finset.sum_range (fun r => g (4096 * n + r)), Finset.sum_range (fun r => g (4096 * n + 2048 + r))]
  simp only [Nat.add_zero]

theorem histAt_at (n : ℕ) (c : Fin 256) : histAt W X n (ix2 0 c) = ∑ R ∈ Finset.range (4096 * n), oneHot W (rowNo X R) c := by
  induction n with
  | zero =>
    unfold histAt
    pointwise [k0_pay1]
    simp
  | succ n ih =>
    rw [sum_tile (fun R => oneHot W (rowNo X R) c), histAt, histHalf W X _ n 2048 c, histHalf W X _ n 0 c, ih]

theorem sseAt_at (n : ℕ) (c : Fin 128) :
    sseAt W X n (ix2 0 c) = ∑ R ∈ Finset.range (4096 * n), distTo W (rowNo X R) (codeOf W (rowNo X R)) := by
  induction n with
  | zero =>
    unfold sseAt
    pointwise [k0_pay2]
    simp
  | succ n ih =>
    rw [sum_tile (fun R => distTo W (rowNo X R) (codeOf W (rowNo X R))), sseAt, sseHalf W X _ n 2048 c, sseHalf W X _ n 0 c, ih]

theorem rowNo_val (R : Fin 32768) : rowNo X R.val = rowAt X R := by
  show rowAt X _ = _
  congr 1
  exact Fin.ext (Nat.mod_eq_of_lt R.isLt)

/-- The whole histogram -/
theorem hist_at (c : Fin 256) : histAt W X 8 (ix2 0 c) = ∑ R : Fin 32768, oneHot W (rowAt X R) c := by
  rw [histAt_at, show 4096 * 8 = 32768 from rfl, Finset.sum_range]
  simp only [rowNo_val]
/-- and the whole error sum. -/
theorem sse_at (c : Fin 128) : sseAt W X 8 (ix2 0 c) = ∑ R : Fin 32768, distTo W (rowAt X R) (codeOf W (rowAt X R)) := by
  rw [sseAt_at, show 4096 * 8 = 32768 from rfl, Finset.sum_range]
  simp only [rowNo_val]

/-! ## The second kernel -/

theorem first1_at (s : Vec Ideal S1x128 .f32) : first1 s (ix2 0 0) = s (ix2 0 0) := by
  refine congrArg s ?_
  funext a
  match a with
  | ⟨0, _⟩ => rfl
  | ⟨1, _⟩ => rfl

theorem lossOf_at (s : Vec Ideal S1x128 .f32) : lossOf s (ix2 0 0) = lossFrom (s (ix2 0 0)) := by
  rw [← first1_at s]
  unfold lossOf
  generalize first1 s = z
  pointwise [k1_pay1]
  rfl

theorem perpOf_at (h : Vec Ideal S1x256 .f32) : perpOf h (ix2 0 0) = perpFrom fun k => h (ix2 0 k) := by
  unfold perpOf
  pointwise [k1_pay2]
  simp [perpFrom]
end

end Cert.Proof.Ideal
-- ==== Proof.Ref.Terms.lean ====
/-
  The reference's results as functions of its arguments: its own operations, composed.
-/
module

public import proofs.«01_k».proof.Proof.Gen.ReferenceIdeal
public import Idealize.ShloMosaic.PureOps.Ideal.Laws
public import Idealize.ShloMosaic.Lib.Claim

@[expose] public section

set_option maxRecDepth 16384

noncomputable section

namespace Cert.Proof.Ref

open Cert.ReferenceIdeal Cert.ReferenceIdeal.Gen
open Idealize.ShloMosaic Idealize.SL.Sem

section
variable (x : FVec Ideal S32x1024x256 .f32) (w : FVec Ideal S256x256 .f32)

/-- The flat rows. -/
def flat : FVec Ideal S32768x256 .f32 := shapeCast S32768x256 x shapeCasts_S32x1024x256_S32768x256

/-- The distances of the rows `f` to the codes. -/
def dist (f : FVec Ideal S32768x256 .f32) : FVec Ideal S32768x256 .f32 :=
  addf (subf (broadcastInDim S32768x256 ![0, 1] bcast_S32768x1_S32768x256_0_1 (broadcastInDim S32768x1 ![0] bcast_S32768_S32768x1_0
      (Host.reduceAdd (mulf f f) (constant S_ .f32 0x00000000#32) reducesTo_S32768x256_S32768_d1 h_S_)))
    (mulf (broadcastInDim S32768x256 ![] bcast_S_S32768x256 (constant S_ .f32 0x40000000#32))
      (Host.dotGeneral dot_S32768x256_S256x256_S32768x256_1_0_0_1_n_n none f w)))
    (broadcastInDim S32768x256 ![0, 1] bcast_S1x256_S32768x256_0_1 (broadcastInDim S1x256 ![1] bcast_S256_S1x256_1
      (Host.reduceAdd (mulf w w) (constant S_ .f32 0x00000000#32) reducesTo_S256x256_S256_d0 h_S_)))

/-- The index of the least distance of each row. -/
def idx (d : FVec Ideal S32768x256 .f32) : IVec S32768 32 := fun j =>
  (Host.argReduce reducer_argmin_f32_i32 d (iotaInDim S32768x256 32 1) (constant S_ .f32 0x7F800000#32) (constantI S_ 32 0#32) reducesTo_S32768x256_S32768_d1 h_S_ j).2

/-- The encodings. -/
def enc (i : IVec S32768 32) : FVec Ideal S32768x256 .f32 :=
  uitofp .f32 (cmpi .eq (broadcastInDim S32768x256 ![0, 1] bcast_S32768x1_S32768x256_0_1 (broadcastInDim S32768x1 ![0] bcast_S32768_S32768x1_0 i))
    (broadcastInDim S32768x256 ![0, 1] bcast_S1x256_S32768x256_0_1 (iotaInDim S1x256 32 1)))

/-- The row numbers that the lookup gathers at, -/
def rows (i : IVec S32x1024 32) : IVec S32x1024x1 32 :=
  broadcastInDim S32x1024x1 ![0, 1] bcast_S32x1024_S32x1024x1_0_1
    (select (cmpi .slt i (broadcastInDim S32x1024 ![] bcast_S_S32x1024 (constantI S_ 32 0#32)))
      (addi i (broadcastInDim S32x1024 ![] bcast_S_S32x1024 (constantI S_ 32 256#32))) i)
/-- which of them lie in the table, -/
def inside (r : IVec S32x1024x1 32) : IVec S32x1024 1 :=
  Host.reduce IntOp.andi
    (andi (cmpi .sge r (broadcastInDim S32x1024x1 ![] bcast_S_S32x1024x1 (constantI S_ 32 0#32)))
      (cmpi .sle r (broadcastInDim S32x1024x1 ![0, 1, 2] bcast_S1x1x1_S32x1024x1_0_1_2 (broadcastInDim S1x1x1 ![2] bcast_S1_S1x1x1_2 (constantI S1 32 255#32)))))
    (constantI S_ 1 1#1) reducesTo_S32x1024x1_S32x1024_d2 h_S_
/-- and the rows of a table `t` that lie in it. -/
def pick (t : FVec Ideal S256x256 .f32) (r : IVec S32x1024x1 32) (b : IVec S32x1024 1) : FVec Ideal S32x1024x256 .f32 :=
  select (broadcastInDim S32x1024x256 ![0, 1] bcast_S32x1024_S32x1024x256_0_1 b)
    (Host.gather gather_S256x256_S32x1024x1_S32x1024x256_2_0_n_n_0_2_1256 t r)
    (broadcastInDim S32x1024x256 ![] bcast_S_S32x1024x256 (constant S_ .f32 0x7FC00000#32))
/-- The lookup. -/
def lookup (t : FVec Ideal S256x256 .f32) (i : IVec S32x1024 32) : FVec Ideal S32x1024x256 .f32 := pick t (rows i) (inside (rows i))
/-- The lookup in the table of codes. -/
def take (i : IVec S32x1024 32) : FVec Ideal S32x1024x256 .f32 := lookup (transpose S256x256 [1, 0] w transposes_S256x256_S256x256_1_0) i

/-- The mean square of the differences. -/
def mse (q : FVec Ideal S32x1024x256 .f32) : FVec Ideal S_ .f32 :=
  Host.divf (Host.reduceAdd (mulf (subf q x) (subf q x)) (constant S_ .f32 0x00000000#32) reducesTo_S32x1024x256_S_d0_1_2 h_S_) (constant S_ .f32 0x4B000000#32)
def loss (q : FVec Ideal S32x1024x256 .f32) : FVec Ideal S_ .f32 :=
  addf (mse x q) (mulf (constant S_ .f32 0x3E800000#32) (mse x q))
def straight (q : FVec Ideal S32x1024x256 .f32) : FVec Ideal S32x1024x256 .f32 := addf x (subf q x)

/-- How often each code is taken, as a share of the rows, -/
def share (e : FVec Ideal S32768x256 .f32) : FVec Ideal S256 .f32 :=
  Host.divf (Host.reduceAdd e (constant S_ .f32 0x00000000#32) reducesTo_S32768x256_S256_d0 h_S_) (broadcastInDim S256 ![] bcast_S_S256 (constant S_ .f32 0x47000000#32))
/-- and the perplexity. -/
def perp (p : FVec Ideal S256 .f32) : FVec Ideal S_ .f32 :=
  Host.exp (Host.negf (Host.reduceAdd (mulf p (Host.log (addf p (broadcastInDim S256 ![] bcast_S_S256 (constant S_ .f32 0x2EDBE6FF#32)))))
    (constant S_ .f32 0x00000000#32) reducesTo_S256_S_d0 h_S_))

abbrev idxOf : IVec S32768 32 := idx (dist w (flat x))
abbrev idx2 : IVec S32x1024 32 := shapeCast S32x1024 (idxOf x w) shapeCasts_S32768_S32x1024
abbrev encOf : FVec Ideal S32768x256 .f32 := enc (idxOf x w)
abbrev takeOf : FVec Ideal S32x1024x256 .f32 := take w (idx2 x w)
end

end Cert.Proof.Ref
-- ==== Proof.Ref.Rows.lean ====
/-
  The reference's results at an index, in terms of each row's code.
-/
module

public import proofs.«01_k».proof.Proof.Ref.Terms
public import proofs.«01_k».proof.Proof.Code
public import Idealize.ShloMosaic.Lib.Pointwise

@[expose] public section

set_option maxRecDepth 16384

noncomputable section

namespace Cert.Proof.Ref

open Cert.ReferenceIdeal Cert.ReferenceIdeal.Gen
open Idealize.ShloMosaic

section
variable (w : FVec Ideal S256x256 .f32) (f : FVec Ideal S32768x256 .f32)

/-- A row. -/
abbrev rowAt (R : Fin 32768) (k : Fin 256) : EReal := f (ix2 R k)

theorem dist_at (R : Fin 32768) (c : Fin 256) : dist w f (ix2 R c) = distTo w (rowAt f R) c := by
  pointwise [dist]
  rfl

theorem red1 : S32768x256.Reduces [1] S32768 := by decide

theorem lift_eq (R : Fin 32768) (k : Fin 256) : red1.lift (ix1 R) k = ix2 R k := by
  funext a
  match a with
  | ⟨0, _⟩ => rfl
  | ⟨1, _⟩ => rfl

/-- The pairs that an index reduction folds over. -/
theorem mem_fiber {α β : Type} {s t : Shape} {axes : List (Fin s.rank)} (x : s.Idx → α) (y : s.Idx → β) (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

theorem argReduce_fold {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t) (hu : 0 < u.numel) (j : t.Idx) :
    (Host.argReduce f x y ix iy h hu j).2 = ((Host.argReduceFiber x y h j).foldl f (ix (Shape.Idx.first hu), iy (Shape.Idx.first hu))).2 := by
  rw [Ideal.argReduce_eq_reduce2, Host.reduce2_eq_foldl_fiber]

theorem drop_iff (h : S32768x256.ReducesTo [1] S32768) (i : S32768x256.Idx) (R : Fin 32768) : h.drop i = ix1 R ↔ ∃ k : Fin 256, i = ix2 R k := by
  rw [Shape.ReducesTo.drop_eq_drop h red1]
  constructor
  · intro e
    exact ⟨i 1, (red1.lift_drop i).symm.trans ((congrArg (fun z => red1.lift z (i 1)) e).trans (lift_eq R (i 1)))⟩
  · rintro ⟨k, rfl⟩
    rw [← lift_eq]
    exact red1.drop_lift _ _

theorem argmin_at (d : FVec Ideal S32768x256 .f32) (y : IVec S32768x256 32) (ix : FVec Ideal S_ .f32) (iy : IVec S_ 32) (R : Fin 32768)
    (hy : ∀ (k : Fin 256), y (ix2 R k) = BitVec.ofNat 32 k.val) (hix : ∀ o, ix o = (⊤ : EReal)) (hiy : ∀ o, iy o = 0#32) :
    (Host.argReduce reducer_argmin_f32_i32 d y ix iy reducesTo_S32768x256_S32768_d1 h_S_ (ix1 R)).2 = BitVec.ofNat 32 (best fun k => d (ix2 R k)).val := by
  refine (argReduce_fold _ _ _ _ _ _ _ _).trans ?_
  rw [hix, hiy]
  have h1 : ∀ p ∈ Host.argReduceFiber d y reducesTo_S32768x256_S32768_d1 (ix1 R), ∃ k : Fin 256, p = (d (ix2 R k), BitVec.ofNat 32 k.val) := by
    intro p hp
    obtain ⟨i, hi, rfl⟩ := (mem_fiber _ _ _ _ _).mp hp
    obtain ⟨k, rfl⟩ := (drop_iff _ _ _).mp hi
    exact ⟨k, by rw [hy]⟩
  have h2 : ∀ k : Fin 256, (d (ix2 R k), BitVec.ofNat 32 k.val) ∈ Host.argReduceFiber d y reducesTo_S32768x256_S32768_d1 (ix1 R) := fun k =>
    (mem_fiber _ _ _ _ _).mpr ⟨ix2 R k, (drop_iff _ _ _).mpr ⟨k, rfl⟩, by rw [hy]⟩
  generalize Host.argReduceFiber d y reducesTo_S32768x256_S32768_d1 (ix1 R) = l at h1 h2 ⊢
  exact foldl_argmin (fun k => d (ix2 R k)) l h1 h2

theorem idx_eq (d : FVec Ideal S32768x256 .f32) : idx d = fun j =>
    (Host.argReduce reducer_argmin_f32_i32 d (iotaInDim S32768x256 32 1) (constant S_ .f32 0x7F800000#32) (constantI S_ 32 0#32) reducesTo_S32768x256_S32768_d1 h_S_ j).2 := rfl
theorem least_hy (R : Fin 32768) (k : Fin 256) : (iotaInDim S32768x256 32 1 : IVec S32768x256 32) (ix2 R k) = BitVec.ofNat 32 k.val := by pointwise []
theorem least_hiy (o : S_.Idx) : (constantI S_ 32 0#32 : IVec S_ 32) o = 0#32 := by pointwise []
theorem least_hix (o : S_.Idx) : (constant S_ .f32 0x7F800000#32 : FVec Ideal S_ .f32) o = (⊤ : EReal) := by
    pointwise []
    exact ofBits_inf
/-- The index of a row's least entry is its first. -/
theorem idx_at (d : FVec Ideal S32768x256 .f32) (R : Fin 32768) : idx d (ix1 R) = BitVec.ofNat 32 (best fun k => d (ix2 R k)).val := (congrFun (idx_eq d) (ix1 R)).trans (argmin_at d (iotaInDim S32768x256 32 1) (constant S_ .f32 0x7F800000#32) (constantI S_ 32 0#32) R (least_hy R) least_hix least_hiy)

/-- The word of a code. -/
abbrev word (k : Fin 256) : BitVec 32 := BitVec.ofNat 32 k.val

theorem idx_dist_at (R : Fin 32768) : idx (dist w f) (ix1 R) = word (codeOf w (rowAt f R)) := by
  rw [idx_at]
  simp only [dist_at]
  rfl

theorem word_inj (k l : Fin 256) : word k = word l ↔ k = l := by
  constructor
  · intro h
    have := congrArg BitVec.toInt h
    rw [toInt_ofNat_fin, toInt_ofNat_fin] at this
    exact Fin.ext (by exact_mod_cast this)
  · rintro rfl; rfl

theorem enc_at (i : IVec S32768 32) (R : Fin 32768) (k c : Fin 256) (h : i (ix1 R) = word k) : enc i (ix2 R c) = if c = k then (1 : EReal) else 0 := by
  pointwise [enc]
  rw [h]
  show ((((BitVec.ofBool (word k == word c)).toNat : ℕ) : ℝ) : EReal) = _
  by_cases e : c = k
  · subst e; simp
  · rw [if_neg e, beq_eq_false_iff_ne.mpr (fun h => e ((word_inj k c).mp h).symm)]; simp

/-! ## The lookup -/

theorem rows_at (i : IVec S32x1024 32) (a : Fin 32) (b : Fin 1024) (k : Fin 256) (h : i (ix2 a b) = word k) : rows i (ix3 a b 0) = word k := by
  pointwise [rows]
  rw [h]
  clear h
  revert k; decide +kernel

theorem inside_at (r : IVec S32x1024x1 32) (a : Fin 32) (b : Fin 1024) (k : Fin 256) (h : r (ix3 a b 0) = word k) : inside r (ix2 a b) = 1#1 := by
  pointwise [inside]
  rw [show (Finset.univ : Finset (Fin 1)) = {0} from rfl, Finset.fold_singleton, h]
  clear h
  revert k; decide +kernel

theorem gather_at (t : FVec Ideal S256x256 .f32) (r : IVec S32x1024x1 32) (a : Fin 32) (b : Fin 1024) (c k : Fin 256) (h : r (ix3 a b 0) = word k) :
    Host.gather gather_S256x256_S32x1024x1_S32x1024x256_2_0_n_n_0_2_1256 t r (ix3 a b c) = t (ix2 k c) := by
  unfold Host.gather
  congr 1
  funext e
  refine Fin.ext ?_
  show gather_S256x256_S32x1024x1_S32x1024x256_2_0_n_n_0_2_1256.start (ix3 a b c) r e
    + gather_S256x256_S32x1024x1_S32x1024x256_2_0_n_n_0_2_1256.batchCoord (ix3 a b c) e
    + gather_S256x256_S32x1024x1_S32x1024x256_2_0_n_n_0_2_1256.offCoord (ix3 a b c) e = _
  rw [GatherDims.batchCoord_eq_zero _ _ _ List.not_mem_nil]
  match e with
  | ⟨0, _⟩ =>
    rw [GatherDims.offCoord_eq_zero _ _ _ (fun h => ((GatherDims.mem_sKept _ _).mp h).1 (List.mem_singleton.mpr rfl))]
    simp only [Nat.add_zero]
    unfold GatherDims.start
    have hm : (⟨0, by decide⟩ : Fin S256x256.rank) ∈ gather_S256x256_S32x1024x1_S32x1024x256_2_0_n_n_0_2_1256.startIndexMap := List.mem_singleton.mpr rfl
    rw [dif_pos hm]
    have hsi : gather_S256x256_S32x1024x1_S32x1024x256_2_0_n_n_0_2_1256.siIdx (ix3 a b c) ⟨List.idxOf (⟨0, by decide⟩ : Fin S256x256.rank) gather_S256x256_S32x1024x1_S32x1024x256_2_0_n_n_0_2_1256.startIndexMap, List.idxOf_lt_length_iff.2 hm⟩ = ix3 a b 0 := by
      funext q; refine Fin.ext ?_
      match q with
      | ⟨0, _⟩ => rfl
      | ⟨1, _⟩ => rfl
      | ⟨2, _⟩ => rfl
    rw [hsi, h]
    show min (BitVec.ofNat 32 k.val).toInt.toNat 255 = k.val
    rw [toInt_ofNat_fin]
    have := k.isLt
    simp only [Int.toNat_natCast]
    omega
  | ⟨1, _⟩ =>
    have hm : (⟨1, by decide⟩ : Fin S256x256.rank) ∉ gather_S256x256_S32x1024x1_S32x1024x256_2_0_n_n_0_2_1256.startIndexMap := by decide
    have hk : (⟨1, by decide⟩ : Fin S256x256.rank) ∈ gather_S256x256_S32x1024x1_S32x1024x256_2_0_n_n_0_2_1256.sKept := by decide
    unfold GatherDims.start
    rw [dif_neg hm]
    simp only [Nat.zero_add]
    unfold GatherDims.offCoord
    rw [dif_pos hk]
    rfl

theorem take_at (i : IVec S32x1024 32) (a : Fin 32) (b : Fin 1024) (c k : Fin 256) (h : i (ix2 a b) = word k) : take w i (ix3 a b c) = w (ix2 c k) := by
  have hr := rows_at i a b k h
  have hi := inside_at (rows i) a b k hr
  show pick (transpose S256x256 [1, 0] w transposes_S256x256_S256x256_1_0) (rows i) (inside (rows i)) (ix3 a b c) = _
  generalize inside (rows i) = p at *
  generalize rows i = r at *
  generalize ht : transpose S256x256 [1, 0] w transposes_S256x256_S256x256_1_0 = t
  pointwise [pick]
  rw [hi, gather_at t r a b c k hr, ← ht]
  show transpose S256x256 [1, 0] w transposes_S256x256_S256x256_1_0 (ix2 k c) = _
  pointwise []

end

/-! ## The sums -/

theorem loss_at (x q : FVec Ideal S32x1024x256 .f32) :
    loss x q ix0 = lossFrom (∑ a : Fin 32, ∑ b : Fin 1024, ∑ k : Fin 256, (q (ix3 a b k) - x (ix3 a b k)) * (q (ix3 a b k) - x (ix3 a b k))) := by
  pointwise [loss, mse, lossFrom]

theorem perp_at (e : FVec Ideal S32768x256 .f32) : perp (share e) ix0 = perpFrom fun k => ∑ R : Fin 32768, e (ix2 R k) := by
  have h (k : Fin 256) : share e (ix1 k) = Ideal.div (∑ R : Fin 32768, e (ix2 R k)) (Ideal.ofBits .f32 0x47000000#32) := by
    pointwise [share]
  unfold perpFrom
  simp only [← h]
  generalize share e = p
  pointwise [perp]

end Cert.Proof.Ref
-- ==== Proof.Equal.lean ====
/-
  The kernel's results and the reference's are equal, element by element, at finite inputs.
-/
module

public import proofs.«01_k».proof.Proof.Ideal.Rows
public import proofs.«01_k».proof.Proof.Ref.Rows

@[expose] public section

set_option maxRecDepth 16384

noncomputable section

namespace Cert.Proof

open Idealize.ShloMosaic

local notation "SX" => (⟨3, ![32, 1024, 256]⟩ : Shape)
local notation "SW" => (⟨2, ![256, 256]⟩ : Shape)
local notation "SF" => (⟨2, ![32768, 256]⟩ : Shape)
local notation "SI" => (⟨2, ![32, 1024]⟩ : Shape)
local notation "S0" => (⟨0, ![]⟩ : Shape)

section
variable (x : FVec Ideal SX .f32) (w : FVec Ideal SW .f32)

/-- The input's flat rows. -/
theorem flat_row (a : Fin 32) (b : Fin 1024) (k : Fin 256) : Ref.flat x (ix2 (rowNumber a b) k) = x (ix3 a b k) := by
  pointwise [Ref.flat]
  have ha := a.isLt
  have hb := b.isLt
  refine congrArg x ?_
  congr 1
  · exact Fin.ext (by show (a.val * 1024 + b.val) / 1024 = a.val; omega)
  · exact Fin.ext (by show (a.val * 1024 + b.val) % 1024 = b.val; omega)

/-- The code of the row `(a, b)`. -/
abbrev codeAt (f : FVec Ideal SF .f32) (a : Fin 32) (b : Fin 1024) : Fin 256 := codeOf w (Ref.rowAt f (rowNumber a b))

/-! ## The encodings and the indices -/

theorem enc_eq (f : FVec Ideal SF .f32) (i : IVec ⟨1, ![32768]⟩ 32) (hi : ∀ R, i (ix1 R) = Ref.word (codeOf w (Ref.rowAt f R))) :
    Ideal.eAll (F := Ideal) w f = Ref.enc i := by
  funext j
  rw [eq_ix2 j]
  exact (Ideal.eAll_at w f (j 0) (j 1)).trans (Ref.enc_at i (j 0) (codeOf w (Ref.rowAt f (j 0))) (j 1) (hi (j 0))).symm

theorem cast_rows (i : IVec ⟨1, ![32768]⟩ 32) (h : (⟨1, ![32768]⟩ : Shape).ShapeCasts SI) (a : Fin 32) (b : Fin 1024) :
    shapeCast SI i h (ix2 a b) = i (ix1 (rowNumber a b)) := by
  pointwise []
  rfl
theorem cast_column (i : IVec ⟨2, ![32768, 1]⟩ 32) (h : (⟨2, ![32768, 1]⟩ : Shape).ShapeCasts SI) (a : Fin 32) (b : Fin 1024) :
    shapeCast SI i h (ix2 a b) = i (ix2 (rowNumber a b) 0) := by
  pointwise []
  rfl
theorem cast_cube (q : FVec Ideal SF .f32) (h : (SF).ShapeCasts SX) (a : Fin 32) (b : Fin 1024) (k : Fin 256) :
    shapeCast SX q h (ix3 a b k) = q (ix2 (rowNumber a b) k) := by
  pointwise []
  rfl
theorem transpose_at (h : (SW).Transposes [1, 0] SW) (k c : Fin 256) : transpose SW [1, 0] w h (ix2 k c) = w (ix2 c k) := by
  pointwise []

theorem idx_eq (f : FVec Ideal SF .f32) (i : IVec ⟨1, ![32768]⟩ 32) (hi : ∀ R, i (ix1 R) = Ref.word (codeOf w (Ref.rowAt f R)))
    (h : (⟨2, ![32768, 1]⟩ : Shape).ShapeCasts SI) (h' : (⟨1, ![32768]⟩ : Shape).ShapeCasts SI) :
    shapeCast SI (Ideal.iAll (F := Ideal) w f) h = shapeCast SI i h' := by
  funext j
  rw [eq_ix2 j]
  exact (cast_column _ h (j 0) (j 1)).trans ((Ideal.iAll_at w f (rowNumber (j 0) (j 1))).trans ((hi _).symm.trans (cast_rows i h' (j 0) (j 1)).symm))

/-! ## The quantised rows -/

theorem take_eq (f : FVec Ideal SF .f32) (i : IVec ⟨1, ![32768]⟩ 32) (hi : ∀ R, i (ix1 R) = Ref.word (codeOf w (Ref.rowAt f R)))
    (h' : (⟨1, ![32768]⟩ : Shape).ShapeCasts SI) (a : Fin 32) (b : Fin 1024) (k : Fin 256) :
    Ref.take w (shapeCast SI i h') (ix3 a b k) = w (ix2 k (codeAt w f a b)) :=
  Ref.take_at w _ a b k _ ((cast_rows i h' a b).trans (hi _))

theorem q_eq (f : FVec Ideal SF .f32) (t : FVec Ideal SX .f32) (ht : ∀ a b k, t (ix3 a b k) = w (ix2 k (codeAt w f a b)))
    (hx : ∀ i, x i ≠ (⊤ : EReal) ∧ x i ≠ (⊥ : EReal)) (h : (SW).Transposes [1, 0] SW) (h' : (SF).ShapeCasts SX) :
    shapeCast SX (Ideal.qAll (F := Ideal) w (transpose SW [1, 0] w h) f) h' = Ref.straight x t := by
  funext j
  rw [eq_ix3 j]
  refine (cast_cube _ h' (j 0) (j 1) (j 2)).trans ((Ideal.qAll_at w _ f (rowNumber (j 0) (j 1)) (j 2)).trans ((transpose_at w h _ _).trans ?_))
  refine (ht (j 0) (j 1) (j 2)).symm.trans ?_
  show t (ix3 (j 0) (j 1) (j 2)) = (x (ix3 (j 0) (j 1) (j 2)) + (t (ix3 (j 0) (j 1) (j 2)) - x (ix3 (j 0) (j 1) (j 2))) : EReal)
  exact (add_sub_self _ _ (hx _).1 (hx _).2).symm

/-! ## The loss and the perplexity -/

theorem sse_eq (f : FVec Ideal SF .f32) (hf : ∀ a b k, f (ix2 (rowNumber a b) k) = x (ix3 a b k))
    (t : FVec Ideal SX .f32) (ht : ∀ a b k, t (ix3 a b k) = w (ix2 k (codeAt w f a b)))
    (hx : ∀ i, x i ≠ (⊤ : EReal) ∧ x i ≠ (⊥ : EReal)) (hw : ∀ i, w i ≠ (⊤ : EReal) ∧ w i ≠ (⊥ : EReal)) :
    (∑ R : Fin 32768, distTo w (Ref.rowAt f R) (codeOf w (Ref.rowAt f R)) : EReal)
      = ∑ a : Fin 32, ∑ b : Fin 1024, ∑ k : Fin 256, (t (ix3 a b k) - x (ix3 a b k)) * (t (ix3 a b k) - x (ix3 a b k)) := by
  rw [sum_rows]
  refine Finset.sum_congr rfl fun a _ => Finset.sum_congr rfl fun b _ => ?_
  have e : Ref.rowAt f (rowNumber a b) = fun k => x (ix3 a b k) := funext fun k => hf a b k
  refine (distTo_finite w _ hw (fun k => by rw [e]; exact hx _) _).trans (Finset.sum_congr rfl fun k _ => ?_)
  rw [ht a b k]
  exact congrArg (fun y : EReal => (w (ix2 k (codeAt w f a b)) - y) * (w (ix2 k (codeAt w f a b)) - y)) (hf a b k)

theorem cast_one (v : FVec Ideal ⟨2, ![1, 1]⟩ .f32) (h : (⟨2, ![1, 1]⟩ : Shape).ShapeCasts S0) : shapeCast S0 v h ix0 = v (ix2 0 0) := by
  pointwise []

theorem loss_eq (f : FVec Ideal SF .f32) (t : FVec Ideal SX .f32) (h : (⟨2, ![1, 1]⟩ : Shape).ShapeCasts S0)
    (e : (∑ R : Fin 32768, distTo w (Ref.rowAt f R) (codeOf w (Ref.rowAt f R)) : EReal)
      = ∑ a : Fin 32, ∑ b : Fin 1024, ∑ k : Fin 256, (t (ix3 a b k) - x (ix3 a b k)) * (t (ix3 a b k) - x (ix3 a b k))) :
    shapeCast S0 (Ideal.lossOf (F := Ideal) (Ideal.sseAt (F := Ideal) w f 8)) h = Ref.loss x t := by
  funext j
  rw [← ix0_eta j]
  refine (cast_one _ h).trans ((Ideal.lossOf_at _).trans (Eq.trans ?_ (Ref.loss_at x t).symm))
  exact congrArg lossFrom ((Ideal.sse_at w f 0).trans e)

theorem perp_eq (f : FVec Ideal SF .f32) (h : (⟨2, ![1, 1]⟩ : Shape).ShapeCasts S0) (e : FVec Ideal SF .f32) (he : Ideal.eAll (F := Ideal) w f = e) :
    shapeCast S0 (Ideal.perpOf (F := Ideal) (Ideal.histAt (F := Ideal) w f 8)) h = Ref.perp (Ref.share e) := by
  funext j
  rw [← ix0_eta j]
  refine (cast_one _ h).trans ((Ideal.perpOf_at _).trans (Eq.trans ?_ (Ref.perp_at e).symm))
  refine congrArg perpFrom (funext fun k => (Ideal.hist_at w f k).trans (Finset.sum_congr rfl fun R _ => ?_))
  rw [← he]
  exact (Ideal.eAll_at w f R k).symm
end

/-- The reference's indices are the codes. -/
theorem idxOf_at (x : FVec Ideal SX .f32) (w : FVec Ideal SW .f32) (R : Fin 32768) : Ref.idxOf x w (ix1 R) = Ref.word (codeOf w (Ref.rowAt (Ref.flat x) R)) :=
  Ref.idx_dist_at w (Ref.flat x) R

end Cert.Proof
-- ==== Proof.Ideal.RunValues.lean ====
/-
  The run, with the contents of every array it leaves.
-/
module

public import proofs.«01_k».proof.Proof.Ideal.Launch

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]
local notation "𝕄" => MT nD τ sig Unit (Elt F) ℕ (UU nD τ) ℕ

section
variable (m : (ℓ : Loc nD τ sig) → Buf (Elt F) ℓ) (ρ : Dev nD → PrngReg)

set_option backward.isDefEq.respectTransparency.types false in
/-- Every weakly fair execution terminates with each unscoped array at the last valuation. -/
theorem run_values : θ_run (defs (F := F)) (onTc (τ := τ) (main (F := F))) ⟨m, fun _ => 0, ρ⟩ (fun r => ∀ c : Dev nD,
    ∀ b ∈ Pipeline.ucRefs τ sig, r.2.mem ((c.tc : Thread nD τ).1, b) = W4 m c b) := by
  refine Pipeline.θ_run_regions_kit_dev_sems (pcfgs (F := F)) adm (dats m) () cellOf_inj EP defs₀ 𝒱₀ LL lv m ρ main
    (segs m (outs m) 𝒱₀ LL lv EE () (dats m) (R0 m) (R1 m))
    (fun c Q => by
      rewrite [main_chain c, Seg.run_eq_chain,
        show (segs m (outs m) 𝒱₀ LL lv EE () (dats m) (R0 m) (R1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) off_tc (fun _ => iprop(emp)) u₀ launch_own
    (T₀ := fun c => iprop(StableHlo.held (c : Thread nD τ) (Pipeline.ucRefs τ sig) (V0 m c) ∗ EE 0 c))
    (Tₙ := fun c => StableHlo.held (c : Thread nD τ) (Pipeline.ucRefs τ sig) (V4 m (outs m) c))
    (hch := fun c => ⟨.rfl, pre0 m c, (post0 m c).trans (pre1 m c), post1 m c, sep_mono .rfl (by iintro ⟨-, O⟩; iexact O)⟩)
    (hinit := ?_) (QY := fun c s => ∀ b ∈ Pipeline.ucRefs τ sig, s.mem ((c.tc : Thread nD τ).1, b) = W4 m c b)
    (hfin := fun c s' => ?_) (hQ := fun _ h _ => h)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp 𝕄) := by
      rw [← bigSep_sep']
      exact bigSep_mono fun c _ => by rw [← Pipeline.unscopedBufs_held c (V0 m c)]; exact BI.Entails.refl _
    have hjoin : (iprop((bigSep Finset.univ fun c : Dev nD => StableHlo.held (c : Thread nD τ) (Pipeline.ucRefs τ sig) (V0 m c)) ∗ bigSep Finset.univ (EE (F := F) 0)) : sProp 𝕄)
        ⊢ bigSep Finset.univ fun c : Dev nD => iprop(StableHlo.held (c : Thread nD τ) (Pipeline.ucRefs τ sig) (V0 m c) ∗ EE (F := F) 0 c) := by
      rw [bigSep_sep' Finset.univ (fun c : Dev nD => StableHlo.held (c : Thread nD τ) (Pipeline.ucRefs τ sig) (V0 m c))]
    iintro ⟨H, Hla⟩
    ihave H' := hsplit $$ H
    icases H' with ⟨Hh, Hr⟩
    imod launch_rest ρ $$ [Hr Hla] with HE
    · isplitl [Hr]; · iexact Hr
      iexact Hla
    imodintro
    iapply hjoin
    isplitl [Hh]; · iexact Hh
    iexact HE
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro; exact h
    · iexact HSI

/-! ## The five results -/

abbrev argX (c : Dev nD) : Vec F S32x1024x256 .f32 := m ((c.tc : Thread nD τ).loc main_arg0)
abbrev argW (c : Dev nD) : Vec F S256x256 .f32 := m ((c.tc : Thread nD τ).loc main_arg1)
/-- The flat rows and the transposed codebook. -/
abbrev rowsX (c : Dev nD) : Vec F S32768x256 .f32 := shapeCast S32768x256 (argX m c) shapeCasts_S32x1024x256_S32768x256
abbrev codesT (c : Dev nD) : Vec F S256x256 .f32 := transpose S256x256 [1, 0] (argW m c) transposes_S256x256_S256x256_1_0

theorem opX_eq (c : Dev nD) : opX (W1 m) c = rowsX m c := by
  show StableHlo.after hostOps0 (V0 m c) main_v0 = _
  after_results
  rfl
theorem opT_eq (c : Dev nD) : opT (W1 m) c = codesT m c := by
  show StableHlo.after hostOps0 (V0 m c) main_v1 = _
  after_results
theorem opW_eq (c : Dev nD) : opW (W1 m) c = argW m c := (V1_of m c main_arg1 (by decide)).trans rfl

/-- The contents of the five results. -/
abbrev qRes (c : Dev nD) : Vec F S32x1024x256 .f32 := shapeCast S32x1024x256 (qAll (argW m c) (codesT m c) (rowsX m c)) shapeCasts_S32768x256_S32x1024x256
abbrev lossRes (c : Dev nD) : Vec F S_ .f32 := shapeCast S_ (lossOf (sseAt (argW m c) (rowsX m c) 8)) shapeCasts_S1x1_S_
abbrev perpRes (c : Dev nD) : Vec F S_ .f32 := shapeCast S_ (perpOf (histAt (argW m c) (rowsX m c) 8)) shapeCasts_S1x1_S_
abbrev eRes (c : Dev nD) : Vec F S32768x256 .f32 := eAll (argW m c) (rowsX m c)
abbrev iRes (c : Dev nD) : Vec F S32x1024 .i32 := shapeCast S32x1024 (iAll (argW m c) (rowsX m c)) shapeCasts_S32768x1_S32x1024

theorem W4_v4 (c : Dev nD) : W4 m c main_v4 = qRes m c := by
  have h : W4 m c main_v4 = shapeCast S32x1024x256 (W3 m c main_v2_0) shapeCasts_S32768x256_S32x1024x256 := by
    show StableHlo.after hostOps2 (W3 m c) main_v4 = _
    after_results
    rfl
  rw [h, W3_of m c main_v2_0 (by decide), W2_v2_0, outQ, opX_eq, opT_eq, opW_eq]
theorem W4_v5 (c : Dev nD) : W4 m c main_v5 = lossRes m c := by
  have h : W4 m c main_v5 = shapeCast S_ (W3 m c main_v3_0) shapeCasts_S1x1_S_ := by
    show StableHlo.after hostOps2 (W3 m c) main_v5 = _
    after_results
    rfl
  rw [h, W3_v3_0, outSse, opX_eq, opW_eq]
theorem W4_v6 (c : Dev nD) : W4 m c main_v6 = perpRes m c := by
  have h : W4 m c main_v6 = shapeCast S_ (W3 m c main_v3_1) shapeCasts_S1x1_S_ := by
    show StableHlo.after hostOps2 (W3 m c) main_v6 = _
    after_results
    rfl
  rw [h, W3_v3_1, outHist, opX_eq, opW_eq]
theorem W4_v7 (c : Dev nD) : W4 m c main_v7 = iRes m c := by
  have h : W4 m c main_v7 = shapeCast S32x1024 (W3 m c main_v2_2) shapeCasts_S32768x1_S32x1024 := by
    show StableHlo.after hostOps2 (W3 m c) main_v7 = _
    after_results
    rfl
  rw [h, W3_of m c main_v2_2 (by decide), W2_v2_2, outI, opX_eq, opW_eq]
theorem W4_v2_1 (c : Dev nD) : W4 m c main_v2_1 = eRes m c := by
  rw [W4_of m c main_v2_1 (by decide), W3_of m c main_v2_1 (by decide), W2_v2_1, outE, opX_eq, opW_eq]

/-- Every weakly fair execution terminates with the results at these contents. -/
theorem run_results : θ_run (defs (F := F)) (onTc (τ := τ) (main (F := F))) ⟨m, fun _ => 0, ρ⟩ (fun r => ∀ c : Dev nD,
    r.2.mem ((c.tc : Thread nD τ).loc main_v4) = qRes m c ∧ r.2.mem ((c.tc : Thread nD τ).loc main_v5) = lossRes m c
    ∧ r.2.mem ((c.tc : Thread nD τ).loc main_v6) = perpRes m c ∧ r.2.mem ((c.tc : Thread nD τ).loc main_v2_1) = eRes m c
    ∧ r.2.mem ((c.tc : Thread nD τ).loc main_v7) = iRes m c) := by
  refine (θ_run defs _ _).mono (fun r h c => ?_) (run_values m ρ)
  refine ⟨?_, ?_, ?_, ?_, ?_⟩
  · exact (h c (Proc.devRef .tc main_v4) (Finset.mem_filter.mpr ⟨StableHlo.devRef_mem_tcRefs main_v4, by decide⟩)).trans (W4_v4 m c)
  · exact (h c (Proc.devRef .tc main_v5) (Finset.mem_filter.mpr ⟨StableHlo.devRef_mem_tcRefs main_v5, by decide⟩)).trans (W4_v5 m c)
  · exact (h c (Proc.devRef .tc main_v6) (Finset.mem_filter.mpr ⟨StableHlo.devRef_mem_tcRefs main_v6, by decide⟩)).trans (W4_v6 m c)
  · exact (h c (Proc.devRef .tc main_v2_1) (Finset.mem_filter.mpr ⟨StableHlo.devRef_mem_tcRefs main_v2_1, by decide⟩)).trans (W4_v2_1 m c)
  · exact (h c (Proc.devRef .tc main_v7) (Finset.mem_filter.mpr ⟨StableHlo.devRef_mem_tcRefs main_v7, by decide⟩)).trans (W4_v7 m c)
end

end Cert.Proof.Ideal
-- ==== Proof.Ref.Run.lean ====
/-
  The reference's run: its operations in nine stretches, what each leaves, and so what the whole leaves.
-/
module

public import proofs.«01_k».proof.Proof.Ref.Terms
public import Idealize.ShloMosaic.Lib.Pipeline.Frame

@[expose] public section

set_option maxRecDepth 16384

noncomputable section

namespace Cert.Proof.Ref

open Cert.ReferenceIdeal Cert.ReferenceIdeal.Gen
open Idealize.ShloMosaic Idealize.SL.Sem

/-- The operations of the distances. -/
abbrev stA {F : FTy → Type} [FloatOps F] : List (HloOp τ sig (Elt F)) :=
  [ StableHlo.reshape main_arg0 main_v0 (rfl : (.f32 : EltTy) = .f32) shapeCasts_S32x1024x256_S32768x256,
    StableHlo.binary main_v0 main_v0 main_v1 (mulf : (⟨S32768x256, .f32⟩ : BufTy).Contents (Elt F) → (⟨S32768x256, .f32⟩ : BufTy).Contents (Elt F) → (⟨S32768x256, .f32⟩ : BufTy).Contents (Elt F)),
    StableHlo.nullary main_cst (constant S_ .f32 0x00000000#32),
    StableHlo.binary main_v1 main_cst main_v2 ((fun x v => Host.reduceAdd x v reducesTo_S32768x256_S32768_d1 h_S_) : (⟨S32768x256, .f32⟩ : BufTy).Contents (Elt F) → (⟨S_, .f32⟩ : BufTy).Contents (Elt F) → (⟨S32768, .f32⟩ : BufTy).Contents (Elt F)),
    StableHlo.unary main_v2 main_v3 (broadcastInDim S32768x1 ![0] bcast_S32768_S32768x1_0 : (⟨S32768, .f32⟩ : BufTy).Contents (Elt F) → (⟨S32768x1, .f32⟩ : BufTy).Contents (Elt F)),
    StableHlo.binary main_v0 main_arg1 main_v4 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    StableHlo.nullary main_cst_0 (constant S_ .f32 0x40000000#32),
    StableHlo.unary main_cst_0 main_v5 (broadcastInDim S32768x256 ![] bcast_S_S32768x256 : (⟨S_, .f32⟩ : BufTy).Contents (Elt F) → (⟨S32768x256, .f32⟩ : BufTy).Contents (Elt F)),
    StableHlo.binary main_v5 main_v4 main_v6 (mulf : (⟨S32768x256, .f32⟩ : BufTy).Contents (Elt F) → (⟨S32768x256, .f32⟩ : BufTy).Contents (Elt F) → (⟨S32768x256, .f32⟩ : BufTy).Contents (Elt F)),
    StableHlo.unary main_v3 main_v7 (broadcastInDim S32768x256 ![0, 1] bcast_S32768x1_S32768x256_0_1 : (⟨S32768x1, .f32⟩ : BufTy).Contents (Elt F) → (⟨S32768x256, .f32⟩ : BufTy).Contents (Elt F)),
    StableHlo.binary main_v7 main_v6 main_v8 (subf : (⟨S32768x256, .f32⟩ : BufTy).Contents (Elt F) → (⟨S32768x256, .f32⟩ : BufTy).Contents (Elt F) → (⟨S32768x256, .f32⟩ : BufTy).Contents (Elt F)),
    StableHlo.binary main_arg1 main_arg1 main_v9 (mulf : (⟨S256x256, .f32⟩ : BufTy).Contents (Elt F) → (⟨S256x256, .f32⟩ : BufTy).Contents (Elt F) → (⟨S256x256, .f32⟩ : BufTy).Contents (Elt F)),
    StableHlo.nullary main_cst_1 (constant S_ .f32 0x00000000#32),
    StableHlo.binary main_v9 main_cst_1 main_v10 ((fun x v => Host.reduceAdd x v reducesTo_S256x256_S256_d0 h_S_) : (⟨S256x256, .f32⟩ : BufTy).Contents (Elt F) → (⟨S_, .f32⟩ : BufTy).Contents (Elt F) → (⟨S256, .f32⟩ : BufTy).Contents (Elt F)),
    StableHlo.unary main_v10 main_v11 (broadcastInDim S1x256 ![1] bcast_S256_S1x256_1 : (⟨S256, .f32⟩ : BufTy).Contents (Elt F) → (⟨S1x256, .f32⟩ : BufTy).Contents (Elt F)),
    StableHlo.unary main_v11 main_v12 (broadcastInDim S32768x256 ![0, 1] bcast_S1x256_S32768x256_0_1 : (⟨S1x256, .f32⟩ : BufTy).Contents (Elt F) → (⟨S32768x256, .f32⟩ : BufTy).Contents (Elt F)),
    StableHlo.binary main_v8 main_v12 main_v13 (addf : (⟨S32768x256, .f32⟩ : BufTy).Contents (Elt F) → (⟨S32768x256, .f32⟩ : BufTy).Contents (Elt F) → (⟨S32768x256, .f32⟩ : BufTy).Contents (Elt F)) ]

theorem subA : (stA (F := Ideal)).Forall fun op => op.bufs ⊆ StableHlo.tcRefs τ sig := by simp [stA, StableHlo.TRef.nullary, StableHlo.TRef.unary, StableHlo.TRef.binary, StableHlo.TRef.ternary]
theorem freshA : ∀ op ∈ stA (F := Ideal), op.fresh = ∅ := by
  intro _ h; (repeat (cases h with | head => rfl | tail _ h => ?_)); exact nomatch h

/-- They write these buffers, and no other. -/
abbrev wrA : List (Ref sig .tc) := [main_v0, main_v1, main_cst, main_v2, main_v3, main_v4, main_cst_0, main_v5, main_v6, main_v7, main_v8, main_v9, main_cst_1, main_v10, main_v11, main_v12, main_v13]
theorem keepA (V : Valuation τ sig (Elt Ideal)) {r : Ref sig .tc} (hr : r ∉ wrA) : StableHlo.after stA V (Proc.devRef .tc r) = V (Proc.devRef .tc r) :=
  StableHlo.after_of_writes_sub stA V (StableHlo.forall_writes_sub_of_map rfl) hr

/-- The operations of the least of each row. -/
abbrev stB {F : FTy → Type} [FloatOps F] : List (HloOp τ sig (Elt F)) :=
  [ StableHlo.TRef.nullary (.of main_call0_v0 : StableHlo.TRef sig ⟨S32768x256, .i32⟩) (iotaInDim S32768x256 32 1),
    StableHlo.TRef.nullary (.of main_call0_cst : StableHlo.TRef sig ⟨S_, .f32⟩) (constant S_ .f32 0x7F800000#32),
    StableHlo.TRef.nullary (.of main_call0_c : StableHlo.TRef sig ⟨S_, .i32⟩) (constantI S_ 32 0#32),
    StableHlo.TRef.quaternary (.of main_v13 : StableHlo.TRef sig ⟨S32768x256, .f32⟩) (.of main_call0_v0 : StableHlo.TRef sig ⟨S32768x256, .i32⟩) (.of main_call0_cst : StableHlo.TRef sig ⟨S_, .f32⟩) (.of main_call0_c : StableHlo.TRef sig ⟨S_, .i32⟩) (.of main_call0_v1_0 : StableHlo.TRef sig ⟨S32768, .f32⟩) (fun x y u v j => (Host.argReduce reducer_argmin_f32_i32 x y u v reducesTo_S32768x256_S32768_d1 h_S_ j).1),
    StableHlo.TRef.quaternary (.of main_v13 : StableHlo.TRef sig ⟨S32768x256, .f32⟩) (.of main_call0_v0 : StableHlo.TRef sig ⟨S32768x256, .i32⟩) (.of main_call0_cst : StableHlo.TRef sig ⟨S_, .f32⟩) (.of main_call0_c : StableHlo.TRef sig ⟨S_, .i32⟩) (.of main_v14 : StableHlo.TRef sig ⟨S32768, .i32⟩) (fun x y u v j => (Host.argReduce reducer_argmin_f32_i32 x y u v reducesTo_S32768x256_S32768_d1 h_S_ j).2) ]

theorem subB : (stB (F := Ideal)).Forall fun op => op.bufs ⊆ StableHlo.tcRefs τ sig := by simp [stB, StableHlo.TRef.nullary, StableHlo.TRef.unary, StableHlo.TRef.binary, StableHlo.TRef.ternary]
theorem freshB : ∀ op ∈ stB (F := Ideal), op.fresh = ∅ := by
  intro _ h; (repeat (cases h with | head => rfl | tail _ h => ?_)); exact nomatch h

/-- They write these buffers, and no other. -/
abbrev wrB : List (Ref sig .tc) := [main_call0_v0, main_call0_cst, main_call0_c, main_call0_v1_0, main_v14]
theorem keepB (V : Valuation τ sig (Elt Ideal)) {r : Ref sig .tc} (hr : r ∉ wrB) : StableHlo.after stB V (Proc.devRef .tc r) = V (Proc.devRef .tc r) :=
  StableHlo.after_of_writes_sub stB V (StableHlo.forall_writes_sub_of_map rfl) hr

/-- The operations of the encodings. -/
abbrev stC {F : FTy → Type} [FloatOps F] : List (HloOp τ sig (Elt F)) :=
  [ StableHlo.TRef.unary (.of main_v14 : StableHlo.TRef sig ⟨S32768, .i32⟩) (.of main_call1_v0 : StableHlo.TRef sig ⟨S32768x1, .i32⟩) (broadcastInDim S32768x1 ![0] bcast_S32768_S32768x1_0),
    StableHlo.TRef.nullary (.of main_call1_v1 : StableHlo.TRef sig ⟨S1x256, .i32⟩) (iotaInDim S1x256 32 1),
    StableHlo.TRef.unary (.of main_call1_v0 : StableHlo.TRef sig ⟨S32768x1, .i32⟩) (.of main_call1_v2 : StableHlo.TRef sig ⟨S32768x256, .i32⟩) (broadcastInDim S32768x256 ![0, 1] bcast_S32768x1_S32768x256_0_1),
    StableHlo.TRef.unary (.of main_call1_v1 : StableHlo.TRef sig ⟨S1x256, .i32⟩) (.of main_call1_v3 : StableHlo.TRef sig ⟨S32768x256, .i32⟩) (broadcastInDim S32768x256 ![0, 1] bcast_S1x256_S32768x256_0_1),
    StableHlo.TRef.binary (.of main_call1_v2 : StableHlo.TRef sig ⟨S32768x256, .i32⟩) (.of main_call1_v3 : StableHlo.TRef sig ⟨S32768x256, .i32⟩) (.of main_call1_v4 : StableHlo.TRef sig ⟨S32768x256, .i1⟩) (cmpi .eq),
    StableHlo.TRef.unary (.of main_call1_v4 : StableHlo.TRef sig ⟨S32768x256, .i1⟩) (.of main_v15 : StableHlo.TRef sig ⟨S32768x256, .f32⟩) (uitofp .f32) ]

theorem subC : (stC (F := Ideal)).Forall fun op => op.bufs ⊆ StableHlo.tcRefs τ sig := by simp [stC, StableHlo.TRef.nullary, StableHlo.TRef.unary, StableHlo.TRef.binary, StableHlo.TRef.ternary]
theorem freshC : ∀ op ∈ stC (F := Ideal), op.fresh = ∅ := by
  intro _ h; (repeat (cases h with | head => rfl | tail _ h => ?_)); exact nomatch h

/-- They write these buffers, and no other. -/
abbrev wrC : List (Ref sig .tc) := [main_call1_v0, main_call1_v1, main_call1_v2, main_call1_v3, main_call1_v4, main_v15]
theorem keepC (V : Valuation τ sig (Elt Ideal)) {r : Ref sig .tc} (hr : r ∉ wrC) : StableHlo.after stC V (Proc.devRef .tc r) = V (Proc.devRef .tc r) :=
  StableHlo.after_of_writes_sub stC V (StableHlo.forall_writes_sub_of_map rfl) hr

/-- The operations of the indices and the codes. -/
abbrev stD {F : FTy → Type} [FloatOps F] : List (HloOp τ sig (Elt F)) :=
  [ StableHlo.reshape main_v14 main_v16 (rfl : (.i32 : EltTy) = .i32) shapeCasts_S32768_S32x1024,
    StableHlo.unary main_arg1 main_v17 ((transpose S256x256 [1, 0] · transposes_S256x256_S256x256_1_0) : (⟨S256x256, .f32⟩ : BufTy).Contents (Elt F) → (⟨S256x256, .f32⟩ : BufTy).Contents (Elt F)) ]

theorem subD : (stD (F := Ideal)).Forall fun op => op.bufs ⊆ StableHlo.tcRefs τ sig := by simp [stD, StableHlo.TRef.nullary, StableHlo.TRef.unary, StableHlo.TRef.binary, StableHlo.TRef.ternary]
theorem freshD : ∀ op ∈ stD (F := Ideal), op.fresh = ∅ := by
  intro _ h; (repeat (cases h with | head => rfl | tail _ h => ?_)); exact nomatch h

/-- They write these buffers, and no other. -/
abbrev wrD : List (Ref sig .tc) := [main_v16, main_v17]
theorem keepD (V : Valuation τ sig (Elt Ideal)) {r : Ref sig .tc} (hr : r ∉ wrD) : StableHlo.after stD V (Proc.devRef .tc r) = V (Proc.devRef .tc r) :=
  StableHlo.after_of_writes_sub stD V (StableHlo.forall_writes_sub_of_map rfl) hr

/-- The operations of the row numbers. -/
abbrev stI {F : FTy → Type} [FloatOps F] : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S32x1024, .i32⟩) (broadcastInDim S32x1024 ![] bcast_S_S32x1024),
    StableHlo.TRef.binary (.of main_v16 : StableHlo.TRef sig ⟨S32x1024, .i32⟩) (.of main_call2_v0 : StableHlo.TRef sig ⟨S32x1024, .i32⟩) (.of main_call2_v1 : StableHlo.TRef sig ⟨S32x1024, .i1⟩) (cmpi .slt),
    StableHlo.TRef.nullary (.of main_call2_c_0 : StableHlo.TRef sig ⟨S_, .i32⟩) (constantI S_ 32 256#32),
    StableHlo.TRef.unary (.of main_call2_c_0 : StableHlo.TRef sig ⟨S_, .i32⟩) (.of main_call2_v2 : StableHlo.TRef sig ⟨S32x1024, .i32⟩) (broadcastInDim S32x1024 ![] bcast_S_S32x1024),
    StableHlo.TRef.binary (.of main_v16 : StableHlo.TRef sig ⟨S32x1024, .i32⟩) (.of main_call2_v2 : StableHlo.TRef sig ⟨S32x1024, .i32⟩) (.of main_call2_v3 : StableHlo.TRef sig ⟨S32x1024, .i32⟩) addi,
    StableHlo.TRef.ternary (.of main_call2_v1 : StableHlo.TRef sig ⟨S32x1024, .i1⟩) (.of main_call2_v3 : StableHlo.TRef sig ⟨S32x1024, .i32⟩) (.of main_v16 : StableHlo.TRef sig ⟨S32x1024, .i32⟩) (.of main_call2_v4 : StableHlo.TRef sig ⟨S32x1024, .i32⟩) select,
    StableHlo.TRef.unary (.of main_call2_v4 : StableHlo.TRef sig ⟨S32x1024, .i32⟩) (.of main_call2_v5 : StableHlo.TRef sig ⟨S32x1024x1, .i32⟩) (broadcastInDim S32x1024x1 ![0, 1] bcast_S32x1024_S32x1024x1_0_1) ]

theorem subI : (stI (F := Ideal)).Forall fun op => op.bufs ⊆ StableHlo.tcRefs τ sig := by simp [stI, StableHlo.TRef.nullary, StableHlo.TRef.unary, StableHlo.TRef.binary, StableHlo.TRef.ternary]
theorem freshI : ∀ op ∈ stI (F := Ideal), op.fresh = ∅ := by
  intro _ h; (repeat (cases h with | head => rfl | tail _ h => ?_)); exact nomatch h

/-- They write these buffers, and no other. -/
abbrev wrI : List (Ref sig .tc) := [main_call2_c, main_call2_v0, main_call2_v1, main_call2_c_0, main_call2_v2, main_call2_v3, main_call2_v4, main_call2_v5]
theorem keepI (V : Valuation τ sig (Elt Ideal)) {r : Ref sig .tc} (hr : r ∉ wrI) : StableHlo.after stI V (Proc.devRef .tc r) = V (Proc.devRef .tc r) :=
  StableHlo.after_of_writes_sub stI V (StableHlo.forall_writes_sub_of_map rfl) hr

/-- The operations of the test of the row numbers. -/
abbrev stJ {F : FTy → Type} [FloatOps F] : List (HloOp τ sig (Elt F)) :=
  [ StableHlo.TRef.nullary (.of main_call2_c_1 : StableHlo.TRef sig ⟨S1, .i32⟩) (constantI S1 32 255#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S32x1024x1, .i32⟩) (broadcastInDim S32x1024x1 ![] bcast_S_S32x1024x1),
    StableHlo.TRef.binary (.of main_call2_v5 : StableHlo.TRef sig ⟨S32x1024x1, .i32⟩) (.of main_call2_v6 : StableHlo.TRef sig ⟨S32x1024x1, .i32⟩) (.of main_call2_v7 : StableHlo.TRef sig ⟨S32x1024x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S32x1024x1, .i32⟩) (broadcastInDim S32x1024x1 ![0, 1, 2] bcast_S1x1x1_S32x1024x1_0_1_2),
    StableHlo.TRef.binary (.of main_call2_v5 : StableHlo.TRef sig ⟨S32x1024x1, .i32⟩) (.of main_call2_v9 : StableHlo.TRef sig ⟨S32x1024x1, .i32⟩) (.of main_call2_v10 : StableHlo.TRef sig ⟨S32x1024x1, .i1⟩) (cmpi .sle),
    StableHlo.TRef.binary (.of main_call2_v7 : StableHlo.TRef sig ⟨S32x1024x1, .i1⟩) (.of main_call2_v10 : StableHlo.TRef sig ⟨S32x1024x1, .i1⟩) (.of main_call2_v11 : StableHlo.TRef sig ⟨S32x1024x1, .i1⟩) andi,
    StableHlo.TRef.nullary (.of main_call2_c_3 : StableHlo.TRef sig ⟨S_, .i1⟩) (constantI S_ 1 1#1),
    StableHlo.TRef.binary (.of main_call2_v11 : StableHlo.TRef sig ⟨S32x1024x1, .i1⟩) (.of main_call2_c_3 : StableHlo.TRef sig ⟨S_, .i1⟩) (.of main_call2_v12 : StableHlo.TRef sig ⟨S32x1024, .i1⟩) (fun x v => Host.reduce IntOp.andi x v reducesTo_S32x1024x1_S32x1024_d2 h_S_) ]

theorem subJ : (stJ (F := Ideal)).Forall fun op => op.bufs ⊆ StableHlo.tcRefs τ sig := by simp [stJ, StableHlo.TRef.nullary, StableHlo.TRef.unary, StableHlo.TRef.binary, StableHlo.TRef.ternary]
theorem freshJ : ∀ op ∈ stJ (F := Ideal), op.fresh = ∅ := by
  intro _ h; (repeat (cases h with | head => rfl | tail _ h => ?_)); exact nomatch h

/-- They write these buffers, and no other. -/
abbrev wrJ : List (Ref sig .tc) := [main_call2_c_1, main_call2_c_2, main_call2_v6, main_call2_v7, main_call2_v8, main_call2_v9, main_call2_v10, main_call2_v11, main_call2_c_3, main_call2_v12]
theorem keepJ (V : Valuation τ sig (Elt Ideal)) {r : Ref sig .tc} (hr : r ∉ wrJ) : StableHlo.after stJ V (Proc.devRef .tc r) = V (Proc.devRef .tc r) :=
  StableHlo.after_of_writes_sub stJ V (StableHlo.forall_writes_sub_of_map rfl) hr

/-- The operations of the lookup. -/
abbrev stE {F : FTy → Type} [FloatOps F] : List (HloOp τ sig (Elt F)) :=
  [ StableHlo.TRef.binary (.of main_v17 : StableHlo.TRef sig ⟨S256x256, .f32⟩) (.of main_call2_v5 : StableHlo.TRef sig ⟨S32x1024x1, .i32⟩) (.of main_call2_v13 : StableHlo.TRef sig ⟨S32x1024x256, .f32⟩) (fun x i => Host.gather gather_S256x256_S32x1024x1_S32x1024x256_2_0_n_n_0_2_1256 x i),
    StableHlo.TRef.unary (.of main_call2_v12 : StableHlo.TRef sig ⟨S32x1024, .i1⟩) (.of main_call2_v14 : StableHlo.TRef sig ⟨S32x1024x256, .i1⟩) (broadcastInDim S32x1024x256 ![0, 1] bcast_S32x1024_S32x1024x256_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S32x1024x256, .f32⟩) (broadcastInDim S32x1024x256 ![] bcast_S_S32x1024x256),
    StableHlo.TRef.ternary (.of main_call2_v14 : StableHlo.TRef sig ⟨S32x1024x256, .i1⟩) (.of main_call2_v13 : StableHlo.TRef sig ⟨S32x1024x256, .f32⟩) (.of main_call2_v15 : StableHlo.TRef sig ⟨S32x1024x256, .f32⟩) (.of main_v18 : StableHlo.TRef sig ⟨S32x1024x256, .f32⟩) select ]

theorem subE : (stE (F := Ideal)).Forall fun op => op.bufs ⊆ StableHlo.tcRefs τ sig := by simp [stE, StableHlo.TRef.nullary, StableHlo.TRef.unary, StableHlo.TRef.binary, StableHlo.TRef.ternary]
theorem freshE : ∀ op ∈ stE (F := Ideal), op.fresh = ∅ := by
  intro _ h; (repeat (cases h with | head => rfl | tail _ h => ?_)); exact nomatch h

/-- They write these buffers, and no other. -/
abbrev wrE : List (Ref sig .tc) := [main_call2_v13, main_call2_v14, main_call2_cst, main_call2_v15, main_v18]
theorem keepE (V : Valuation τ sig (Elt Ideal)) {r : Ref sig .tc} (hr : r ∉ wrE) : StableHlo.after stE V (Proc.devRef .tc r) = V (Proc.devRef .tc r) :=
  StableHlo.after_of_writes_sub stE V (StableHlo.forall_writes_sub_of_map rfl) hr

/-- The operations of the loss and the rows passed on. -/
abbrev stF {F : FTy → Type} [FloatOps F] : List (HloOp τ sig (Elt F)) :=
  [ StableHlo.binary main_v18 main_arg0 main_v19 (subf : (⟨S32x1024x256, .f32⟩ : BufTy).Contents (Elt F) → (⟨S32x1024x256, .f32⟩ : BufTy).Contents (Elt F) → (⟨S32x1024x256, .f32⟩ : BufTy).Contents (Elt F)),
    StableHlo.binary main_v19 main_v19 main_v20 (mulf : (⟨S32x1024x256, .f32⟩ : BufTy).Contents (Elt F) → (⟨S32x1024x256, .f32⟩ : BufTy).Contents (Elt F) → (⟨S32x1024x256, .f32⟩ : BufTy).Contents (Elt F)),
    StableHlo.nullary main_cst_2 (constant S_ .f32 0x00000000#32),
    StableHlo.binary main_v20 main_cst_2 main_v21 ((fun x v => Host.reduceAdd x v reducesTo_S32x1024x256_S_d0_1_2 h_S_) : (⟨S32x1024x256, .f32⟩ : BufTy).Contents (Elt F) → (⟨S_, .f32⟩ : BufTy).Contents (Elt F) → (⟨S_, .f32⟩ : BufTy).Contents (Elt F)),
    StableHlo.nullary main_cst_3 (constant S_ .f32 0x4B000000#32),
    StableHlo.binary main_v21 main_cst_3 main_v22 (Host.divf : (⟨S_, .f32⟩ : BufTy).Contents (Elt F) → (⟨S_, .f32⟩ : BufTy).Contents (Elt F) → (⟨S_, .f32⟩ : BufTy).Contents (Elt F)),
    StableHlo.binary main_v18 main_arg0 main_v23 (subf : (⟨S32x1024x256, .f32⟩ : BufTy).Contents (Elt F) → (⟨S32x1024x256, .f32⟩ : BufTy).Contents (Elt F) → (⟨S32x1024x256, .f32⟩ : BufTy).Contents (Elt F)),
    StableHlo.binary main_v23 main_v23 main_v24 (mulf : (⟨S32x1024x256, .f32⟩ : BufTy).Contents (Elt F) → (⟨S32x1024x256, .f32⟩ : BufTy).Contents (Elt F) → (⟨S32x1024x256, .f32⟩ : BufTy).Contents (Elt F)),
    StableHlo.nullary main_cst_4 (constant S_ .f32 0x00000000#32),
    StableHlo.binary main_v24 main_cst_4 main_v25 ((fun x v => Host.reduceAdd x v reducesTo_S32x1024x256_S_d0_1_2 h_S_) : (⟨S32x1024x256, .f32⟩ : BufTy).Contents (Elt F) → (⟨S_, .f32⟩ : BufTy).Contents (Elt F) → (⟨S_, .f32⟩ : BufTy).Contents (Elt F)),
    StableHlo.nullary main_cst_5 (constant S_ .f32 0x4B000000#32),
    StableHlo.binary main_v25 main_cst_5 main_v26 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x3E800000#32),
    StableHlo.binary main_cst_6 main_v22 main_v27 (mulf : (⟨S_, .f32⟩ : BufTy).Contents (Elt F) → (⟨S_, .f32⟩ : BufTy).Contents (Elt F) → (⟨S_, .f32⟩ : BufTy).Contents (Elt F)),
    StableHlo.binary main_v26 main_v27 main_v28 (addf : (⟨S_, .f32⟩ : BufTy).Contents (Elt F) → (⟨S_, .f32⟩ : BufTy).Contents (Elt F) → (⟨S_, .f32⟩ : BufTy).Contents (Elt F)),
    StableHlo.binary main_v18 main_arg0 main_v29 (subf : (⟨S32x1024x256, .f32⟩ : BufTy).Contents (Elt F) → (⟨S32x1024x256, .f32⟩ : BufTy).Contents (Elt F) → (⟨S32x1024x256, .f32⟩ : BufTy).Contents (Elt F)),
    StableHlo.binary main_arg0 main_v29 main_v30 (addf : (⟨S32x1024x256, .f32⟩ : BufTy).Contents (Elt F) → (⟨S32x1024x256, .f32⟩ : BufTy).Contents (Elt F) → (⟨S32x1024x256, .f32⟩ : BufTy).Contents (Elt F)) ]

theorem subF : (stF (F := Ideal)).Forall fun op => op.bufs ⊆ StableHlo.tcRefs τ sig := by simp [stF, StableHlo.TRef.nullary, StableHlo.TRef.unary, StableHlo.TRef.binary, StableHlo.TRef.ternary]
theorem freshF : ∀ op ∈ stF (F := Ideal), op.fresh = ∅ := by
  intro _ h; (repeat (cases h with | head => rfl | tail _ h => ?_)); exact nomatch h

/-- They write these buffers, and no other. -/
abbrev wrF : List (Ref sig .tc) := [main_v19, main_v20, main_cst_2, main_v21, main_cst_3, main_v22, main_v23, main_v24, main_cst_4, main_v25, main_cst_5, main_v26, main_cst_6, main_v27, main_v28, main_v29, main_v30]
theorem keepF (V : Valuation τ sig (Elt Ideal)) {r : Ref sig .tc} (hr : r ∉ wrF) : StableHlo.after stF V (Proc.devRef .tc r) = V (Proc.devRef .tc r) :=
  StableHlo.after_of_writes_sub stF V (StableHlo.forall_writes_sub_of_map rfl) hr

/-- The operations of the perplexity. -/
abbrev stG {F : FTy → Type} [FloatOps F] : List (HloOp τ sig (Elt F)) :=
  [ StableHlo.nullary main_cst_7 (constant S_ .f32 0x00000000#32),
    StableHlo.binary main_v15 main_cst_7 main_v31 ((fun x v => Host.reduceAdd x v reducesTo_S32768x256_S256_d0 h_S_) : (⟨S32768x256, .f32⟩ : BufTy).Contents (Elt F) → (⟨S_, .f32⟩ : BufTy).Contents (Elt F) → (⟨S256, .f32⟩ : BufTy).Contents (Elt F)),
    StableHlo.nullary main_cst_8 (constant S_ .f32 0x47000000#32),
    StableHlo.unary main_cst_8 main_v32 (broadcastInDim S256 ![] bcast_S_S256 : (⟨S_, .f32⟩ : BufTy).Contents (Elt F) → (⟨S256, .f32⟩ : BufTy).Contents (Elt F)),
    StableHlo.binary main_v31 main_v32 main_v33 (Host.divf : (⟨S256, .f32⟩ : BufTy).Contents (Elt F) → (⟨S256, .f32⟩ : BufTy).Contents (Elt F) → (⟨S256, .f32⟩ : BufTy).Contents (Elt F)),
    StableHlo.nullary main_cst_9 (constant S_ .f32 0x2EDBE6FF#32),
    StableHlo.unary main_cst_9 main_v34 (broadcastInDim S256 ![] bcast_S_S256 : (⟨S_, .f32⟩ : BufTy).Contents (Elt F) → (⟨S256, .f32⟩ : BufTy).Contents (Elt F)),
    StableHlo.binary main_v33 main_v34 main_v35 (addf : (⟨S256, .f32⟩ : BufTy).Contents (Elt F) → (⟨S256, .f32⟩ : BufTy).Contents (Elt F) → (⟨S256, .f32⟩ : BufTy).Contents (Elt F)),
    StableHlo.unary main_v35 main_v36 (Host.log : (⟨S256, .f32⟩ : BufTy).Contents (Elt F) → (⟨S256, .f32⟩ : BufTy).Contents (Elt F)),
    StableHlo.binary main_v33 main_v36 main_v37 (mulf : (⟨S256, .f32⟩ : BufTy).Contents (Elt F) → (⟨S256, .f32⟩ : BufTy).Contents (Elt F) → (⟨S256, .f32⟩ : BufTy).Contents (Elt F)),
    StableHlo.nullary main_cst_10 (constant S_ .f32 0x00000000#32),
    StableHlo.binary main_v37 main_cst_10 main_v38 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.unary main_v38 main_v39 (Host.negf : (⟨S_, .f32⟩ : BufTy).Contents (Elt F) → (⟨S_, .f32⟩ : BufTy).Contents (Elt F)),
    StableHlo.unary main_v39 main_v40 (Host.exp : (⟨S_, .f32⟩ : BufTy).Contents (Elt F) → (⟨S_, .f32⟩ : BufTy).Contents (Elt F)) ]

theorem subG : (stG (F := Ideal)).Forall fun op => op.bufs ⊆ StableHlo.tcRefs τ sig := by simp [stG, StableHlo.TRef.nullary, StableHlo.TRef.unary, StableHlo.TRef.binary, StableHlo.TRef.ternary]
theorem freshG : ∀ op ∈ stG (F := Ideal), op.fresh = ∅ := by
  intro _ h; (repeat (cases h with | head => rfl | tail _ h => ?_)); exact nomatch h

/-- They write these buffers, and no other. -/
abbrev wrG : List (Ref sig .tc) := [main_cst_7, main_v31, main_cst_8, main_v32, main_v33, main_cst_9, main_v34, main_v35, main_v36, main_v37, main_cst_10, main_v38, main_v39, main_v40]
theorem keepG (V : Valuation τ sig (Elt Ideal)) {r : Ref sig .tc} (hr : r ∉ wrG) : StableHlo.after stG V (Proc.devRef .tc r) = V (Proc.devRef .tc r) :=
  StableHlo.after_of_writes_sub stG V (StableHlo.forall_writes_sub_of_map rfl) hr

theorem atA_v13 (V : Valuation τ sig (Elt Ideal)) : StableHlo.after stA V (Proc.devRef .tc main_v13) = dist (V (Proc.devRef .tc main_arg1)) (flat (V (Proc.devRef .tc main_arg0))) := by
  after_results
  all_goals rfl

theorem atB_v14 (V : Valuation τ sig (Elt Ideal)) : StableHlo.after stB V (Proc.devRef .tc main_v14) = idx (V (Proc.devRef .tc main_v13)) := by
  after_results
  all_goals rfl

theorem atC_v15 (V : Valuation τ sig (Elt Ideal)) : StableHlo.after stC V (Proc.devRef .tc main_v15) = enc (V (Proc.devRef .tc main_v14)) := by
  after_results
  all_goals rfl

theorem atD_v16 (V : Valuation τ sig (Elt Ideal)) : StableHlo.after stD V (Proc.devRef .tc main_v16) = shapeCast S32x1024 (V (Proc.devRef .tc main_v14)) shapeCasts_S32768_S32x1024 := by
  after_results
  all_goals rfl

theorem atD_v17 (V : Valuation τ sig (Elt Ideal)) : StableHlo.after stD V (Proc.devRef .tc main_v17) = transpose S256x256 [1, 0] (V (Proc.devRef .tc main_arg1)) transposes_S256x256_S256x256_1_0 := by
  after_results
  all_goals rfl

theorem atI_call2_v5 (V : Valuation τ sig (Elt Ideal)) : StableHlo.after stI V (Proc.devRef .tc main_call2_v5) = rows (V (Proc.devRef .tc main_v16)) := by
  after_results
  all_goals rfl

theorem atJ_call2_v12 (V : Valuation τ sig (Elt Ideal)) : StableHlo.after stJ V (Proc.devRef .tc main_call2_v12) = inside (V (Proc.devRef .tc main_call2_v5)) := by
  after_results
  simp only [StableHlo.TRef.ofBuf_toBuf]
  refine Eq.trans (cast_eq (α := (main_call2_v12).ty.Contents (Elt Ideal)) rfl _) ?_
  refine congrArg (fun z => Host.reduce IntOp.andi z (constantI S_ 1 1#1) reducesTo_S32x1024x1_S32x1024_d2 h_S_) ?_
  exact congrArg₂ andi rfl rfl

theorem atE_v18 (V : Valuation τ sig (Elt Ideal)) : StableHlo.after stE V (Proc.devRef .tc main_v18) = pick (V (Proc.devRef .tc main_v17)) (V (Proc.devRef .tc main_call2_v5)) (V (Proc.devRef .tc main_call2_v12)) := by
  after_results
  all_goals rfl

theorem atF_v28 (V : Valuation τ sig (Elt Ideal)) : StableHlo.after stF V (Proc.devRef .tc main_v28) = loss (V (Proc.devRef .tc main_arg0)) (V (Proc.devRef .tc main_v18)) := by
  after_results
  all_goals rfl

theorem atF_v30 (V : Valuation τ sig (Elt Ideal)) : StableHlo.after stF V (Proc.devRef .tc main_v30) = straight (V (Proc.devRef .tc main_arg0)) (V (Proc.devRef .tc main_v18)) := by
  after_results
  all_goals rfl

theorem atG_v40 (V : Valuation τ sig (Elt Ideal)) : StableHlo.after stG V (Proc.devRef .tc main_v40) = perp (share (V (Proc.devRef .tc main_v15))) := by
  after_results
  all_goals rfl

/-- The whole line. -/
abbrev line : List (HloOp τ sig (Elt Ideal)) := stA ++ (stB ++ (stC ++ (stD ++ (stI ++ (stJ ++ (stE ++ (stF ++ stG)))))))

theorem line_seq (d : Dev nD) : StableHlo.IsSeq (main (F := Ideal) d) line := by
  have h : ∃ ops, StableHlo.IsSeq (main (F := Ideal) d) ops ∧ ops = line := ⟨_, by hlo_seq, rfl⟩
  obtain ⟨ops, h, rfl⟩ := h
  exact h

/-- The reference's run leaves these. -/
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v30) = straight (m ((c.tc : Thread nD τ).loc main_arg0)) (takeOf (m ((c.tc : Thread nD τ).loc main_arg0)) (m ((c.tc : Thread nD τ).loc main_arg1)))
      ∧ r.2.mem ((c.tc : Thread nD τ).loc main_v28) = loss (m ((c.tc : Thread nD τ).loc main_arg0)) (takeOf (m ((c.tc : Thread nD τ).loc main_arg0)) (m ((c.tc : Thread nD τ).loc main_arg1)))
      ∧ r.2.mem ((c.tc : Thread nD τ).loc main_v40) = perp (share (encOf (m ((c.tc : Thread nD τ).loc main_arg0)) (m ((c.tc : Thread nD τ).loc main_arg1))))
      ∧ r.2.mem ((c.tc : Thread nD τ).loc main_v15) = encOf (m ((c.tc : Thread nD τ).loc main_arg0)) (m ((c.tc : Thread nD τ).loc main_arg1))
      ∧ r.2.mem ((c.tc : Thread nD τ).loc main_v16) = idx2 (m ((c.tc : Thread nD τ).loc main_arg0)) (m ((c.tc : Thread nD τ).loc main_arg1))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))) := by
  refine θ_run_mono (StableHlo.run_hlo _ _ line_seq (by decide) (by decide) (by simpa only [line, List.forall_append] using ⟨subA, subB, subC, subD, subI, subJ, subE, subF, subG⟩)
      (fun op h => by
        simp only [line, List.mem_append] at h
        exact h.elim (freshA op) fun h => h.elim (freshB op) fun h => h.elim (freshC op) fun h => h.elim (freshD op) fun h => h.elim (freshI op) fun h => h.elim (freshJ op) fun h => h.elim (freshE op) fun h => h.elim (freshF op) (freshG op)) m g) ?_
  intro r hr c
  have h := fun b => hr c b
  simp only [line, StableHlo.after_append] at h
  have kA : ∀ {r : Ref sig .tc} (hr : r ∉ wrA), StableHlo.after stA (StableHlo.launchContents m c) (Proc.devRef .tc r) = m ((c.tc : Thread nD τ).loc r) := fun hr => keepA _ hr
  have hi : StableHlo.after stB (StableHlo.after stA (StableHlo.launchContents m c)) (Proc.devRef .tc main_v14) = idxOf (m ((c.tc : Thread nD τ).loc main_arg0)) (m ((c.tc : Thread nD τ).loc main_arg1)) := by
    rw [atB_v14, atA_v13]
  have hq : StableHlo.after stE (StableHlo.after stJ (StableHlo.after stI (StableHlo.after stD (StableHlo.after stC (StableHlo.after stB (StableHlo.after stA (StableHlo.launchContents m c))))))) (Proc.devRef .tc main_v18) = takeOf (m ((c.tc : Thread nD τ).loc main_arg0)) (m ((c.tc : Thread nD τ).loc main_arg1)) := by
    rw [atE_v18, atJ_call2_v12, keepJ _ (r := main_v17) (by decide), keepJ _ (r := main_call2_v5) (by decide), atI_call2_v5, keepI _ (r := main_v17) (by decide), atD_v16, atD_v17, keepC _ (r := main_v14) (by decide), keepC _ (r := main_arg1) (by decide), hi, keepB _ (r := main_arg1) (by decide), kA (r := main_arg1) (by decide)]; rfl
  refine ⟨?_, ?_, ?_, ?_, ?_, ?_, ?_, ?_⟩
  · rw [h, keepG _ (by decide), atF_v30, keepE _ (r := main_arg0) (by decide), keepJ _ (r := main_arg0) (by decide), keepI _ (r := main_arg0) (by decide), keepD _ (r := main_arg0) (by decide), keepC _ (r := main_arg0) (by decide), keepB _ (r := main_arg0) (by decide), kA (r := main_arg0) (by decide), hq]
  · rw [h, keepG _ (by decide), atF_v28, keepE _ (r := main_arg0) (by decide), keepJ _ (r := main_arg0) (by decide), keepI _ (r := main_arg0) (by decide), keepD _ (r := main_arg0) (by decide), keepC _ (r := main_arg0) (by decide), keepB _ (r := main_arg0) (by decide), kA (r := main_arg0) (by decide), hq]
  · rw [h, atG_v40, keepF _ (by decide), keepE _ (by decide), keepJ _ (by decide), keepI _ (by decide), keepD _ (by decide), atC_v15, hi]
  · rw [h, keepG _ (by decide), keepF _ (by decide), keepE _ (by decide), keepJ _ (by decide), keepI _ (by decide), keepD _ (by decide), atC_v15, hi]
  · rw [h, keepG _ (by decide), keepF _ (by decide), keepE _ (by decide), keepJ _ (by decide), keepI _ (by decide), atD_v16, keepC _ (by decide), hi]
  · rw [h, keepG _ (by decide), keepF _ (by decide), keepE _ (by decide), keepJ _ (by decide), keepI _ (by decide), keepD _ (by decide), keepC _ (by decide), keepB _ (by decide), kA (by decide)]
  · rw [h, keepG _ (by decide), keepF _ (by decide), keepE _ (by decide), keepJ _ (by decide), keepI _ (by decide), keepD _ (by decide), keepC _ (by decide), keepB _ (by decide), kA (by decide)]
  · rw [h, keepG _ (by decide), keepF _ (by decide), keepE _ (by decide), keepJ _ (by decide), keepI _ (by decide), keepD _ (by decide), keepC _ (by decide), keepB _ (by decide), kA (by decide)]

end Cert.Proof.Ref
-- ==== Proof.Algebraic.lean ====
/-
  The value claim: at finite inputs the kernel's five results are the reference's.
-/
module

public import proofs.«01_k».proof.Defs
public import proofs.«01_k».proof.Proof.Pre
public import proofs.«01_k».proof.Proof.Equal
public import proofs.«01_k».proof.Proof.Ideal.RunValues
public import proofs.«01_k».proof.Proof.Ref.Run
public import Idealize.ShloMosaic.Lib.Claim

@[expose] public section

set_option maxRecDepth 16384

noncomputable section

namespace Cert.Proof

open Idealize.ShloMosaic Idealize.SL.Sem Cert

section
variable (m : (ℓ : Loc KernelIdeal.nD KernelIdeal.τ KernelIdeal.sig) → Buf (Elt Ideal) ℓ) (c : Dev KernelIdeal.nD)
  (x : FVec Ideal ⟨3, ![32, 1024, 256]⟩ .f32) (w : FVec Ideal ⟨2, ![256, 256]⟩ .f32)

/-- The five results, each the reference's. -/
theorem qRes_eq (ex : x = Ideal.argX m c) (ew : w = Ideal.argW m c) (hx : ∀ i, x i ≠ (⊤ : EReal) ∧ x i ≠ (⊥ : EReal)) :
    Ref.straight x (Ref.takeOf x w) = Ideal.qRes m c := by
  subst ex ew
  exact (q_eq _ _ (Ref.flat _) (Ref.takeOf _ _) (take_eq _ (Ref.flat _) (Ref.idxOf _ _) (idxOf_at _ _) _) hx _ _).symm
theorem lossRes_eq (ex : x = Ideal.argX m c) (ew : w = Ideal.argW m c) (hx : ∀ i, x i ≠ (⊤ : EReal) ∧ x i ≠ (⊥ : EReal)) (hw : ∀ i, w i ≠ (⊤ : EReal) ∧ w i ≠ (⊥ : EReal)) :
    Ref.loss x (Ref.takeOf x w) = Ideal.lossRes m c := by
  subst ex ew
  exact (loss_eq _ _ (Ref.flat _) (Ref.takeOf _ _) _ (sse_eq _ _ (Ref.flat _) (flat_row _) (Ref.takeOf _ _) (take_eq _ (Ref.flat _) (Ref.idxOf _ _) (idxOf_at _ _) _) hx hw)).symm
theorem perpRes_eq (ex : x = Ideal.argX m c) (ew : w = Ideal.argW m c) : Ref.perp (Ref.share (Ref.encOf x w)) = Ideal.perpRes m c := by
  subst ex ew
  exact (perp_eq _ (Ref.flat _) _ (Ref.encOf _ _) (enc_eq _ (Ref.flat _) (Ref.idxOf _ _) (idxOf_at _ _))).symm
theorem eRes_eq (ex : x = Ideal.argX m c) (ew : w = Ideal.argW m c) : Ref.encOf x w = Ideal.eRes m c := by
  subst ex ew
  exact (enc_eq _ (Ref.flat _) (Ref.idxOf _ _) (idxOf_at _ _)).symm
theorem iRes_eq (ex : x = Ideal.argX m c) (ew : w = Ideal.argW m c) : Ref.idx2 x w = Ideal.iRes m c := by
  subst ex ew
  exact (idx_eq _ (Ref.flat _) (Ref.idxOf _ _) (idxOf_at _ _) _ _).symm
end

theorem algebraic : Cert.algebraic_KernelIdeal_ReferenceIdeal_pre_finite := by
  intro m g m' g' hp ha
  refine ⟨Ideal.qRes m, Ideal.lossRes m, Ideal.perpRes m, Ideal.eRes m, Ideal.iRes m, ?_, ?_⟩
  · refine θ_run_mono (θ_run_and (Ideal.run_results m g) (Ideal.frame_run m g)) fun r h c => ?_
    obtain ⟨h0, h1, h2, h3, h4⟩ := h.1 c
    exact ⟨h0, h1, h2, h3, h4, h.2.1 c⟩
  · refine θ_run_mono (Ref.run_results m' g') fun r h c => ?_
    obtain ⟨h0, h1, h2, h3, h4, h5⟩ := h c
    obtain ⟨hx, hw⟩ := Pre.decode _ _ _ (hp c)
    obtain ⟨ex, ew, -⟩ := ha c
    exact ⟨h0.trans (qRes_eq m c _ _ ex ew (fun i => by rw [ex]; exact hx i)),
      h1.trans (lossRes_eq m c _ _ ex ew (fun i => by rw [ex]; exact hx i) (fun i => by rw [ew]; exact hw i)),
      h2.trans (perpRes_eq m c _ _ ex ew), h3.trans (eRes_eq m c _ _ ex ew), h4.trans (iRes_eq m c _ _ ex ew), h5⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Pre.facts,
  frame_Kernel, frame_KernelIdeal, frame_KernelIdeal_pre, frame_ReferenceIdeal, frame_ReferenceIdeal_pre, trivial, algebraic⟩

end Cert.Proof

end
